-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumReferenceIdeal (m : (ℓ : Loc Cert.SumReferenceIdeal.nD Cert.SumReferenceIdeal.τ Cert.SumReferenceIdeal.sig) → Buf (Elt Ideal) ℓ) : Prop :=
  True

def Pre_Bin (m : (ℓ : Loc Cert.Bin.nD Cert.Bin.τ Cert.Bin.sig) → Buf (Elt Bits) ℓ) : Prop :=
  True

def Pre_BinIdeal (m : (ℓ : Loc Cert.BinIdeal.nD Cert.BinIdeal.τ Cert.BinIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ r.2.sem = fun _ => 0)

def quiescent_SumReferenceIdeal [hSumReferenceIdeal : Cert.SumReferenceIdeal.Facts] : Prop :=
  ∀ (m : (ℓ : Loc Cert.SumReferenceIdeal.nD Cert.SumReferenceIdeal.τ Cert.SumReferenceIdeal.sig) → Buf (Elt Ideal) ℓ) (g : Dev Cert.SumReferenceIdeal.nD → PrngReg), Pre_SumReferenceIdeal m →
    θ_run (Cert.SumReferenceIdeal.defs (F := Ideal)) (onTc (τ := Cert.SumReferenceIdeal.τ) (Cert.SumReferenceIdeal.main (F := Ideal))) ⟨m, fun _ => 0, g⟩ (fun r => (∀ c : Dev Cert.SumReferenceIdeal.nD,
      r.2.mem ((c.tc : Thread Cert.SumReferenceIdeal.nD Cert.SumReferenceIdeal.τ).loc Cert.SumReferenceIdeal.main_arg0) = m ((c.tc : Thread Cert.SumReferenceIdeal.nD Cert.SumReferenceIdeal.τ).loc Cert.SumReferenceIdeal.main_arg0))
      ∧ r.2.sem = fun _ => 0)

def quiescent_Bin [hBin : Cert.Bin.Facts] : Prop :=
  ∀ (m : (ℓ : Loc Cert.Bin.nD Cert.Bin.τ Cert.Bin.sig) → Buf (Elt Bits) ℓ) (g : Dev Cert.Bin.nD → PrngReg), Pre_Bin m →
    θ_run (Cert.Bin.defs (F := Bits)) (Cert.Bin.threads (F := Bits)) ⟨m, fun _ => 0, g⟩ (fun r => (∀ c : Dev Cert.Bin.nD,
      r.2.mem ((c.tc : Thread Cert.Bin.nD Cert.Bin.τ).loc Cert.Bin.main_arg0) = m ((c.tc : Thread Cert.Bin.nD Cert.Bin.τ).loc Cert.Bin.main_arg0)
      ∧ r.2.mem ((c.tc : Thread Cert.Bin.nD Cert.Bin.τ).loc Cert.Bin.main_arg1) = m ((c.tc : Thread Cert.Bin.nD Cert.Bin.τ).loc Cert.Bin.main_arg1))
      ∧ r.2.sem = fun _ => 0)

def quiescent_BinIdeal [hBinIdeal : Cert.BinIdeal.Facts] : Prop :=
  ∀ (m : (ℓ : Loc Cert.BinIdeal.nD Cert.BinIdeal.τ Cert.BinIdeal.sig) → Buf (Elt Ideal) ℓ) (g : Dev Cert.BinIdeal.nD → PrngReg), Pre_BinIdeal m →
    θ_run (Cert.BinIdeal.defs (F := Ideal)) (Cert.BinIdeal.threads (F := Ideal)) ⟨m, fun _ => 0, g⟩ (fun r => (∀ c : Dev Cert.BinIdeal.nD,
      r.2.mem ((c.tc : Thread Cert.BinIdeal.nD Cert.BinIdeal.τ).loc Cert.BinIdeal.main_arg0) = m ((c.tc : Thread Cert.BinIdeal.nD Cert.BinIdeal.τ).loc Cert.BinIdeal.main_arg0)
      ∧ r.2.mem ((c.tc : Thread Cert.BinIdeal.nD Cert.BinIdeal.τ).loc Cert.BinIdeal.main_arg1) = m ((c.tc : Thread Cert.BinIdeal.nD Cert.BinIdeal.τ).loc Cert.BinIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Sum_SumIdeal : Prop :=
  True

def algebraic_SumIdeal_SumReferenceIdeal [hSumIdeal : Cert.SumIdeal.Facts] [hSumReferenceIdeal : Cert.SumReferenceIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumReferenceIdeal.nD Cert.SumReferenceIdeal.τ Cert.SumReferenceIdeal.sig) → Buf (Elt Ideal) ℓ) (g' : Dev Cert.SumReferenceIdeal.nD → PrngReg), Pre_SumIdeal m →
    (∀ c : Dev Cert.SumIdeal.nD,
      m' ((c.tc : Thread Cert.SumReferenceIdeal.nD Cert.SumReferenceIdeal.τ).loc Cert.SumReferenceIdeal.main_arg0) = m ((c.tc : Thread Cert.SumIdeal.nD Cert.SumIdeal.τ).loc Cert.SumIdeal.main_arg0)) →
    ∃ (v0 : (c : Dev Cert.SumIdeal.nD) → Buf (Elt Ideal) ((c.tc : Thread Cert.SumIdeal.nD Cert.SumIdeal.τ).loc Cert.SumIdeal.main_v0)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v0) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0))
      ∧ θ_run (Cert.SumReferenceIdeal.defs (F := Ideal)) (onTc (τ := Cert.SumReferenceIdeal.τ) (Cert.SumReferenceIdeal.main (F := Ideal))) ⟨m', fun _ => 0, g'⟩ (fun r => ∀ c : Dev Cert.SumReferenceIdeal.nD,
          r.2.mem ((c.tc : Thread Cert.SumReferenceIdeal.nD Cert.SumReferenceIdeal.τ).loc Cert.SumReferenceIdeal.main_v0) = v0 c
          ∧ r.2.mem ((c.tc : Thread Cert.SumReferenceIdeal.nD Cert.SumReferenceIdeal.τ).loc Cert.SumReferenceIdeal.main_arg0) = m' ((c.tc : Thread Cert.SumReferenceIdeal.nD Cert.SumReferenceIdeal.τ).loc Cert.SumReferenceIdeal.main_arg0))

def preserves_Bin_BinIdeal : Prop :=
  True

def Claim : Prop :=
  ∃ (hKernel : Cert.Kernel.Facts) (hKernelIdeal : Cert.KernelIdeal.Facts) (hReferenceIdeal : Cert.ReferenceIdeal.Facts) (hSum : Cert.Sum.Facts) (hSumIdeal : Cert.SumIdeal.Facts) (hSumReferenceIdeal : Cert.SumReferenceIdeal.Facts) (hBin : Cert.Bin.Facts) (hBinIdeal : Cert.BinIdeal.Facts),
    quiescent_Kernel (hKernel := hKernel)
    ∧ quiescent_KernelIdeal (hKernelIdeal := hKernelIdeal)
    ∧ quiescent_ReferenceIdeal (hReferenceIdeal := hReferenceIdeal)
    ∧ quiescent_Sum (hSum := hSum)
    ∧ quiescent_SumIdeal (hSumIdeal := hSumIdeal)
    ∧ quiescent_SumReferenceIdeal (hSumReferenceIdeal := hSumReferenceIdeal)
    ∧ quiescent_Bin (hBin := hBin)
    ∧ quiescent_BinIdeal (hBinIdeal := hBinIdeal)
    ∧ preserves_Kernel_KernelIdeal
    ∧ algebraic_KernelIdeal_ReferenceIdeal (hKernelIdeal := hKernelIdeal) (hReferenceIdeal := hReferenceIdeal)
    ∧ preserves_Sum_SumIdeal
    ∧ algebraic_SumIdeal_SumReferenceIdeal (hSumIdeal := hSumIdeal) (hSumReferenceIdeal := hSumReferenceIdeal)
    ∧ preserves_Bin_BinIdeal
-- ==== Kernel.lean ====
abbrev S5x128x1536 : Shape := ⟨3, ![5, 128, 1536]⟩
abbrev S5x128x8960 : Shape := ⟨3, ![5, 128, 8960]⟩
abbrev S5x128 : Shape := ⟨2, ![5, 128]⟩
abbrev S2x8960x192 : Shape := ⟨3, ![2, 8960, 192]⟩
abbrev S2x256x8 : Shape := ⟨3, ![2, 256, 8]⟩
abbrev S8960 : Shape := ⟨1, ![8960]⟩
abbrev S640x6x8x4x8 : Shape := ⟨5, ![640, 6, 8, 4, 8]⟩
abbrev S6x8x4x8x640 : Shape := ⟨5, ![6, 8, 4, 8, 640]⟩
abbrev S1536x640 : Shape := ⟨2, ![1536, 640]⟩
abbrev S640x8960 : Shape := ⟨2, ![640, 8960]⟩
abbrev S640x1 : Shape := ⟨2, ![640, 1]⟩
abbrev S2x192x8960 : Shape := ⟨3, ![2, 192, 8960]⟩
abbrev S2x256x4x2 : Shape := ⟨4, ![2, 256, 4, 2]⟩
abbrev S2x256x4 : Shape := ⟨3, ![2, 256, 4]⟩
abbrev S2x4x256 : Shape := ⟨3, ![2, 4, 256]⟩
abbrev S16x128 : Shape := ⟨2, ![16, 128]⟩
abbrev S1x8960 : Shape := ⟨2, ![1, 8960]⟩
abbrev S70x1536x128 : Shape := ⟨3, ![70, 1536, 128]⟩
abbrev S70x6x2x8x128 : Shape := ⟨5, ![70, 6, 2, 8, 128]⟩
abbrev S640x640 : Shape := ⟨2, ![640, 640]⟩
abbrev S2x192x640 : Shape := ⟨3, ![2, 192, 640]⟩
abbrev S1x640 : Shape := ⟨2, ![1, 640]⟩
abbrev S5x1536x128 : Shape := ⟨3, ![5, 1536, 128]⟩
abbrev S5x6x2x8x128 : Shape := ⟨5, ![5, 6, 2, 8, 128]⟩
abbrev S1x128 : Shape := ⟨2, ![1, 128]⟩
abbrev S8x128 : Shape := ⟨2, ![8, 128]⟩
abbrev S1x32x128 : Shape := ⟨3, ![1, 32, 128]⟩
abbrev S32x128 : Shape := ⟨2, ![32, 128]⟩
abbrev S1x1x1x8x128 : Shape := ⟨5, ![1, 1, 1, 8, 128]⟩
abbrev S8x128x1 : Shape := ⟨3, ![8, 128, 1]⟩
abbrev S1x8x128 : Shape := ⟨3, ![1, 8, 128]⟩
abbrev S128 : Shape := ⟨1, ![128]⟩

abbrev nBuf : Space → Nat
  | .hbm => 20
  | .vmem => 16
  | .smem => 0
  | _ => 0

abbrev bufTy : (tb : Table) → Fin (tcTables nBuf tb) → BufTy
  | .hbm, ⟨0, _⟩ => ⟨S5x128x1536, .bf16⟩
  | .hbm, ⟨1, _⟩ => ⟨S5x128x8960, .fp8e5m2⟩
  | .hbm, ⟨2, _⟩ => ⟨S5x128, .f32⟩
  | .hbm, ⟨3, _⟩ => ⟨S2x8960x192, .i8⟩
  | .hbm, ⟨4, _⟩ => ⟨S2x256x8, .i16⟩
  | .hbm, ⟨5, _⟩ => ⟨S8960, .f32⟩
  | .hbm, ⟨6, _⟩ => ⟨S640x6x8x4x8, .bf16⟩
  | .hbm, ⟨7, _⟩ => ⟨S6x8x4x8x640, .bf16⟩
  | .hbm, ⟨8, _⟩ => ⟨S1536x640, .bf16⟩
  | .hbm, ⟨9, _⟩ => ⟨S640x8960, .fp8e5m2⟩
  | .hbm, ⟨10, _⟩ => ⟨S640x1, .f32⟩
  | .hbm, ⟨11, _⟩ => ⟨S2x192x8960, .i8⟩
  | .hbm, ⟨12, _⟩ => ⟨S2x256x4x2, .i16⟩
  | .hbm, ⟨13, _⟩ => ⟨S2x256x4, .i32⟩
  | .hbm, ⟨14, _⟩ => ⟨S2x4x256, .i32⟩
  | .hbm, ⟨15, _⟩ => ⟨S16x128, .i32⟩
  | .hbm, ⟨16, _⟩ => ⟨S1x8960, .f32⟩
  | .hbm, ⟨17, _⟩ => ⟨S70x1536x128, .f32⟩
  | .hbm, ⟨18, _⟩ => ⟨S70x6x2x8x128, .i32⟩
  | .hbm, ⟨19, _⟩ => ⟨S1x8960, .f32⟩
  | .local _ .vmem, ⟨0, _⟩ => ⟨S1536x640, .bf16⟩
  | .local _ .vmem, ⟨1, _⟩ => ⟨S640x640, .fp8e5m2⟩
  | .local _ .vmem, ⟨2, _⟩ => ⟨S640x640, .fp8e5m2⟩
  | .local _ .vmem, ⟨3, _⟩ => ⟨S640x1, .f32⟩
  | .local _ .vmem, ⟨4, _⟩ => ⟨S2x192x640, .i8⟩
  | .local _ .vmem, ⟨5, _⟩ => ⟨S2x192x640, .i8⟩
  | .local _ .vmem, ⟨6, _⟩ => ⟨S16x128, .i32⟩
  | .local _ .vmem, ⟨7, _⟩ => ⟨S1x640, .f32⟩
  | .local _ .vmem, ⟨8, _⟩ => ⟨S1x640, .f32⟩
  | .local _ .vmem, ⟨9, _⟩ => ⟨S5x1536x128, .f32⟩
  | .local _ .vmem, ⟨10, _⟩ => ⟨S5x1536x128, .f32⟩
  | .local _ .vmem, ⟨11, _⟩ => ⟨S5x6x2x8x128, .i32⟩
  | .local _ .vmem, ⟨12, _⟩ => ⟨S5x6x2x8x128, .i32⟩
  | .local _ .vmem, ⟨13, _⟩ => ⟨S1x640, .f32⟩
  | .local _ .vmem, ⟨14, _⟩ => ⟨S1x640, .f32⟩
  | .local _ .vmem, ⟨15, _⟩ => ⟨S1536x640, .f32⟩
  | _, _ => ⟨S5x128x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v11_2 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![14], ![false]⟩

@[reducible] def k0_t1_loop : Scf.Loop 32 :=
  let c0_i32 : BitVec 32 := 0#32
  let c6_i32 : BitVec 32 := 6#32
  let v19 : BitVec 32 := Scalar.addi c0_i32 c6_i32
  let c1_i32 : BitVec 32 := 1#32
  ⟨c0_i32, v19, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c32_i32 : BitVec 32 := 32#32
  let v64 : BitVec 32 := Scalar.muli arg11 c32_i32
  v64
def k0_off1 (k0_t1 : Fin k0_t1_loop.trips) : Fin 3 → Nat :=
  let c0_50 : Index := 0#32
  let c0_i32 : BitVec 32 := 0#32
  let c1_i32 : BitVec 32 := 1#32
  let arg11 : BitVec 32 := Scf.iv c0_i32 c1_i32 k0_t1
  let c32_i32 : BitVec 32 := 32#32
  let v64 : BitVec 32 := Scalar.muli arg11 c32_i32
  let v65 : BitVec 32 := v64
  let v66 : Index := Scalar.indexCast v65
  let c0_51 : Index := 0#32
  ![0, v66.toNat, 0]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c32_i32_52 : BitVec 32 := 32#32
  let v70 : BitVec 32 := Scalar.muli arg11 c32_i32_52
  v70
def k0_off2 (k0_t1 : Fin k0_t1_loop.trips) : Fin 3 → Nat :=
  let c1 : Index := 1#32
  let c0_i32 : BitVec 32 := 0#32
  let c1_i32 : BitVec 32 := 1#32
  let arg11 : BitVec 32 := Scf.iv c0_i32 c1_i32 k0_t1
  let c32_i32_52 : BitVec 32 := 32#32
  let v70 : BitVec 32 := Scalar.muli arg11 c32_i32_52
  let v71 : BitVec 32 := v70
  let v72 : Index := Scalar.indexCast v71
  let c0_53 : Index := 0#32
  ![1, v72.toNat, 0]
def k0_off3 (k0_t1 : Fin k0_t1_loop.trips) : Fin 5 → Nat :=
  let c0_54 : Index := 0#32
  let c0_i32 : BitVec 32 := 0#32
  let c1_i32 : BitVec 32 := 1#32
  let arg11 : BitVec 32 := Scf.iv c0_i32 c1_i32 k0_t1
  let v76 : Index := Scalar.indexCast arg11
  let c0_55 : Index := 0#32
  let c0_56 : Index := 0#32
  let c0_57 : Index := 0#32
  ![0, v76.toNat, 0, 0, 0]
def k0_off4 (k0_t1 : Fin k0_t1_loop.trips) : Fin 5 → Nat :=
  let c0_58 : Index := 0#32
  let c0_i32 : BitVec 32 := 0#32
  let c1_i32 : BitVec 32 := 1#32
  let arg11 : BitVec 32 := Scf.iv c0_i32 c1_i32 k0_t1
  let v80 : Index := Scalar.indexCast arg11
  let c1_59 : Index := 1#32
  let c0_60 : Index := 0#32
  let c0_61 : Index := 0#32
  ![0, v80.toNat, 1, 0, 0]
def k0_mult3 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v168 : BitVec 32 := Scalar.muli arg11 c256_i32
  v168
def k0_off5 (k0_t1 : Fin k0_t1_loop.trips) (c0_i32_86 : BitVec 32) : Fin 2 → Nat :=
  let c0_i32 : BitVec 32 := 0#32
  let c1_i32 : BitVec 32 := 1#32
  let arg11 : BitVec 32 := Scf.iv c0_i32 c1_i32 k0_t1
  let c256_i32 : BitVec 32 := 256#32
  let v168 : BitVec 32 := Scalar.muli arg11 c256_i32
  let v169 : BitVec 32 := v168
  let v170 : BitVec 32 := Scalar.addi v169 c0_i32_86
  let v171 : Index := Scalar.indexCast v170
  let c0_87 : Index := 0#32
  ![v171.toNat, 0]
def k0_off6 (k0_t1 : Fin k0_t1_loop.trips) (c0_i32_86 : BitVec 32) : Fin 3 → Nat :=
  let c0_88 : Index := 0#32
  let c0_i32 : BitVec 32 := 0#32
  let c1_i32 : BitVec 32 := 1#32
  let arg11 : BitVec 32 := Scf.iv c0_i32 c1_i32 k0_t1
  let c256_i32 : BitVec 32 := 256#32
  let v168 : BitVec 32 := Scalar.muli arg11 c256_i32
  let v169 : BitVec 32 := v168
  let v170 : BitVec 32 := Scalar.addi v169 c0_i32_86
  let v174 : Index := Scalar.indexCast v170
  let c0_89 : Index := 0#32
  ![0, v174.toNat, 0]
def k0_mult4 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_90 : BitVec 32 := 256#32
  let v180 : BitVec 32 := Scalar.muli arg11 c256_i32_90
  v180
def k0_mult5 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_113 : BitVec 32 := 256#32
  let v260 : BitVec 32 := Scalar.muli arg11 c256_i32_113
  v260
def k0_mult6 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_117 : BitVec 32 := 256#32
  let v272 : BitVec 32 := Scalar.muli arg11 c256_i32_117
  v272
def k0_mult7 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_139 : BitVec 32 := 256#32
  let v352 : BitVec 32 := Scalar.muli arg11 c256_i32_139
  v352
def k0_mult8 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_144 : BitVec 32 := 256#32
  let v364 : BitVec 32 := Scalar.muli arg11 c256_i32_144
  v364
def k0_mult9 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_166 : BitVec 32 := 256#32
  let v444 : BitVec 32 := Scalar.muli arg11 c256_i32_166
  v444
def k0_mult10 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_170 : BitVec 32 := 256#32
  let v456 : BitVec 32 := Scalar.muli arg11 c256_i32_170
  v456
def k0_mult11 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_203 : BitVec 32 := 256#32
  let v552 : BitVec 32 := Scalar.muli arg11 c256_i32_203
  v552
def k0_mult12 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_208 : BitVec 32 := 256#32
  let v564 : BitVec 32 := Scalar.muli arg11 c256_i32_208
  v564
def k0_mult13 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_234 : BitVec 32 := 256#32
  let v644 : BitVec 32 := Scalar.muli arg11 c256_i32_234
  v644
def k0_mult14 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_238 : BitVec 32 := 256#32
  let v656 : BitVec 32 := Scalar.muli arg11 c256_i32_238
  v656
def k0_mult15 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_264 : BitVec 32 := 256#32
  let v736 : BitVec 32 := Scalar.muli arg11 c256_i32_264
  v736
def k0_mult16 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_268 : BitVec 32 := 256#32
  let v748 : BitVec 32 := Scalar.muli arg11 c256_i32_268
  v748
def k0_mult17 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_294 : BitVec 32 := 256#32
  let v828 : BitVec 32 := Scalar.muli arg11 c256_i32_294
  v828
def k0_mult18 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_298 : BitVec 32 := 256#32
  let v840 : BitVec 32 := Scalar.muli arg11 c256_i32_298
  v840
def k0_mult19 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_332 : BitVec 32 := 256#32
  let v936 : BitVec 32 := Scalar.muli arg11 c256_i32_332
  v936
def k0_mult20 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_337 : BitVec 32 := 256#32
  let v948 : BitVec 32 := Scalar.muli arg11 c256_i32_337
  v948
def k0_mult21 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_363 : BitVec 32 := 256#32
  let v1028 : BitVec 32 := Scalar.muli arg11 c256_i32_363
  v1028
def k0_mult22 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_367 : BitVec 32 := 256#32
  let v1040 : BitVec 32 := Scalar.muli arg11 c256_i32_367
  v1040
def k0_mult23 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_393 : BitVec 32 := 256#32
  let v1120 : BitVec 32 := Scalar.muli arg11 c256_i32_393
  v1120
def k0_mult24 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_397 : BitVec 32 := 256#32
  let v1132 : BitVec 32 := Scalar.muli arg11 c256_i32_397
  v1132
def k0_mult25 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_423 : BitVec 32 := 256#32
  let v1212 : BitVec 32 := Scalar.muli arg11 c256_i32_423
  v1212
def k0_mult26 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_427 : BitVec 32 := 256#32
  let v1224 : BitVec 32 := Scalar.muli arg11 c256_i32_427
  v1224
def k0_mult27 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_460 : BitVec 32 := 256#32
  let v1320 : BitVec 32 := Scalar.muli arg11 c256_i32_460
  v1320
def k0_mult28 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_465 : BitVec 32 := 256#32
  let v1332 : BitVec 32 := Scalar.muli arg11 c256_i32_465
  v1332
def k0_mult29 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_491 : BitVec 32 := 256#32
  let v1412 : BitVec 32 := Scalar.muli arg11 c256_i32_491
  v1412
def k0_mult30 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_495 : BitVec 32 := 256#32
  let v1424 : BitVec 32 := Scalar.muli arg11 c256_i32_495
  v1424
def k0_mult31 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_521 : BitVec 32 := 256#32
  let v1504 : BitVec 32 := Scalar.muli arg11 c256_i32_521
  v1504
def k0_mult32 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_525 : BitVec 32 := 256#32
  let v1516 : BitVec 32 := Scalar.muli arg11 c256_i32_525
  v1516
def k0_mult33 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_551 : BitVec 32 := 256#32
  let v1596 : BitVec 32 := Scalar.muli arg11 c256_i32_551
  v1596
def k0_mult34 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_555 : BitVec 32 := 256#32
  let v1608 : BitVec 32 := Scalar.muli arg11 c256_i32_555
  v1608
@[reducible] def k0_t2_loop : Scf.Loop 32 :=
  let c0_i32_16 : BitVec 32 := 0#32
  let c6_i32_17 : BitVec 32 := 6#32
  let v29 : BitVec 32 := Scalar.addi c0_i32_16 c6_i32_17
  let c1_i32_18 : BitVec 32 := 1#32
  ⟨c0_i32_16, v29, c1_i32_18⟩
def k0_mult35 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c32_i32 : BitVec 32 := 32#32
  let v64 : BitVec 32 := Scalar.muli arg11 c32_i32
  v64
def k0_off7 (k0_t2 : Fin k0_t2_loop.trips) : Fin 3 → Nat :=
  let c0_50 : Index := 0#32
  let c0_i32_16 : BitVec 32 := 0#32
  let c1_i32_18 : BitVec 32 := 1#32
  let arg11 : BitVec 32 := Scf.iv c0_i32_16 c1_i32_18 k0_t2
  let c32_i32 : BitVec 32 := 32#32
  let v64 : BitVec 32 := Scalar.muli arg11 c32_i32
  let v65 : BitVec 32 := v64
  let v66 : Index := Scalar.indexCast v65
  let c128_51 : Index := 128#32
  ![0, v66.toNat, 128]
def k0_mult36 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c32_i32_52 : BitVec 32 := 32#32
  let v70 : BitVec 32 := Scalar.muli arg11 c32_i32_52
  v70
def k0_off8 (k0_t2 : Fin k0_t2_loop.trips) : Fin 3 → Nat :=
  let c1 : Index := 1#32
  let c0_i32_16 : BitVec 32 := 0#32
  let c1_i32_18 : BitVec 32 := 1#32
  let arg11 : BitVec 32 := Scf.iv c0_i32_16 c1_i32_18 k0_t2
  let c32_i32_52 : BitVec 32 := 32#32
  let v70 : BitVec 32 := Scalar.muli arg11 c32_i32_52
  let v71 : BitVec 32 := v70
  let v72 : Index := Scalar.indexCast v71
  let c128_53 : Index := 128#32
  ![1, v72.toNat, 128]
def k0_off9 (k0_t2 : Fin k0_t2_loop.trips) : Fin 5 → Nat :=
  let c1_54 : Index := 1#32
  let c0_i32_16 : BitVec 32 := 0#32
  let c1_i32_18 : BitVec 32 := 1#32
  let arg11 : BitVec 32 := Scf.iv c0_i32_16 c1_i32_18 k0_t2
  let v76 : Index := Scalar.indexCast arg11
  let c0_55 : Index := 0#32
  let c0_56 : Index := 0#32
  let c0_57 : Index := 0#32
  ![1, v76.toNat, 0, 0, 0]
def k0_off10 (k0_t2 : Fin k0_t2_loop.trips) : Fin 5 → Nat :=
  let c1_58 : Index := 1#32
  let c0_i32_16 : BitVec 32 := 0#32
  let c1_i32_18 : BitVec 32 := 1#32
  let arg11 : BitVec 32 := Scf.iv c0_i32_16 c1_i32_18 k0_t2
  let v80 : Index := Scalar.indexCast arg11
  let c1_59 : Index := 1#32
  let c0_60 : Index := 0#32
  let c0_61 : Index := 0#32
  ![1, v80.toNat, 1, 0, 0]
def k0_mult37 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32 : BitVec 32 := 256#32
  let v168 : BitVec 32 := Scalar.muli arg11 c256_i32
  v168
def k0_off11 (k0_t2 : Fin k0_t2_loop.trips) (c0_i32_86 : BitVec 32) : Fin 2 → Nat :=
  let c0_i32_16 : BitVec 32 := 0#32
  let c1_i32_18 : BitVec 32 := 1#32
  let arg11 : BitVec 32 := Scf.iv c0_i32_16 c1_i32_18 k0_t2
  let c256_i32 : BitVec 32 := 256#32
  let v168 : BitVec 32 := Scalar.muli arg11 c256_i32
  let v169 : BitVec 32 := v168
  let v170 : BitVec 32 := Scalar.addi v169 c0_i32_86
  let v171 : Index := Scalar.indexCast v170
  let c128_87 : Index := 128#32
  ![v171.toNat, 128]
def k0_off12 (k0_t2 : Fin k0_t2_loop.trips) (c0_i32_86 : BitVec 32) : Fin 3 → Nat :=
  let c1_88 : Index := 1#32
  let c0_i32_16 : BitVec 32 := 0#32
  let c1_i32_18 : BitVec 32 := 1#32
  let arg11 : BitVec 32 := Scf.iv c0_i32_16 c1_i32_18 k0_t2
  let c256_i32 : BitVec 32 := 256#32
  let v168 : BitVec 32 := Scalar.muli arg11 c256_i32
  let v169 : BitVec 32 := v168
  let v170 : BitVec 32 := Scalar.addi v169 c0_i32_86
  let v174 : Index := Scalar.indexCast v170
  let c0_89 : Index := 0#32
  ![1, v174.toNat, 0]
def k0_mult38 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_90 : BitVec 32 := 256#32
  let v180 : BitVec 32 := Scalar.muli arg11 c256_i32_90
  v180
def k0_mult39 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_113 : BitVec 32 := 256#32
  let v260 : BitVec 32 := Scalar.muli arg11 c256_i32_113
  v260
def k0_mult40 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_117 : BitVec 32 := 256#32
  let v272 : BitVec 32 := Scalar.muli arg11 c256_i32_117
  v272
def k0_mult41 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_139 : BitVec 32 := 256#32
  let v352 : BitVec 32 := Scalar.muli arg11 c256_i32_139
  v352
def k0_mult42 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_144 : BitVec 32 := 256#32
  let v364 : BitVec 32 := Scalar.muli arg11 c256_i32_144
  v364
def k0_mult43 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_166 : BitVec 32 := 256#32
  let v444 : BitVec 32 := Scalar.muli arg11 c256_i32_166
  v444
def k0_mult44 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_170 : BitVec 32 := 256#32
  let v456 : BitVec 32 := Scalar.muli arg11 c256_i32_170
  v456
def k0_mult45 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_203 : BitVec 32 := 256#32
  let v552 : BitVec 32 := Scalar.muli arg11 c256_i32_203
  v552
def k0_mult46 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_208 : BitVec 32 := 256#32
  let v564 : BitVec 32 := Scalar.muli arg11 c256_i32_208
  v564
def k0_mult47 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_234 : BitVec 32 := 256#32
  let v644 : BitVec 32 := Scalar.muli arg11 c256_i32_234
  v644
def k0_mult48 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_238 : BitVec 32 := 256#32
  let v656 : BitVec 32 := Scalar.muli arg11 c256_i32_238
  v656
def k0_mult49 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_264 : BitVec 32 := 256#32
  let v736 : BitVec 32 := Scalar.muli arg11 c256_i32_264
  v736
def k0_mult50 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_268 : BitVec 32 := 256#32
  let v748 : BitVec 32 := Scalar.muli arg11 c256_i32_268
  v748
def k0_mult51 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_294 : BitVec 32 := 256#32
  let v828 : BitVec 32 := Scalar.muli arg11 c256_i32_294
  v828
def k0_mult52 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_298 : BitVec 32 := 256#32
  let v840 : BitVec 32 := Scalar.muli arg11 c256_i32_298
  v840
def k0_mult53 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_332 : BitVec 32 := 256#32
  let v936 : BitVec 32 := Scalar.muli arg11 c256_i32_332
  v936
def k0_mult54 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_337 : BitVec 32 := 256#32
  let v948 : BitVec 32 := Scalar.muli arg11 c256_i32_337
  v948
def k0_mult55 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_363 : BitVec 32 := 256#32
  let v1028 : BitVec 32 := Scalar.muli arg11 c256_i32_363
  v1028
def k0_mult56 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_367 : BitVec 32 := 256#32
  let v1040 : BitVec 32 := Scalar.muli arg11 c256_i32_367
  v1040
def k0_mult57 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_393 : BitVec 32 := 256#32
  let v1120 : BitVec 32 := Scalar.muli arg11 c256_i32_393
  v1120
def k0_mult58 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_397 : BitVec 32 := 256#32
  let v1132 : BitVec 32 := Scalar.muli arg11 c256_i32_397
  v1132
def k0_mult59 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_423 : BitVec 32 := 256#32
  let v1212 : BitVec 32 := Scalar.muli arg11 c256_i32_423
  v1212
def k0_mult60 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_427 : BitVec 32 := 256#32
  let v1224 : BitVec 32 := Scalar.muli arg11 c256_i32_427
  v1224
def k0_mult61 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_460 : BitVec 32 := 256#32
  let v1320 : BitVec 32 := Scalar.muli arg11 c256_i32_460
  v1320
def k0_mult62 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_465 : BitVec 32 := 256#32
  let v1332 : BitVec 32 := Scalar.muli arg11 c256_i32_465
  v1332
def k0_mult63 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_491 : BitVec 32 := 256#32
  let v1412 : BitVec 32 := Scalar.muli arg11 c256_i32_491
  v1412
def k0_mult64 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_495 : BitVec 32 := 256#32
  let v1424 : BitVec 32 := Scalar.muli arg11 c256_i32_495
  v1424
def k0_mult65 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_521 : BitVec 32 := 256#32
  let v1504 : BitVec 32 := Scalar.muli arg11 c256_i32_521
  v1504
def k0_mult66 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_525 : BitVec 32 := 256#32
  let v1516 : BitVec 32 := Scalar.muli arg11 c256_i32_525
  v1516
def k0_mult67 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_551 : BitVec 32 := 256#32
  let v1596 : BitVec 32 := Scalar.muli arg11 c256_i32_551
  v1596
def k0_mult68 (k0_t2 : Fin k0_t2_loop.trips) : BitVec 32 :=
  let c0_i32_16 : BitVec 32 := 0#32
  let c1_i32_18 : BitVec 32 := 1#32
  let arg11 : BitVec 32 := Scf.iv c0_i32_16 c1_i32_18 k0_t2
  let c256_i32_555 : BitVec 32 := 256#32
  let v1608 : BitVec 32 := Scalar.muli arg11 c256_i32_555
  v1608
@[reducible] def k0_t3_loop : Scf.Loop 32 :=
  let c0_i32_25 : BitVec 32 := 0#32
  let c6_i32_26 : BitVec 32 := 6#32
  let v39 : BitVec 32 := Scalar.addi c0_i32_25 c6_i32_26
  let c1_i32_27 : BitVec 32 := 1#32
  ⟨c0_i32_25, v39, c1_i32_27⟩
def k0_mult69 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c32_i32 : BitVec 32 := 32#32
  let v64 : BitVec 32 := Scalar.muli arg11 c32_i32
  v64
def k0_off13 (k0_t3 : Fin k0_t3_loop.trips) : Fin 3 → Nat :=
  let c0_50 : Index := 0#32
  let c0_i32_25 : BitVec 32 := 0#32
  let c1_i32_27 : BitVec 32 := 1#32
  let arg11 : BitVec 32 := Scf.iv c0_i32_25 c1_i32_27 k0_t3
  let c32_i32 : BitVec 32 := 32#32
  let v64 : BitVec 32 := Scalar.muli arg11 c32_i32
  let v65 : BitVec 32 := v64
  let v66 : Index := Scalar.indexCast v65
  let c256_51 : Index := 256#32
  ![0, v66.toNat, 256]
def k0_mult70 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c32_i32_52 : BitVec 32 := 32#32
  let v70 : BitVec 32 := Scalar.muli arg11 c32_i32_52
  v70
def k0_off14 (k0_t3 : Fin k0_t3_loop.trips) : Fin 3 → Nat :=
  let c1 : Index := 1#32
  let c0_i32_25 : BitVec 32 := 0#32
  let c1_i32_27 : BitVec 32 := 1#32
  let arg11 : BitVec 32 := Scf.iv c0_i32_25 c1_i32_27 k0_t3
  let c32_i32_52 : BitVec 32 := 32#32
  let v70 : BitVec 32 := Scalar.muli arg11 c32_i32_52
  let v71 : BitVec 32 := v70
  let v72 : Index := Scalar.indexCast v71
  let c256_53 : Index := 256#32
  ![1, v72.toNat, 256]
def k0_off15 (k0_t3 : Fin k0_t3_loop.trips) : Fin 5 → Nat :=
  let c2 : Index := 2#32
  let c0_i32_25 : BitVec 32 := 0#32
  let c1_i32_27 : BitVec 32 := 1#32
  let arg11 : BitVec 32 := Scf.iv c0_i32_25 c1_i32_27 k0_t3
  let v76 : Index := Scalar.indexCast arg11
  let c0_54 : Index := 0#32
  let c0_55 : Index := 0#32
  let c0_56 : Index := 0#32
  ![2, v76.toNat, 0, 0, 0]
def k0_off16 (k0_t3 : Fin k0_t3_loop.trips) : Fin 5 → Nat :=
  let c2_57 : Index := 2#32
  let c0_i32_25 : BitVec 32 := 0#32
  let c1_i32_27 : BitVec 32 := 1#32
  let arg11 : BitVec 32 := Scf.iv c0_i32_25 c1_i32_27 k0_t3
  let v80 : Index := Scalar.indexCast arg11
  let c1_58 : Index := 1#32
  let c0_59 : Index := 0#32
  let c0_60 : Index := 0#32
  ![2, v80.toNat, 1, 0, 0]
def k0_mult71 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32 : BitVec 32 := 256#32
  let v168 : BitVec 32 := Scalar.muli arg11 c256_i32
  v168
def k0_off17 (k0_t3 : Fin k0_t3_loop.trips) (c0_i32_85 : BitVec 32) : Fin 2 → Nat :=
  let c0_i32_25 : BitVec 32 := 0#32
  let c1_i32_27 : BitVec 32 := 1#32
  let arg11 : BitVec 32 := Scf.iv c0_i32_25 c1_i32_27 k0_t3
  let c256_i32 : BitVec 32 := 256#32
  let v168 : BitVec 32 := Scalar.muli arg11 c256_i32
  let v169 : BitVec 32 := v168
  let v170 : BitVec 32 := Scalar.addi v169 c0_i32_85
  let v171 : Index := Scalar.indexCast v170
  let c256_86 : Index := 256#32
  ![v171.toNat, 256]
def k0_off18 (k0_t3 : Fin k0_t3_loop.trips) (c0_i32_85 : BitVec 32) : Fin 3 → Nat :=
  let c2_87 : Index := 2#32
  let c0_i32_25 : BitVec 32 := 0#32
  let c1_i32_27 : BitVec 32 := 1#32
  let arg11 : BitVec 32 := Scf.iv c0_i32_25 c1_i32_27 k0_t3
  let c256_i32 : BitVec 32 := 256#32
  let v168 : BitVec 32 := Scalar.muli arg11 c256_i32
  let v169 : BitVec 32 := v168
  let v170 : BitVec 32 := Scalar.addi v169 c0_i32_85
  let v174 : Index := Scalar.indexCast v170
  let c0_88 : Index := 0#32
  ![2, v174.toNat, 0]
def k0_mult72 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_89 : BitVec 32 := 256#32
  let v180 : BitVec 32 := Scalar.muli arg11 c256_i32_89
  v180
def k0_mult73 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_113 : BitVec 32 := 256#32
  let v260 : BitVec 32 := Scalar.muli arg11 c256_i32_113
  v260
def k0_mult74 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_117 : BitVec 32 := 256#32
  let v272 : BitVec 32 := Scalar.muli arg11 c256_i32_117
  v272
def k0_mult75 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_139 : BitVec 32 := 256#32
  let v352 : BitVec 32 := Scalar.muli arg11 c256_i32_139
  v352
def k0_mult76 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_144 : BitVec 32 := 256#32
  let v364 : BitVec 32 := Scalar.muli arg11 c256_i32_144
  v364
def k0_mult77 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_166 : BitVec 32 := 256#32
  let v444 : BitVec 32 := Scalar.muli arg11 c256_i32_166
  v444
def k0_mult78 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_170 : BitVec 32 := 256#32
  let v456 : BitVec 32 := Scalar.muli arg11 c256_i32_170
  v456
def k0_mult79 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_203 : BitVec 32 := 256#32
  let v552 : BitVec 32 := Scalar.muli arg11 c256_i32_203
  v552
def k0_mult80 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_208 : BitVec 32 := 256#32
  let v564 : BitVec 32 := Scalar.muli arg11 c256_i32_208
  v564
def k0_mult81 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_234 : BitVec 32 := 256#32
  let v644 : BitVec 32 := Scalar.muli arg11 c256_i32_234
  v644
def k0_mult82 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_238 : BitVec 32 := 256#32
  let v656 : BitVec 32 := Scalar.muli arg11 c256_i32_238
  v656
def k0_mult83 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_264 : BitVec 32 := 256#32
  let v736 : BitVec 32 := Scalar.muli arg11 c256_i32_264
  v736
def k0_mult84 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_268 : BitVec 32 := 256#32
  let v748 : BitVec 32 := Scalar.muli arg11 c256_i32_268
  v748
def k0_mult85 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_294 : BitVec 32 := 256#32
  let v828 : BitVec 32 := Scalar.muli arg11 c256_i32_294
  v828
def k0_mult86 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_298 : BitVec 32 := 256#32
  let v840 : BitVec 32 := Scalar.muli arg11 c256_i32_298
  v840
def k0_mult87 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_332 : BitVec 32 := 256#32
  let v936 : BitVec 32 := Scalar.muli arg11 c256_i32_332
  v936
def k0_mult88 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_337 : BitVec 32 := 256#32
  let v948 : BitVec 32 := Scalar.muli arg11 c256_i32_337
  v948
def k0_mult89 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_363 : BitVec 32 := 256#32
  let v1028 : BitVec 32 := Scalar.muli arg11 c256_i32_363
  v1028
def k0_mult90 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_367 : BitVec 32 := 256#32
  let v1040 : BitVec 32 := Scalar.muli arg11 c256_i32_367
  v1040
def k0_mult91 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_393 : BitVec 32 := 256#32
  let v1120 : BitVec 32 := Scalar.muli arg11 c256_i32_393
  v1120
def k0_mult92 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_397 : BitVec 32 := 256#32
  let v1132 : BitVec 32 := Scalar.muli arg11 c256_i32_397
  v1132
def k0_mult93 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_423 : BitVec 32 := 256#32
  let v1212 : BitVec 32 := Scalar.muli arg11 c256_i32_423
  v1212
def k0_mult94 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_427 : BitVec 32 := 256#32
  let v1224 : BitVec 32 := Scalar.muli arg11 c256_i32_427
  v1224
def k0_mult95 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_460 : BitVec 32 := 256#32
  let v1320 : BitVec 32 := Scalar.muli arg11 c256_i32_460
  v1320
def k0_mult96 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_465 : BitVec 32 := 256#32
  let v1332 : BitVec 32 := Scalar.muli arg11 c256_i32_465
  v1332
def k0_mult97 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_491 : BitVec 32 := 256#32
  let v1412 : BitVec 32 := Scalar.muli arg11 c256_i32_491
  v1412
def k0_mult98 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_495 : BitVec 32 := 256#32
  let v1424 : BitVec 32 := Scalar.muli arg11 c256_i32_495
  v1424
def k0_mult99 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_521 : BitVec 32 := 256#32
  let v1504 : BitVec 32 := Scalar.muli arg11 c256_i32_521
  v1504
def k0_mult100 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_525 : BitVec 32 := 256#32
  let v1516 : BitVec 32 := Scalar.muli arg11 c256_i32_525
  v1516
def k0_mult101 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_551 : BitVec 32 := 256#32
  let v1596 : BitVec 32 := Scalar.muli arg11 c256_i32_551
  v1596
def k0_mult102 (k0_t3 : Fin k0_t3_loop.trips) : BitVec 32 :=
  let c0_i32_25 : BitVec 32 := 0#32
  let c1_i32_27 : BitVec 32 := 1#32
  let arg11 : BitVec 32 := Scf.iv c0_i32_25 c1_i32_27 k0_t3
  let c256_i32_555 : BitVec 32 := 256#32
  let v1608 : BitVec 32 := Scalar.muli arg11 c256_i32_555
  v1608
@[reducible] def k0_t4_loop : Scf.Loop 32 :=
  let c0_i32_34 : BitVec 32 := 0#32
  let c6_i32_35 : BitVec 32 := 6#32
  let v49 : BitVec 32 := Scalar.addi c0_i32_34 c6_i32_35
  let c1_i32_36 : BitVec 32 := 1#32
  ⟨c0_i32_34, v49, c1_i32_36⟩
def k0_mult103 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c32_i32 : BitVec 32 := 32#32
  let v64 : BitVec 32 := Scalar.muli arg11 c32_i32
  v64
def k0_off19 (k0_t4 : Fin k0_t4_loop.trips) : Fin 3 → Nat :=
  let c0_50 : Index := 0#32
  let c0_i32_34 : BitVec 32 := 0#32
  let c1_i32_36 : BitVec 32 := 1#32
  let arg11 : BitVec 32 := Scf.iv c0_i32_34 c1_i32_36 k0_t4
  let c32_i32 : BitVec 32 := 32#32
  let v64 : BitVec 32 := Scalar.muli arg11 c32_i32
  let v65 : BitVec 32 := v64
  let v66 : Index := Scalar.indexCast v65
  let c384_51 : Index := 384#32
  ![0, v66.toNat, 384]
def k0_mult104 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c32_i32_52 : BitVec 32 := 32#32
  let v70 : BitVec 32 := Scalar.muli arg11 c32_i32_52
  v70
def k0_off20 (k0_t4 : Fin k0_t4_loop.trips) : Fin 3 → Nat :=
  let c1 : Index := 1#32
  let c0_i32_34 : BitVec 32 := 0#32
  let c1_i32_36 : BitVec 32 := 1#32
  let arg11 : BitVec 32 := Scf.iv c0_i32_34 c1_i32_36 k0_t4
  let c32_i32_52 : BitVec 32 := 32#32
  let v70 : BitVec 32 := Scalar.muli arg11 c32_i32_52
  let v71 : BitVec 32 := v70
  let v72 : Index := Scalar.indexCast v71
  let c384_53 : Index := 384#32
  ![1, v72.toNat, 384]
def k0_off21 (k0_t4 : Fin k0_t4_loop.trips) : Fin 5 → Nat :=
  let c3 : Index := 3#32
  let c0_i32_34 : BitVec 32 := 0#32
  let c1_i32_36 : BitVec 32 := 1#32
  let arg11 : BitVec 32 := Scf.iv c0_i32_34 c1_i32_36 k0_t4
  let v76 : Index := Scalar.indexCast arg11
  let c0_54 : Index := 0#32
  let c0_55 : Index := 0#32
  let c0_56 : Index := 0#32
  ![3, v76.toNat, 0, 0, 0]
def k0_off22 (k0_t4 : Fin k0_t4_loop.trips) : Fin 5 → Nat :=
  let c3_57 : Index := 3#32
  let c0_i32_34 : BitVec 32 := 0#32
  let c1_i32_36 : BitVec 32 := 1#32
  let arg11 : BitVec 32 := Scf.iv c0_i32_34 c1_i32_36 k0_t4
  let v80 : Index := Scalar.indexCast arg11
  let c1_58 : Index := 1#32
  let c0_59 : Index := 0#32
  let c0_60 : Index := 0#32
  ![3, v80.toNat, 1, 0, 0]
def k0_mult105 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32 : BitVec 32 := 256#32
  let v168 : BitVec 32 := Scalar.muli arg11 c256_i32
  v168
def k0_off23 (k0_t4 : Fin k0_t4_loop.trips) (c0_i32_85 : BitVec 32) : Fin 2 → Nat :=
  let c0_i32_34 : BitVec 32 := 0#32
  let c1_i32_36 : BitVec 32 := 1#32
  let arg11 : BitVec 32 := Scf.iv c0_i32_34 c1_i32_36 k0_t4
  let c256_i32 : BitVec 32 := 256#32
  let v168 : BitVec 32 := Scalar.muli arg11 c256_i32
  let v169 : BitVec 32 := v168
  let v170 : BitVec 32 := Scalar.addi v169 c0_i32_85
  let v171 : Index := Scalar.indexCast v170
  let c384_86 : Index := 384#32
  ![v171.toNat, 384]
def k0_off24 (k0_t4 : Fin k0_t4_loop.trips) (c0_i32_85 : BitVec 32) : Fin 3 → Nat :=
  let c3_87 : Index := 3#32
  let c0_i32_34 : BitVec 32 := 0#32
  let c1_i32_36 : BitVec 32 := 1#32
  let arg11 : BitVec 32 := Scf.iv c0_i32_34 c1_i32_36 k0_t4
  let c256_i32 : BitVec 32 := 256#32
  let v168 : BitVec 32 := Scalar.muli arg11 c256_i32
  let v169 : BitVec 32 := v168
  let v170 : BitVec 32 := Scalar.addi v169 c0_i32_85
  let v174 : Index := Scalar.indexCast v170
  let c0_88 : Index := 0#32
  ![3, v174.toNat, 0]
def k0_mult106 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_89 : BitVec 32 := 256#32
  let v180 : BitVec 32 := Scalar.muli arg11 c256_i32_89
  v180
def k0_mult107 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_113 : BitVec 32 := 256#32
  let v260 : BitVec 32 := Scalar.muli arg11 c256_i32_113
  v260
def k0_mult108 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_117 : BitVec 32 := 256#32
  let v272 : BitVec 32 := Scalar.muli arg11 c256_i32_117
  v272
def k0_mult109 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_139 : BitVec 32 := 256#32
  let v352 : BitVec 32 := Scalar.muli arg11 c256_i32_139
  v352
def k0_mult110 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_144 : BitVec 32 := 256#32
  let v364 : BitVec 32 := Scalar.muli arg11 c256_i32_144
  v364
def k0_mult111 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_166 : BitVec 32 := 256#32
  let v444 : BitVec 32 := Scalar.muli arg11 c256_i32_166
  v444
def k0_mult112 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_170 : BitVec 32 := 256#32
  let v456 : BitVec 32 := Scalar.muli arg11 c256_i32_170
  v456
def k0_mult113 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_203 : BitVec 32 := 256#32
  let v552 : BitVec 32 := Scalar.muli arg11 c256_i32_203
  v552
def k0_mult114 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_208 : BitVec 32 := 256#32
  let v564 : BitVec 32 := Scalar.muli arg11 c256_i32_208
  v564
def k0_mult115 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_234 : BitVec 32 := 256#32
  let v644 : BitVec 32 := Scalar.muli arg11 c256_i32_234
  v644
def k0_mult116 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_238 : BitVec 32 := 256#32
  let v656 : BitVec 32 := Scalar.muli arg11 c256_i32_238
  v656
def k0_mult117 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_264 : BitVec 32 := 256#32
  let v736 : BitVec 32 := Scalar.muli arg11 c256_i32_264
  v736
def k0_mult118 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_268 : BitVec 32 := 256#32
  let v748 : BitVec 32 := Scalar.muli arg11 c256_i32_268
  v748
def k0_mult119 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_294 : BitVec 32 := 256#32
  let v828 : BitVec 32 := Scalar.muli arg11 c256_i32_294
  v828
def k0_mult120 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_298 : BitVec 32 := 256#32
  let v840 : BitVec 32 := Scalar.muli arg11 c256_i32_298
  v840
def k0_mult121 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_332 : BitVec 32 := 256#32
  let v936 : BitVec 32 := Scalar.muli arg11 c256_i32_332
  v936
def k0_mult122 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_337 : BitVec 32 := 256#32
  let v948 : BitVec 32 := Scalar.muli arg11 c256_i32_337
  v948
def k0_mult123 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_363 : BitVec 32 := 256#32
  let v1028 : BitVec 32 := Scalar.muli arg11 c256_i32_363
  v1028
def k0_mult124 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_367 : BitVec 32 := 256#32
  let v1040 : BitVec 32 := Scalar.muli arg11 c256_i32_367
  v1040
def k0_mult125 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_393 : BitVec 32 := 256#32
  let v1120 : BitVec 32 := Scalar.muli arg11 c256_i32_393
  v1120
def k0_mult126 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_397 : BitVec 32 := 256#32
  let v1132 : BitVec 32 := Scalar.muli arg11 c256_i32_397
  v1132
def k0_mult127 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_423 : BitVec 32 := 256#32
  let v1212 : BitVec 32 := Scalar.muli arg11 c256_i32_423
  v1212
def k0_mult128 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_427 : BitVec 32 := 256#32
  let v1224 : BitVec 32 := Scalar.muli arg11 c256_i32_427
  v1224
def k0_mult129 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_460 : BitVec 32 := 256#32
  let v1320 : BitVec 32 := Scalar.muli arg11 c256_i32_460
  v1320
def k0_mult130 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_465 : BitVec 32 := 256#32
  let v1332 : BitVec 32 := Scalar.muli arg11 c256_i32_465
  v1332
def k0_mult131 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_491 : BitVec 32 := 256#32
  let v1412 : BitVec 32 := Scalar.muli arg11 c256_i32_491
  v1412
def k0_mult132 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_495 : BitVec 32 := 256#32
  let v1424 : BitVec 32 := Scalar.muli arg11 c256_i32_495
  v1424
def k0_mult133 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_521 : BitVec 32 := 256#32
  let v1504 : BitVec 32 := Scalar.muli arg11 c256_i32_521
  v1504
def k0_mult134 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_525 : BitVec 32 := 256#32
  let v1516 : BitVec 32 := Scalar.muli arg11 c256_i32_525
  v1516
def k0_mult135 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_551 : BitVec 32 := 256#32
  let v1596 : BitVec 32 := Scalar.muli arg11 c256_i32_551
  v1596
def k0_mult136 (k0_t4 : Fin k0_t4_loop.trips) : BitVec 32 :=
  let c0_i32_34 : BitVec 32 := 0#32
  let c1_i32_36 : BitVec 32 := 1#32
  let arg11 : BitVec 32 := Scf.iv c0_i32_34 c1_i32_36 k0_t4
  let c256_i32_555 : BitVec 32 := 256#32
  let v1608 : BitVec 32 := Scalar.muli arg11 c256_i32_555
  v1608
@[reducible] def k0_t5_loop : Scf.Loop 32 :=
  let c0_i32_43 : BitVec 32 := 0#32
  let c6_i32_44 : BitVec 32 := 6#32
  let v59 : BitVec 32 := Scalar.addi c0_i32_43 c6_i32_44
  let c1_i32_45 : BitVec 32 := 1#32
  ⟨c0_i32_43, v59, c1_i32_45⟩
def k0_mult137 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c32_i32 : BitVec 32 := 32#32
  let v64 : BitVec 32 := Scalar.muli arg11 c32_i32
  v64
def k0_off25 (k0_t5 : Fin k0_t5_loop.trips) : Fin 3 → Nat :=
  let c0_50 : Index := 0#32
  let c0_i32_43 : BitVec 32 := 0#32
  let c1_i32_45 : BitVec 32 := 1#32
  let arg11 : BitVec 32 := Scf.iv c0_i32_43 c1_i32_45 k0_t5
  let c32_i32 : BitVec 32 := 32#32
  let v64 : BitVec 32 := Scalar.muli arg11 c32_i32
  let v65 : BitVec 32 := v64
  let v66 : Index := Scalar.indexCast v65
  let c512_51 : Index := 512#32
  ![0, v66.toNat, 512]
def k0_mult138 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c32_i32_52 : BitVec 32 := 32#32
  let v70 : BitVec 32 := Scalar.muli arg11 c32_i32_52
  v70
def k0_off26 (k0_t5 : Fin k0_t5_loop.trips) : Fin 3 → Nat :=
  let c1 : Index := 1#32
  let c0_i32_43 : BitVec 32 := 0#32
  let c1_i32_45 : BitVec 32 := 1#32
  let arg11 : BitVec 32 := Scf.iv c0_i32_43 c1_i32_45 k0_t5
  let c32_i32_52 : BitVec 32 := 32#32
  let v70 : BitVec 32 := Scalar.muli arg11 c32_i32_52
  let v71 : BitVec 32 := v70
  let v72 : Index := Scalar.indexCast v71
  let c512_53 : Index := 512#32
  ![1, v72.toNat, 512]
def k0_off27 (k0_t5 : Fin k0_t5_loop.trips) : Fin 5 → Nat :=
  let c4 : Index := 4#32
  let c0_i32_43 : BitVec 32 := 0#32
  let c1_i32_45 : BitVec 32 := 1#32
  let arg11 : BitVec 32 := Scf.iv c0_i32_43 c1_i32_45 k0_t5
  let v76 : Index := Scalar.indexCast arg11
  let c0_54 : Index := 0#32
  let c0_55 : Index := 0#32
  let c0_56 : Index := 0#32
  ![4, v76.toNat, 0, 0, 0]
def k0_off28 (k0_t5 : Fin k0_t5_loop.trips) : Fin 5 → Nat :=
  let c4_57 : Index := 4#32
  let c0_i32_43 : BitVec 32 := 0#32
  let c1_i32_45 : BitVec 32 := 1#32
  let arg11 : BitVec 32 := Scf.iv c0_i32_43 c1_i32_45 k0_t5
  let v80 : Index := Scalar.indexCast arg11
  let c1_58 : Index := 1#32
  let c0_59 : Index := 0#32
  let c0_60 : Index := 0#32
  ![4, v80.toNat, 1, 0, 0]
def k0_mult139 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32 : BitVec 32 := 256#32
  let v168 : BitVec 32 := Scalar.muli arg11 c256_i32
  v168
def k0_off29 (k0_t5 : Fin k0_t5_loop.trips) (c0_i32_85 : BitVec 32) : Fin 2 → Nat :=
  let c0_i32_43 : BitVec 32 := 0#32
  let c1_i32_45 : BitVec 32 := 1#32
  let arg11 : BitVec 32 := Scf.iv c0_i32_43 c1_i32_45 k0_t5
  let c256_i32 : BitVec 32 := 256#32
  let v168 : BitVec 32 := Scalar.muli arg11 c256_i32
  let v169 : BitVec 32 := v168
  let v170 : BitVec 32 := Scalar.addi v169 c0_i32_85
  let v171 : Index := Scalar.indexCast v170
  let c512_86 : Index := 512#32
  ![v171.toNat, 512]
def k0_off30 (k0_t5 : Fin k0_t5_loop.trips) (c0_i32_85 : BitVec 32) : Fin 3 → Nat :=
  let c4_87 : Index := 4#32
  let c0_i32_43 : BitVec 32 := 0#32
  let c1_i32_45 : BitVec 32 := 1#32
  let arg11 : BitVec 32 := Scf.iv c0_i32_43 c1_i32_45 k0_t5
  let c256_i32 : BitVec 32 := 256#32
  let v168 : BitVec 32 := Scalar.muli arg11 c256_i32
  let v169 : BitVec 32 := v168
  let v170 : BitVec 32 := Scalar.addi v169 c0_i32_85
  let v174 : Index := Scalar.indexCast v170
  let c0_88 : Index := 0#32
  ![4, v174.toNat, 0]
def k0_mult140 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_89 : BitVec 32 := 256#32
  let v180 : BitVec 32 := Scalar.muli arg11 c256_i32_89
  v180
def k0_mult141 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_112 : BitVec 32 := 256#32
  let v260 : BitVec 32 := Scalar.muli arg11 c256_i32_112
  v260
def k0_mult142 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_116 : BitVec 32 := 256#32
  let v272 : BitVec 32 := Scalar.muli arg11 c256_i32_116
  v272
def k0_mult143 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_139 : BitVec 32 := 256#32
  let v352 : BitVec 32 := Scalar.muli arg11 c256_i32_139
  v352
def k0_mult144 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_144 : BitVec 32 := 256#32
  let v364 : BitVec 32 := Scalar.muli arg11 c256_i32_144
  v364
def k0_mult145 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_166 : BitVec 32 := 256#32
  let v444 : BitVec 32 := Scalar.muli arg11 c256_i32_166
  v444
def k0_mult146 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_170 : BitVec 32 := 256#32
  let v456 : BitVec 32 := Scalar.muli arg11 c256_i32_170
  v456
def k0_mult147 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_203 : BitVec 32 := 256#32
  let v552 : BitVec 32 := Scalar.muli arg11 c256_i32_203
  v552
def k0_mult148 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_208 : BitVec 32 := 256#32
  let v564 : BitVec 32 := Scalar.muli arg11 c256_i32_208
  v564
def k0_mult149 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_234 : BitVec 32 := 256#32
  let v644 : BitVec 32 := Scalar.muli arg11 c256_i32_234
  v644
def k0_mult150 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_238 : BitVec 32 := 256#32
  let v656 : BitVec 32 := Scalar.muli arg11 c256_i32_238
  v656
def k0_mult151 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_264 : BitVec 32 := 256#32
  let v736 : BitVec 32 := Scalar.muli arg11 c256_i32_264
  v736
def k0_mult152 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_268 : BitVec 32 := 256#32
  let v748 : BitVec 32 := Scalar.muli arg11 c256_i32_268
  v748
def k0_mult153 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_294 : BitVec 32 := 256#32
  let v828 : BitVec 32 := Scalar.muli arg11 c256_i32_294
  v828
def k0_mult154 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_298 : BitVec 32 := 256#32
  let v840 : BitVec 32 := Scalar.muli arg11 c256_i32_298
  v840
def k0_mult155 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_332 : BitVec 32 := 256#32
  let v936 : BitVec 32 := Scalar.muli arg11 c256_i32_332
  v936
def k0_mult156 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_337 : BitVec 32 := 256#32
  let v948 : BitVec 32 := Scalar.muli arg11 c256_i32_337
  v948
def k0_mult157 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_363 : BitVec 32 := 256#32
  let v1028 : BitVec 32 := Scalar.muli arg11 c256_i32_363
  v1028
def k0_mult158 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_367 : BitVec 32 := 256#32
  let v1040 : BitVec 32 := Scalar.muli arg11 c256_i32_367
  v1040
def k0_mult159 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_393 : BitVec 32 := 256#32
  let v1120 : BitVec 32 := Scalar.muli arg11 c256_i32_393
  v1120
def k0_mult160 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_397 : BitVec 32 := 256#32
  let v1132 : BitVec 32 := Scalar.muli arg11 c256_i32_397
  v1132
def k0_mult161 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_423 : BitVec 32 := 256#32
  let v1212 : BitVec 32 := Scalar.muli arg11 c256_i32_423
  v1212
def k0_mult162 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_427 : BitVec 32 := 256#32
  let v1224 : BitVec 32 := Scalar.muli arg11 c256_i32_427
  v1224
def k0_mult163 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_460 : BitVec 32 := 256#32
  let v1320 : BitVec 32 := Scalar.muli arg11 c256_i32_460
  v1320
def k0_mult164 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_465 : BitVec 32 := 256#32
  let v1332 : BitVec 32 := Scalar.muli arg11 c256_i32_465
  v1332
def k0_mult165 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_491 : BitVec 32 := 256#32
  let v1412 : BitVec 32 := Scalar.muli arg11 c256_i32_491
  v1412
def k0_mult166 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_495 : BitVec 32 := 256#32
  let v1424 : BitVec 32 := Scalar.muli arg11 c256_i32_495
  v1424
def k0_mult167 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_521 : BitVec 32 := 256#32
  let v1504 : BitVec 32 := Scalar.muli arg11 c256_i32_521
  v1504
def k0_mult168 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_525 : BitVec 32 := 256#32
  let v1516 : BitVec 32 := Scalar.muli arg11 c256_i32_525
  v1516
def k0_mult169 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_551 : BitVec 32 := 256#32
  let v1596 : BitVec 32 := Scalar.muli arg11 c256_i32_551
  v1596
def k0_mult170 (k0_t5 : Fin k0_t5_loop.trips) : BitVec 32 :=
  let c0_i32_43 : BitVec 32 := 0#32
  let c1_i32_45 : BitVec 32 := 1#32
  let arg11 : BitVec 32 := Scf.iv c0_i32_43 c1_i32_45 k0_t5
  let c256_i32_555 : BitVec 32 := 256#32
  let v1608 : BitVec 32 := Scalar.muli arg11 c256_i32_555
  v1608
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x640 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S640x640 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S640x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x192x640 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5x1536x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5x6x2x8x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S5x128x1536 : Shape := ⟨3, ![5, 128, 1536]⟩
abbrev S5x128x8960 : Shape := ⟨3, ![5, 128, 8960]⟩
abbrev S5x128 : Shape := ⟨2, ![5, 128]⟩
abbrev S2x8960x192 : Shape := ⟨3, ![2, 8960, 192]⟩
abbrev S2x256x8 : Shape := ⟨3, ![2, 256, 8]⟩
abbrev S8960 : Shape := ⟨1, ![8960]⟩
abbrev S5x128x1 : Shape := ⟨3, ![5, 128, 1]⟩
abbrev S8960x1536 : Shape := ⟨2, ![8960, 1536]⟩
abbrev S8960x192x8 : Shape := ⟨3, ![8960, 192, 8]⟩
abbrev S8960x1x1 : Shape := ⟨3, ![8960, 1, 1]⟩
abbrev S1x256x8 : Shape := ⟨3, ![1, 256, 8]⟩
abbrev S256x8 : Shape := ⟨2, ![256, 8]⟩
abbrev S1x8960x192 : Shape := ⟨3, ![1, 8960, 192]⟩
abbrev S8960x192 : Shape := ⟨2, ![8960, 192]⟩
abbrev S_ : Shape := ⟨0, ![]⟩
abbrev S8960x192x1 : Shape := ⟨3, ![8960, 192, 1]⟩
abbrev S70x128x6x8x4x8 : Shape := ⟨6, ![70, 128, 6, 8, 4, 8]⟩
abbrev S70x6x8x4x8x128 : Shape := ⟨6, ![70, 6, 8, 4, 8, 128]⟩
abbrev S70x1536x128 : Shape := ⟨3, ![70, 1536, 128]⟩
abbrev S2x70x128x6x8x4 : Shape := ⟨6, ![2, 70, 128, 6, 8, 4]⟩
abbrev S70x6x2x8x128x4 : Shape := ⟨6, ![70, 6, 2, 8, 128, 4]⟩
abbrev S70x6x2x8x128 : Shape := ⟨5, ![70, 6, 2, 8, 128]⟩
abbrev S1x8960 : Shape := ⟨2, ![1, 8960]⟩

abbrev nBuf : Space → Nat
  | .hbm => 54
  | .vmem => 3
  | .smem => 0
  | _ => 0

abbrev bufTy : (tb : Table) → Fin (tcTables nBuf tb) → BufTy
  | .hbm, ⟨0, _⟩ => ⟨S5x128x1536, .bf16⟩
  | .hbm, ⟨1, _⟩ => ⟨S5x128x8960, .fp8e5m2⟩
  | .hbm, ⟨2, _⟩ => ⟨S5x128, .f32⟩
  | .hbm, ⟨3, _⟩ => ⟨S2x8960x192, .i8⟩
  | .hbm, ⟨4, _⟩ => ⟨S2x256x8, .i16⟩
  | .hbm, ⟨5, _⟩ => ⟨S8960, .f32⟩
  | .hbm, ⟨6, _⟩ => ⟨S5x128x1, .f32⟩
  | .hbm, ⟨7, _⟩ => ⟨S5x128x8960, .bf16⟩
  | .hbm, ⟨8, _⟩ => ⟨S8960x1536, .f32⟩
  | .hbm, ⟨9, _⟩ => ⟨S8960x192x8, .f32⟩
  | .hbm, ⟨10, _⟩ => ⟨S8960x1x1, .f32⟩
  | .hbm, ⟨11, _⟩ => ⟨S8960x192x8, .f32⟩
  | .hbm, ⟨12, _⟩ => ⟨S8960x192x8, .f32⟩
  | .hbm, ⟨13, _⟩ => ⟨S2x256x8, .bf16⟩
  | .hbm, ⟨14, _⟩ => ⟨S2x8960x192, .i32⟩
  | .hbm, ⟨15, _⟩ => ⟨S1x256x8, .bf16⟩
  | .hbm, ⟨16, _⟩ => ⟨S256x8, .bf16⟩
  | .hbm, ⟨17, _⟩ => ⟨S1x8960x192, .i32⟩
  | .hbm, ⟨18, _⟩ => ⟨S8960x192, .i32⟩
  | .hbm, ⟨19, _⟩ => ⟨S_, .i32⟩
  | .hbm, ⟨20, _⟩ => ⟨S8960x192, .i32⟩
  | .hbm, ⟨21, _⟩ => ⟨S8960x192, .i1⟩
  | .hbm, ⟨22, _⟩ => ⟨S_, .i32⟩
  | .hbm, ⟨23, _⟩ => ⟨S8960x192, .i32⟩
  | .hbm, ⟨24, _⟩ => ⟨S8960x192, .i32⟩
  | .hbm, ⟨25, _⟩ => ⟨S8960x192, .i32⟩
  | .hbm, ⟨26, _⟩ => ⟨S8960x192x1, .i32⟩
  | .hbm, ⟨27, _⟩ => ⟨S8960x192x8, .bf16⟩
  | .hbm, ⟨28, _⟩ => ⟨S8960x192x8, .f32⟩
  | .hbm, ⟨29, _⟩ => ⟨S1x256x8, .bf16⟩
  | .hbm, ⟨30, _⟩ => ⟨S256x8, .bf16⟩
  | .hbm, ⟨31, _⟩ => ⟨S1x8960x192, .i32⟩
  | .hbm, ⟨32, _⟩ => ⟨S8960x192, .i32⟩
  | .hbm, ⟨33, _⟩ => ⟨S_, .i32⟩
  | .hbm, ⟨34, _⟩ => ⟨S8960x192, .i32⟩
  | .hbm, ⟨35, _⟩ => ⟨S8960x192, .i1⟩
  | .hbm, ⟨36, _⟩ => ⟨S_, .i32⟩
  | .hbm, ⟨37, _⟩ => ⟨S8960x192, .i32⟩
  | .hbm, ⟨38, _⟩ => ⟨S8960x192, .i32⟩
  | .hbm, ⟨39, _⟩ => ⟨S8960x192, .i32⟩
  | .hbm, ⟨40, _⟩ => ⟨S8960x192x1, .i32⟩
  | .hbm, ⟨41, _⟩ => ⟨S8960x192x8, .bf16⟩
  | .hbm, ⟨42, _⟩ => ⟨S8960x192x8, .f32⟩
  | .hbm, ⟨43, _⟩ => ⟨S8960x192x8, .f32⟩
  | .hbm, ⟨44, _⟩ => ⟨S8960x192x8, .f32⟩
  | .hbm, ⟨45, _⟩ => ⟨S_, .f32⟩
  | .hbm, ⟨46, _⟩ => ⟨S8960, .f32⟩
  | .hbm, ⟨47, _⟩ => ⟨S70x128x6x8x4x8, .f32⟩
  | .hbm, ⟨48, _⟩ => ⟨S70x6x8x4x8x128, .f32⟩
  | .hbm, ⟨49, _⟩ => ⟨S70x1536x128, .f32⟩
  | .hbm, ⟨50, _⟩ => ⟨S2x70x128x6x8x4, .i8⟩
  | .hbm, ⟨51, _⟩ => ⟨S70x6x2x8x128x4, .i8⟩
  | .hbm, ⟨52, _⟩ => ⟨S70x6x2x8x128, .i32⟩
  | .hbm, ⟨53, _⟩ => ⟨S1x8960, .f32⟩
  | .local _ .vmem, ⟨0, _⟩ => ⟨S5x128x8960, .fp8e5m2⟩
  | .local _ .vmem, ⟨1, _⟩ => ⟨S5x128x1, .f32⟩
  | .local _ .vmem, ⟨2, _⟩ => ⟨S5x128x8960, .bf16⟩
  | _, _ => ⟨S5x128x1536, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S5x128x8960 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x128x8960 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Sum.lean ====
abbrev S2x16x2048 : Shape := ⟨3, ![2, 16, 2048]⟩
abbrev S2x2048 : Shape := ⟨2, ![2, 2048]⟩

abbrev nBuf : Space → Nat
  | .hbm => 2
  | .vmem => 2
  | .smem => 0
  | _ => 0

abbrev bufTy : (tb : Table) → Fin (tcTables nBuf tb) → BufTy
  | .hbm, ⟨0, _⟩ => ⟨S2x16x2048, .f32⟩
  | .hbm, ⟨1, _⟩ => ⟨S2x2048, .f32⟩
  | .local _ .vmem, ⟨0, _⟩ => ⟨S2x16x2048, .f32⟩
  | .local _ .vmem, ⟨1, _⟩ => ⟨S2x2048, .f32⟩
  | _, _ => ⟨S2x16x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumReferenceIdeal.lean ====
abbrev S2x16x2048 : Shape := ⟨3, ![2, 16, 2048]⟩
abbrev S_ : Shape := ⟨0, ![]⟩
abbrev S2x2048 : Shape := ⟨2, ![2, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x16x2048, .f32⟩
  | .hbm, ⟨1, _⟩ => ⟨S_, .f32⟩
  | .hbm, ⟨2, _⟩ => ⟨S2x2048, .f32⟩
  | _, _ => ⟨S2x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Bin.lean ====
abbrev S107520x128 : Shape := ⟨2, ![107520, 128]⟩
abbrev S6720x128 : Shape := ⟨2, ![6720, 128]⟩
abbrev S2x16x2048 : Shape := ⟨3, ![2, 16, 2048]⟩
abbrev S32768 : Shape := ⟨1, ![32768]⟩
abbrev S128x128 : Shape := ⟨2, ![128, 128]⟩
abbrev S16x128 : Shape := ⟨2, ![16, 128]⟩
abbrev S2048 : Shape := ⟨1, ![2048]⟩
abbrev S_ : Shape := ⟨0, ![]⟩
abbrev S16 : Shape := ⟨1, ![16]⟩
abbrev S1x16 : Shape := ⟨2, ![1, 16]⟩
abbrev S4096 : Shape := ⟨1, ![4096]⟩
abbrev S1x1x2048 : Shape := ⟨3, ![1, 1, 2048]⟩

abbrev nBuf : Table → Nat
  | .hbm => 3
  | .local .scVector .vmem => 6
  | _ => 0

abbrev bufTy : (tb : Table) → Fin (nBuf tb) → BufTy
  | .hbm, ⟨0, _⟩ => ⟨S107520x128, .f32⟩
  | .hbm, ⟨1, _⟩ => ⟨S6720x128, .i32⟩
  | .hbm, ⟨2, _⟩ => ⟨S2x16x2048, .f32⟩
  | .local .scVector .vmem, ⟨0, _⟩ => ⟨S32768, .f32⟩
  | .local .scVector .vmem, ⟨1, _⟩ => ⟨S128x128, .f32⟩
  | .local .scVector .vmem, ⟨2, _⟩ => ⟨S128x128, .f32⟩
  | .local .scVector .vmem, ⟨3, _⟩ => ⟨S16x128, .i32⟩
  | .local .scVector .vmem, ⟨4, _⟩ => ⟨S16x128, .i32⟩
  | .local .scVector .vmem, ⟨5, _⟩ => ⟨S2048, .f32⟩
  | _, _ => ⟨S107520x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_11 : BitVec 32 := 0#32
  let v30 : BitVec 32 := Scalar.addi v28 c0_i32_11
  let c420_i32 : BitVec 32 := 420#32
  let v31 : BitVec 1 := Scalar.cmpi .slt v30 c420_i32
  let v32 : BitVec 32 := Scalar.extui v31
  let c0_i32_12 : BitVec 32 := 0#32
  let v33 : BitVec 1 := Scalar.cmpi .ne v32 c0_i32_12
  v33

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_24 : BitVec 32 := 0#32
  let v41 : BitVec 32 := Scalar.addi v28 c0_i32_24
  let c256_i32 : BitVec 32 := 256#32
  let v42 : BitVec 32 := Scalar.muli v41 c256_i32
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c128_i32_25 : BitVec 32 := 128#32
  let v43 : BitVec 32 := Scalar.muli v11 c128_i32_25
  let v44 : BitVec 32 := Scalar.addi v42 v43
  let c0_i32_27 : BitVec 32 := 0#32
  ![v44.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_24 : BitVec 32 := 0#32
  let v41 : BitVec 32 := Scalar.addi v28 c0_i32_24
  let c2_i32_26 : BitVec 32 := 2#32
  let v45 : BitVec 32 := Scalar.muli v41 c2_i32_26
  let c8_i32 : BitVec 32 := 8#32
  let v46 : BitVec 32 := Scalar.muli v45 c8_i32
  let c0_i32_29 : BitVec 32 := 0#32
  ![v46.toNat, 0]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c16_i32 : BitVec 32 := 16#32
  let v34 : BitVec 32 := Scalar.addi v28 c16_i32
  let c420_i32_13 : BitVec 32 := 420#32
  let v35 : BitVec 1 := Scalar.cmpi .slt v34 c420_i32_13
  let v36 : BitVec 32 := Scalar.extui v35
  let c0_i32_14 : BitVec 32 := 0#32
  let v37 : BitVec 1 := Scalar.cmpi .ne v36 c0_i32_14
  v37

def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c16_i32_24 : BitVec 32 := 16#32
  let v41 : BitVec 32 := Scalar.addi v28 c16_i32_24
  let c256_i32 : BitVec 32 := 256#32
  let v42 : BitVec 32 := Scalar.muli v41 c256_i32
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c128_i32_25 : BitVec 32 := 128#32
  let v43 : BitVec 32 := Scalar.muli v11 c128_i32_25
  let v44 : BitVec 32 := Scalar.addi v42 v43
  let c0_i32_27 : BitVec 32 := 0#32
  ![v44.toNat, 0]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c16_i32_24 : BitVec 32 := 16#32
  let v41 : BitVec 32 := Scalar.addi v28 c16_i32_24
  let c2_i32_26 : BitVec 32 := 2#32
  let v45 : BitVec 32 := Scalar.muli v41 c2_i32_26
  let c8_i32 : BitVec 32 := 8#32
  let v46 : BitVec 32 := Scalar.muli v45 c8_i32
  let c0_i32_29 : BitVec 32 := 0#32
  ![v46.toNat, 0]
@[reducible] def k0_t1_loop : Scf.Loop 32 :=
  let c0_i32_15 : BitVec 32 := 0#32
  let c2048_i32 : BitVec 32 := 2048#32
  let v38 : BitVec 32 := Scalar.addi c0_i32_15 c2048_i32
  let c1_i32_16 : BitVec 32 := 1#32
  ⟨c0_i32_15, v38, c1_i32_16⟩
def k0_off5 (k0_t1 : Fin k0_t1_loop.trips) : Fin 1 → Nat :=
  let c0_i32_25 : BitVec 32 := 0#32
  let c0_i32_15 : BitVec 32 := 0#32
  let c1_i32_16 : BitVec 32 := 1#32
  let arg15 : BitVec 32 := Scf.iv c0_i32_15 c1_i32_16 k0_t1
  let c16_i32_24 : BitVec 32 := 16#32
  let v41 : BitVec 32 := Scalar.muli arg15 c16_i32_24
  let v42 : BitVec 32 := Scalar.addi c0_i32_25 v41
  let v44 : Index := Scalar.indexCast v42
  ![v44.toNat]
@[reducible] def k0_t2_loop : Scf.Loop 32 :=
  let c0_i32_18 : BitVec 32 := 0#32
  let c14_i32 : BitVec 32 := 14#32
  let v39 : BitVec 32 := Scalar.addi c0_i32_18 c14_i32
  let c1_i32_19 : BitVec 32 := 1#32
  ⟨c0_i32_18, v39, c1_i32_19⟩
def k0_cond3 (i : grid0.Coords) (k0_t2 : Fin k0_t2_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_25 : BitVec 32 := 0#32
  let c0_i32_18 : BitVec 32 := 0#32
  let c1_i32_19 : BitVec 32 := 1#32
  let arg15 : BitVec 32 := Scf.iv c0_i32_18 c1_i32_19 k0_t2
  let c2_i32_24 : BitVec 32 := 2#32
  let v41 : BitVec 32 := Scalar.muli arg15 c2_i32_24
  let v42 : BitVec 32 := Scalar.addi c0_i32_25 v41
  let c0_i32_26 : BitVec 32 := 0#32
  let v43 : BitVec 32 := Scalar.addi v42 c0_i32_26
  let c16_i32_27 : BitVec 32 := 16#32
  let v44 : BitVec 32 := Scalar.muli v43 c16_i32_27
  let v45 : BitVec 32 := Scalar.addi v28 v44
  let c420_i32_28 : BitVec 32 := 420#32
  let v46 : BitVec 1 := Scalar.cmpi .slt v45 c420_i32_28
  let v47 : BitVec 32 := Scalar.extui v46
  let c0_i32_29 : BitVec 32 := 0#32
  let v48 : BitVec 1 := Scalar.cmpi .ne v47 c0_i32_29
  v48

def k0_off6 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_25 : BitVec 32 := 0#32
  let c0_i32_18 : BitVec 32 := 0#32
  let c1_i32_19 : BitVec 32 := 1#32
  let arg15 : BitVec 32 := Scf.iv c0_i32_18 c1_i32_19 k0_t2
  let c2_i32_24 : BitVec 32 := 2#32
  let v41 : BitVec 32 := Scalar.muli arg15 c2_i32_24
  let v42 : BitVec 32 := Scalar.addi c0_i32_25 v41
  let c0_i32_26 : BitVec 32 := 0#32
  let v43 : BitVec 32 := Scalar.addi v42 c0_i32_26
  let c16_i32_34 : BitVec 32 := 16#32
  let v55 : BitVec 32 := Scalar.muli v43 c16_i32_34
  let v56 : BitVec 32 := Scalar.addi v28 v55
  let c256_i32 : BitVec 32 := 256#32
  let v57 : BitVec 32 := Scalar.muli v56 c256_i32
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c128_i32_35 : BitVec 32 := 128#32
  let v58 : BitVec 32 := Scalar.muli v11 c128_i32_35
  let v59 : BitVec 32 := Scalar.addi v57 v58
  let c0_i32_37 : BitVec 32 := 0#32
  ![v59.toNat, 0]
def k0_off7 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_25 : BitVec 32 := 0#32
  let c0_i32_18 : BitVec 32 := 0#32
  let c1_i32_19 : BitVec 32 := 1#32
  let arg15 : BitVec 32 := Scf.iv c0_i32_18 c1_i32_19 k0_t2
  let c2_i32_24 : BitVec 32 := 2#32
  let v41 : BitVec 32 := Scalar.muli arg15 c2_i32_24
  let v42 : BitVec 32 := Scalar.addi c0_i32_25 v41
  let c0_i32_26 : BitVec 32 := 0#32
  let v43 : BitVec 32 := Scalar.addi v42 c0_i32_26
  let c16_i32_34 : BitVec 32 := 16#32
  let v55 : BitVec 32 := Scalar.muli v43 c16_i32_34
  let v56 : BitVec 32 := Scalar.addi v28 v55
  let c2_i32_36 : BitVec 32 := 2#32
  let v60 : BitVec 32 := Scalar.muli v56 c2_i32_36
  let c8_i32 : BitVec 32 := 8#32
  let v61 : BitVec 32 := Scalar.muli v60 c8_i32
  let c0_i32_39 : BitVec 32 := 0#32
  ![v61.toNat, 0]
@[reducible] def k0_t3_loop : Scf.Loop 32 :=
  let c0_i32_41 : BitVec 32 := 0#32
  let c64_i32 : BitVec 32 := 64#32
  let v66 : BitVec 32 := Scalar.addi c0_i32_41 c64_i32
  let c1_i32_42 : BitVec 32 := 1#32
  ⟨c0_i32_41, v66, c1_i32_42⟩
def k0_off8 (k0_t3 : Fin k0_t3_loop.trips) (c0_i32_64 : BitVec 32) : Fin 2 → Nat :=
  let c0_i32_49 : BitVec 32 := 0#32
  let c0_i32_41 : BitVec 32 := 0#32
  let c1_i32_42 : BitVec 32 := 1#32
  let arg16 : BitVec 32 := Scf.iv c0_i32_41 c1_i32_42 k0_t3
  let c1_i32_48 : BitVec 32 := 1#32
  let v73 : BitVec 32 := Scalar.muli arg16 c1_i32_48
  let v74 : BitVec 32 := Scalar.addi c0_i32_49 v73
  let c0_i32_51 : BitVec 32 := 0#32
  let v76 : BitVec 1 := Scalar.cmpi .sgt v74 c0_i32_51
  let v77 : BitVec 32 := Scalar.extui v76
  let c0_i32_52 : BitVec 32 := 0#32
  let v78 : BitVec 1 := Scalar.cmpi .slt v74 c0_i32_52
  let v79 : BitVec 32 := Scalar.extui v78
  let v80 : BitVec 32 := Scalar.subi v77 v79
  let c8_i32_50 : BitVec 32 := 8#32
  let c0_i32_53 : BitVec 32 := 0#32
  let v81 : BitVec 1 := Scalar.cmpi .sgt c8_i32_50 c0_i32_53
  let v82 : BitVec 32 := Scalar.extui v81
  let c0_i32_54 : BitVec 32 := 0#32
  let v83 : BitVec 1 := Scalar.cmpi .slt c8_i32_50 c0_i32_54
  let v84 : BitVec 32 := Scalar.extui v83
  let v85 : BitVec 32 := Scalar.subi v82 v84
  let v86 : BitVec 1 := Scalar.cmpi .ne v80 v85
  let v87 : BitVec 32 := Scalar.remsi v74 c8_i32_50
  let c0_i32_55 : BitVec 32 := 0#32
  let v88 : BitVec 1 := Scalar.cmpi .ne v87 c0_i32_55
  let v89 : BitVec 1 := Scalar.andi v86 v88
  let v75 : BitVec 32 := Scalar.divsi v74 c8_i32_50
  let c1_i32_56 : BitVec 32 := 1#32
  let v90 : BitVec 32 := Scalar.subi v75 c1_i32_56
  let v91 : BitVec 32 := Scalar.select v89 v90 v75
  let v103 : BitVec 32 := Scalar.addi c0_i32_64 v91
  let v104 : Index := Scalar.indexCast v103
  let c8_i32_57 : BitVec 32 := 8#32
  let c0_i32_58 : BitVec 32 := 0#32
  let v92 : BitVec 1 := Scalar.cmpi .eq c8_i32_57 c0_i32_58
  let c1_i32_59 : BitVec 32 := 1#32
  let v93 : BitVec 32 := Scalar.select v92 c1_i32_59 c8_i32_57
  let v94 : BitVec 32 := Scalar.remsi v74 v93
  let c0_i32_61 : BitVec 32 := 0#32
  let v96 : BitVec 1 := Scalar.cmpi .slt v94 c0_i32_61
  let c0_i32_62 : BitVec 32 := 0#32
  let v97 : BitVec 1 := Scalar.cmpi .slt v93 c0_i32_62
  let v98 : BitVec 1 := Scalar.xori v96 v97
  let c0_i32_60 : BitVec 32 := 0#32
  let v95 : BitVec 1 := Scalar.cmpi .ne v94 c0_i32_60
  let v99 : BitVec 1 := Scalar.andi v98 v95
  let v100 : BitVec 32 := Scalar.addi v94 v93
  let v101 : BitVec 32 := Scalar.select v99 v100 v94
  let c16_i32_63 : BitVec 32 := 16#32
  let v102 : BitVec 32 := Scalar.muli v101 c16_i32_63
  let v105 : Index := Scalar.indexCast v102
  ![v104.toNat, v105.toNat]
def k0_off9 (k0_t3 : Fin k0_t3_loop.trips) (c0_i32_66 : BitVec 32) : Fin 2 → Nat :=
  let c0_i32_49 : BitVec 32 := 0#32
  let c0_i32_41 : BitVec 32 := 0#32
  let c1_i32_42 : BitVec 32 := 1#32
  let arg16 : BitVec 32 := Scf.iv c0_i32_41 c1_i32_42 k0_t3
  let c1_i32_48 : BitVec 32 := 1#32
  let v73 : BitVec 32 := Scalar.muli arg16 c1_i32_48
  let v74 : BitVec 32 := Scalar.addi c0_i32_49 v73
  let c0_i32_51 : BitVec 32 := 0#32
  let v76 : BitVec 1 := Scalar.cmpi .sgt v74 c0_i32_51
  let v77 : BitVec 32 := Scalar.extui v76
  let c0_i32_52 : BitVec 32 := 0#32
  let v78 : BitVec 1 := Scalar.cmpi .slt v74 c0_i32_52
  let v79 : BitVec 32 := Scalar.extui v78
  let v80 : BitVec 32 := Scalar.subi v77 v79
  let c8_i32_50 : BitVec 32 := 8#32
  let c0_i32_53 : BitVec 32 := 0#32
  let v81 : BitVec 1 := Scalar.cmpi .sgt c8_i32_50 c0_i32_53
  let v82 : BitVec 32 := Scalar.extui v81
  let c0_i32_54 : BitVec 32 := 0#32
  let v83 : BitVec 1 := Scalar.cmpi .slt c8_i32_50 c0_i32_54
  let v84 : BitVec 32 := Scalar.extui v83
  let v85 : BitVec 32 := Scalar.subi v82 v84
  let v86 : BitVec 1 := Scalar.cmpi .ne v80 v85
  let v87 : BitVec 32 := Scalar.remsi v74 c8_i32_50
  let c0_i32_55 : BitVec 32 := 0#32
  let v88 : BitVec 1 := Scalar.cmpi .ne v87 c0_i32_55
  let v89 : BitVec 1 := Scalar.andi v86 v88
  let v75 : BitVec 32 := Scalar.divsi v74 c8_i32_50
  let c1_i32_56 : BitVec 32 := 1#32
  let v90 : BitVec 32 := Scalar.subi v75 c1_i32_56
  let v91 : BitVec 32 := Scalar.select v89 v90 v75
  let v111 : BitVec 32 := Scalar.addi c0_i32_66 v91
  let v112 : Index := Scalar.indexCast v111
  let c8_i32_57 : BitVec 32 := 8#32
  let c0_i32_58 : BitVec 32 := 0#32
  let v92 : BitVec 1 := Scalar.cmpi .eq c8_i32_57 c0_i32_58
  let c1_i32_59 : BitVec 32 := 1#32
  let v93 : BitVec 32 := Scalar.select v92 c1_i32_59 c8_i32_57
  let v94 : BitVec 32 := Scalar.remsi v74 v93
  let c0_i32_61 : BitVec 32 := 0#32
  let v96 : BitVec 1 := Scalar.cmpi .slt v94 c0_i32_61
  let c0_i32_62 : BitVec 32 := 0#32
  let v97 : BitVec 1 := Scalar.cmpi .slt v93 c0_i32_62
  let v98 : BitVec 1 := Scalar.xori v96 v97
  let c0_i32_60 : BitVec 32 := 0#32
  let v95 : BitVec 1 := Scalar.cmpi .ne v94 c0_i32_60
  let v99 : BitVec 1 := Scalar.andi v98 v95
  let v100 : BitVec 32 := Scalar.addi v94 v93
  let v101 : BitVec 32 := Scalar.select v99 v100 v94
  let c16_i32_63 : BitVec 32 := 16#32
  let v102 : BitVec 32 := Scalar.muli v101 c16_i32_63
  let v113 : Index := Scalar.indexCast v102
  ![v112.toNat, v113.toNat]

def k0_chk1 (i : grid0.Coords) (k0_t2 : Fin k0_t2_loop.trips) (v179 : IVec S16 32) : Prop :=
  (∀ (k0_h3 : k0_cond3 i k0_t2 = 1#1), ∀ a x, ((![v179] : Fin 1 → IVec S16 32) a x).toNat < S4096.size a) ∧
  (∀ (k0_h3 : k0_cond3 i k0_t2 = 1#1), ∀ a x, ((![v179] : Fin 1 → IVec S16 32) a x).toNat < S4096.size a) ∧
  (∀ (k0_h3 : k0_cond3 i k0_t2 = 1#1), ∀ a x, ((![v179] : Fin 1 → IVec S16 32) a x).toNat < S4096.size a) ∧
  (∀ (k0_h3 : k0_cond3 i k0_t2 = 1#1), ∀ a x, ((![v179] : Fin 1 → IVec S16 32) a x).toNat < S4096.size a)
theorem k0_idx1_inb : ∀ (i : grid0.Coords) (k0_t2 : Fin k0_t2_loop.trips) (v179 : IVec S16 32) (k0_hw1 : k0_chk1 i k0_t2 v179), ∀ (k0_h3 : k0_cond3 i k0_t2 = 1#1), ∀ a x, ((![v179] : Fin 1 → IVec S16 32) a x).toNat < S4096.size a := fun i k0_t2 v179 k0_hw1 k0_h3 => k0_hw1.1 k0_h3
theorem k0_idx3_inb : ∀ (i : grid0.Coords) (k0_t2 : Fin k0_t2_loop.trips) (v179 : IVec S16 32) (k0_hw1 : k0_chk1 i k0_t2 v179), ∀ (k0_h3 : k0_cond3 i k0_t2 = 1#1), ∀ a x, ((![v179] : Fin 1 → IVec S16 32) a x).toNat < S4096.size a := fun i k0_t2 v179 k0_hw1 k0_h3 => k0_hw1.2.1 k0_h3
theorem k0_idx5_inb : ∀ (i : grid0.Coords) (k0_t2 : Fin k0_t2_loop.trips) (v179 : IVec S16 32) (k0_hw1 : k0_chk1 i k0_t2 v179), ∀ (k0_h3 : k0_cond3 i k0_t2 = 1#1), ∀ a x, ((![v179] : Fin 1 → IVec S16 32) a x).toNat < S4096.size a := fun i k0_t2 v179 k0_hw1 k0_h3 => k0_hw1.2.2.1 k0_h3
theorem k0_idx7_inb : ∀ (i : grid0.Coords) (k0_t2 : Fin k0_t2_loop.trips) (v179 : IVec S16 32) (k0_hw1 : k0_chk1 i k0_t2 v179), ∀ (k0_h3 : k0_cond3 i k0_t2 = 1#1), ∀ a x, ((![v179] : Fin 1 → IVec S16 32) a x).toNat < S4096.size a := fun i k0_t2 v179 k0_hw1 k0_h3 => k0_hw1.2.2.2 k0_h3

def k0_chk2 (i : grid0.Coords) (k0_t2 : Fin k0_t2_loop.trips) (v184 : IVec S16 32) : Prop :=
  (∀ (k0_h3 : k0_cond3 i k0_t2 = 1#1), ∀ a x, ((![v184] : Fin 1 → IVec S16 32) a x).toNat < S4096.size a) ∧
  (∀ (k0_h3 : k0_cond3 i k0_t2 = 1#1), ∀ a x, ((![v184] : Fin 1 → IVec S16 32) a x).toNat < S4096.size a) ∧
  (∀ (k0_h3 : k0_cond3 i k0_t2 = 1#1), ∀ a x, ((![v184] : Fin 1 → IVec S16 32) a x).toNat < S4096.size a) ∧
  (∀ (k0_h3 : k0_cond3 i k0_t2 = 1#1), ∀ a x, ((![v184] : Fin 1 → IVec S16 32) a x).toNat < S4096.size a)
theorem k0_idx2_inb : ∀ (i : grid0.Coords) (k0_t2 : Fin k0_t2_loop.trips) (v184 : IVec S16 32) (k0_hw2 : k0_chk2 i k0_t2 v184), ∀ (k0_h3 : k0_cond3 i k0_t2 = 1#1), ∀ a x, ((![v184] : Fin 1 → IVec S16 32) a x).toNat < S4096.size a := fun i k0_t2 v184 k0_hw2 k0_h3 => k0_hw2.1 k0_h3
theorem k0_idx4_inb : ∀ (i : grid0.Coords) (k0_t2 : Fin k0_t2_loop.trips) (v184 : IVec S16 32) (k0_hw2 : k0_chk2 i k0_t2 v184), ∀ (k0_h3 : k0_cond3 i k0_t2 = 1#1), ∀ a x, ((![v184] : Fin 1 → IVec S16 32) a x).toNat < S4096.size a := fun i k0_t2 v184 k0_hw2 k0_h3 => k0_hw2.2.1 k0_h3
theorem k0_idx6_inb : ∀ (i : grid0.Coords) (k0_t2 : Fin k0_t2_loop.trips) (v184 : IVec S16 32) (k0_hw2 : k0_chk2 i k0_t2 v184), ∀ (k0_h3 : k0_cond3 i k0_t2 = 1#1), ∀ a x, ((![v184] : Fin 1 → IVec S16 32) a x).toNat < S4096.size a := fun i k0_t2 v184 k0_hw2 k0_h3 => k0_hw2.2.2.1 k0_h3
theorem k0_idx8_inb : ∀ (i : grid0.Coords) (k0_t2 : Fin k0_t2_loop.trips) (v184 : IVec S16 32) (k0_hw2 : k0_chk2 i k0_t2 v184), ∀ (k0_h3 : k0_cond3 i k0_t2 = 1#1), ∀ a x, ((![v184] : Fin 1 → IVec S16 32) a x).toNat < S4096.size a := fun i k0_t2 v184 k0_hw2 k0_h3 => k0_hw2.2.2.2 k0_h3

def k0_chk3 (i : grid0.Coords) (k0_t2 : Fin k0_t2_loop.trips) (v197 : IVec S16 32) : Prop :=
  (∀ (k0_h3 : k0_cond3 i k0_t2 = 1#1), ∀ a x, ((![v197] : Fin 1 → IVec S16 32) a x).toNat < S4096.size a) ∧
  (∀ (k0_h3 : k0_cond3 i k0_t2 = 1#1), ∀ a x, ((![v197] : Fin 1 → IVec S16 32) a x).toNat < S4096.size a) ∧
  (∀ (k0_h3 : k0_cond3 i k0_t2 = 1#1), ∀ a x, ((![v197] : Fin 1 → IVec S16 32) a x).toNat < S4096.size a) ∧
  (∀ (k0_h3 : k0_cond3 i k0_t2 = 1#1), ∀ a x, ((![v197] : Fin 1 → IVec S16 32) a x).toNat < S4096.size a)
theorem k0_idx9_inb : ∀ (i : grid0.Coords) (k0_t2 : Fin k0_t2_loop.trips) (v197 : IVec S16 32) (k0_hw3 : k0_chk3 i k0_t2 v197), ∀ (k0_h3 : k0_cond3 i k0_t2 = 1#1), ∀ a x, ((![v197] : Fin 1 → IVec S16 32) a x).toNat < S4096.size a := fun i k0_t2 v197 k0_hw3 k0_h3 => k0_hw3.1 k0_h3
theorem k0_idx11_inb : ∀ (i : grid0.Coords) (k0_t2 : Fin k0_t2_loop.trips) (v197 : IVec S16 32) (k0_hw3 : k0_chk3 i k0_t2 v197), ∀ (k0_h3 : k0_cond3 i k0_t2 = 1#1), ∀ a x, ((![v197] : Fin 1 → IVec S16 32) a x).toNat < S4096.size a := fun i k0_t2 v197 k0_hw3 k0_h3 => k0_hw3.2.1 k0_h3
theorem k0_idx13_inb : ∀ (i : grid0.Coords) (k0_t2 : Fin k0_t2_loop.trips) (v197 : IVec S16 32) (k0_hw3 : k0_chk3 i k0_t2 v197), ∀ (k0_h3 : k0_cond3 i k0_t2 = 1#1), ∀ a x, ((![v197] : Fin 1 → IVec S16 32) a x).toNat < S4096.size a := fun i k0_t2 v197 k0_hw3 k0_h3 => k0_hw3.2.2.1 k0_h3
theorem k0_idx15_inb : ∀ (i : grid0.Coords) (k0_t2 : Fin k0_t2_loop.trips) (v197 : IVec S16 32) (k0_hw3 : k0_chk3 i k0_t2 v197), ∀ (k0_h3 : k0_cond3 i k0_t2 = 1#1), ∀ a x, ((![v197] : Fin 1 → IVec S16 32) a x).toNat < S4096.size a := fun i k0_t2 v197 k0_hw3 k0_h3 => k0_hw3.2.2.2 k0_h3

def k0_chk4 (i : grid0.Coords) (k0_t2 : Fin k0_t2_loop.trips) (v202 : IVec S16 32) : Prop :=
  (∀ (k0_h3 : k0_cond3 i k0_t2 = 1#1), ∀ a x, ((![v202] : Fin 1 → IVec S16 32) a x).toNat < S4096.size a) ∧
  (∀ (k0_h3 : k0_cond3 i k0_t2 = 1#1), ∀ a x, ((![v202] : Fin 1 → IVec S16 32) a x).toNat < S4096.size a) ∧
  (∀ (k0_h3 : k0_cond3 i k0_t2 = 1#1), ∀ a x, ((![v202] : Fin 1 → IVec S16 32) a x).toNat < S4096.size a) ∧
  (∀ (k0_h3 : k0_cond3 i k0_t2 = 1#1), ∀ a x, ((![v202] : Fin 1 → IVec S16 32) a x).toNat < S4096.size a)
theorem k0_idx10_inb : ∀ (i : grid0.Coords) (k0_t2 : Fin k0_t2_loop.trips) (v202 : IVec S16 32) (k0_hw4 : k0_chk4 i k0_t2 v202), ∀ (k0_h3 : k0_cond3 i k0_t2 = 1#1), ∀ a x, ((![v202] : Fin 1 → IVec S16 32) a x).toNat < S4096.size a := fun i k0_t2 v202 k0_hw4 k0_h3 => k0_hw4.1 k0_h3
theorem k0_idx12_inb : ∀ (i : grid0.Coords) (k0_t2 : Fin k0_t2_loop.trips) (v202 : IVec S16 32) (k0_hw4 : k0_chk4 i k0_t2 v202), ∀ (k0_h3 : k0_cond3 i k0_t2 = 1#1), ∀ a x, ((![v202] : Fin 1 → IVec S16 32) a x).toNat < S4096.size a := fun i k0_t2 v202 k0_hw4 k0_h3 => k0_hw4.2.1 k0_h3
theorem k0_idx14_inb : ∀ (i : grid0.Coords) (k0_t2 : Fin k0_t2_loop.trips) (v202 : IVec S16 32) (k0_hw4 : k0_chk4 i k0_t2 v202), ∀ (k0_h3 : k0_cond3 i k0_t2 = 1#1), ∀ a x, ((![v202] : Fin 1 → IVec S16 32) a x).toNat < S4096.size a := fun i k0_t2 v202 k0_hw4 k0_h3 => k0_hw4.2.2.1 k0_h3
theorem k0_idx16_inb : ∀ (i : grid0.Coords) (k0_t2 : Fin k0_t2_loop.trips) (v202 : IVec S16 32) (k0_hw4 : k0_chk4 i k0_t2 v202), ∀ (k0_h3 : k0_cond3 i k0_t2 = 1#1), ∀ a x, ((![v202] : Fin 1 → IVec S16 32) a x).toNat < S4096.size a := fun i k0_t2 v202 k0_hw4 k0_h3 => k0_hw4.2.2.2 k0_h3

def k0_chk5 (i : grid0.Coords) (k0_t2 : Fin k0_t2_loop.trips) (v215 : IVec S16 32) : Prop :=
  (∀ (k0_h3 : k0_cond3 i k0_t2 = 1#1), ∀ a x, ((![v215] : Fin 1 → IVec S16 32) a x).toNat < S4096.size a) ∧
  (∀ (k0_h3 : k0_cond3 i k0_t2 = 1#1), ∀ a x, ((![v215] : Fin 1 → IVec S16 32) a x).toNat < S4096.size a) ∧
  (∀ (k0_h3 : k0_cond3 i k0_t2 = 1#1), ∀ a x, ((![v215] : Fin 1 → IVec S16 32) a x).toNat < S4096.size a) ∧
  (∀ (k0_h3 : k0_cond3 i k0_t2 = 1#1), ∀ a x, ((![v215] : Fin 1 → IVec S16 32) a x).toNat < S4096.size a)
theorem k0_idx17_inb : ∀ (i : grid0.Coords) (k0_t2 : Fin k0_t2_loop.trips) (v215 : IVec S16 32) (k0_hw5 : k0_chk5 i k0_t2 v215), ∀ (k0_h3 : k0_cond3 i k0_t2 = 1#1), ∀ a x, ((![v215] : Fin 1 → IVec S16 32) a x).toNat < S4096.size a := fun i k0_t2 v215 k0_hw5 k0_h3 => k0_hw5.1 k0_h3
theorem k0_idx19_inb : ∀ (i : grid0.Coords) (k0_t2 : Fin k0_t2_loop.trips) (v215 : IVec S16 32) (k0_hw5 : k0_chk5 i k0_t2 v215), ∀ (k0_h3 : k0_cond3 i k0_t2 = 1#1), ∀ a x, ((![v215] : Fin 1 → IVec S16 32) a x).toNat < S4096.size a := fun i k0_t2 v215 k0_hw5 k0_h3 => k0_hw5.2.1 k0_h3
theorem k0_idx21_inb : ∀ (i : grid0.Coords) (k0_t2 : Fin k0_t2_loop.trips) (v215 : IVec S16 32) (k0_hw5 : k0_chk5 i k0_t2 v215), ∀ (k0_h3 : k0_cond3 i k0_t2 = 1#1), ∀ a x, ((![v215] : Fin 1 → IVec S16 32) a x).toNat < S4096.size a := fun i k0_t2 v215 k0_hw5 k0_h3 => k0_hw5.2.2.1 k0_h3
theorem k0_idx23_inb : ∀ (i : grid0.Coords) (k0_t2 : Fin k0_t2_loop.trips) (v215 : IVec S16 32) (k0_hw5 : k0_chk5 i k0_t2 v215), ∀ (k0_h3 : k0_cond3 i k0_t2 = 1#1), ∀ a x, ((![v215] : Fin 1 → IVec S16 32) a x).toNat < S4096.size a := fun i k0_t2 v215 k0_hw5 k0_h3 => k0_hw5.2.2.2 k0_h3

def k0_chk6 (i : grid0.Coords) (k0_t2 : Fin k0_t2_loop.trips) (v220 : IVec S16 32) : Prop :=
  (∀ (k0_h3 : k0_cond3 i k0_t2 = 1#1), ∀ a x, ((![v220] : Fin 1 → IVec S16 32) a x).toNat < S4096.size a) ∧
  (∀ (k0_h3 : k0_cond3 i k0_t2 = 1#1), ∀ a x, ((![v220] : Fin 1 → IVec S16 32) a x).toNat < S4096.size a) ∧
  (∀ (k0_h3 : k0_cond3 i k0_t2 = 1#1), ∀ a x, ((![v220] : Fin 1 → IVec S16 32) a x).toNat < S4096.size a) ∧
  (∀ (k0_h3 : k0_cond3 i k0_t2 = 1#1), ∀ a x, ((![v220] : Fin 1 → IVec S16 32) a x).toNat < S4096.size a)
theorem k0_idx18_inb : ∀ (i : grid0.Coords) (k0_t2 : Fin k0_t2_loop.trips) (v220 : IVec S16 32) (k0_hw6 : k0_chk6 i k0_t2 v220), ∀ (k0_h3 : k0_cond3 i k0_t2 = 1#1), ∀ a x, ((![v220] : Fin 1 → IVec S16 32) a x).toNat < S4096.size a := fun i k0_t2 v220 k0_hw6 k0_h3 => k0_hw6.1 k0_h3
theorem k0_idx20_inb : ∀ (i : grid0.Coords) (k0_t2 : Fin k0_t2_loop.trips) (v220 : IVec S16 32) (k0_hw6 : k0_chk6 i k0_t2 v220), ∀ (k0_h3 : k0_cond3 i k0_t2 = 1#1), ∀ a x, ((![v220] : Fin 1 → IVec S16 32) a x).toNat < S4096.size a := fun i k0_t2 v220 k0_hw6 k0_h3 => k0_hw6.2.1 k0_h3
theorem k0_idx22_inb : ∀ (i : grid0.Coords) (k0_t2 : Fin k0_t2_loop.trips) (v220 : IVec S16 32) (k0_hw6 : k0_chk6 i k0_t2 v220), ∀ (k0_h3 : k0_cond3 i k0_t2 = 1#1), ∀ a x, ((![v220] : Fin 1 → IVec S16 32) a x).toNat < S4096.size a := fun i k0_t2 v220 k0_hw6 k0_h3 => k0_hw6.2.2.1 k0_h3
theorem k0_idx24_inb : ∀ (i : grid0.Coords) (k0_t2 : Fin k0_t2_loop.trips) (v220 : IVec S16 32) (k0_hw6 : k0_chk6 i k0_t2 v220), ∀ (k0_h3 : k0_cond3 i k0_t2 = 1#1), ∀ a x, ((![v220] : Fin 1 → IVec S16 32) a x).toNat < S4096.size a := fun i k0_t2 v220 k0_hw6 k0_h3 => k0_hw6.2.2.2 k0_h3

def k0_chk7 (i : grid0.Coords) (k0_t2 : Fin k0_t2_loop.trips) (v233 : IVec S16 32) : Prop :=
  (∀ (k0_h3 : k0_cond3 i k0_t2 = 1#1), ∀ a x, ((![v233] : Fin 1 → IVec S16 32) a x).toNat < S4096.size a) ∧
  (∀ (k0_h3 : k0_cond3 i k0_t2 = 1#1), ∀ a x, ((![v233] : Fin 1 → IVec S16 32) a x).toNat < S4096.size a) ∧
  (∀ (k0_h3 : k0_cond3 i k0_t2 = 1#1), ∀ a x, ((![v233] : Fin 1 → IVec S16 32) a x).toNat < S4096.size a) ∧
  (∀ (k0_h3 : k0_cond3 i k0_t2 = 1#1), ∀ a x, ((![v233] : Fin 1 → IVec S16 32) a x).toNat < S4096.size a)
theorem k0_idx25_inb : ∀ (i : grid0.Coords) (k0_t2 : Fin k0_t2_loop.trips) (v233 : IVec S16 32) (k0_hw7 : k0_chk7 i k0_t2 v233), ∀ (k0_h3 : k0_cond3 i k0_t2 = 1#1), ∀ a x, ((![v233] : Fin 1 → IVec S16 32) a x).toNat < S4096.size a := fun i k0_t2 v233 k0_hw7 k0_h3 => k0_hw7.1 k0_h3
theorem k0_idx27_inb : ∀ (i : grid0.Coords) (k0_t2 : Fin k0_t2_loop.trips) (v233 : IVec S16 32) (k0_hw7 : k0_chk7 i k0_t2 v233), ∀ (k0_h3 : k0_cond3 i k0_t2 = 1#1), ∀ a x, ((![v233] : Fin 1 → IVec S16 32) a x).toNat < S4096.size a := fun i k0_t2 v233 k0_hw7 k0_h3 => k0_hw7.2.1 k0_h3
theorem k0_idx29_inb : ∀ (i : grid0.Coords) (k0_t2 : Fin k0_t2_loop.trips) (v233 : IVec S16 32) (k0_hw7 : k0_chk7 i k0_t2 v233), ∀ (k0_h3 : k0_cond3 i k0_t2 = 1#1), ∀ a x, ((![v233] : Fin 1 → IVec S16 32) a x).toNat < S4096.size a := fun i k0_t2 v233 k0_hw7 k0_h3 => k0_hw7.2.2.1 k0_h3
theorem k0_idx31_inb : ∀ (i : grid0.Coords) (k0_t2 : Fin k0_t2_loop.trips) (v233 : IVec S16 32) (k0_hw7 : k0_chk7 i k0_t2 v233), ∀ (k0_h3 : k0_cond3 i k0_t2 = 1#1), ∀ a x, ((![v233] : Fin 1 → IVec S16 32) a x).toNat < S4096.size a := fun i k0_t2 v233 k0_hw7 k0_h3 => k0_hw7.2.2.2 k0_h3

def k0_chk8 (i : grid0.Coords) (k0_t2 : Fin k0_t2_loop.trips) (v238 : IVec S16 32) : Prop :=
  (∀ (k0_h3 : k0_cond3 i k0_t2 = 1#1), ∀ a x, ((![v238] : Fin 1 → IVec S16 32) a x).toNat < S4096.size a) ∧
  (∀ (k0_h3 : k0_cond3 i k0_t2 = 1#1), ∀ a x, ((![v238] : Fin 1 → IVec S16 32) a x).toNat < S4096.size a) ∧
  (∀ (k0_h3 : k0_cond3 i k0_t2 = 1#1), ∀ a x, ((![v238] : Fin 1 → IVec S16 32) a x).toNat < S4096.size a) ∧
  (∀ (k0_h3 : k0_cond3 i k0_t2 = 1#1), ∀ a x, ((![v238] : Fin 1 → IVec S16 32) a x).toNat < S4096.size a)
theorem k0_idx26_inb : ∀ (i : grid0.Coords) (k0_t2 : Fin k0_t2_loop.trips) (v238 : IVec S16 32) (k0_hw8 : k0_chk8 i k0_t2 v238), ∀ (k0_h3 : k0_cond3 i k0_t2 = 1#1), ∀ a x, ((![v238] : Fin 1 → IVec S16 32) a x).toNat < S4096.size a := fun i k0_t2 v238 k0_hw8 k0_h3 => k0_hw8.1 k0_h3
theorem k0_idx28_inb : ∀ (i : grid0.Coords) (k0_t2 : Fin k0_t2_loop.trips) (v238 : IVec S16 32) (k0_hw8 : k0_chk8 i k0_t2 v238), ∀ (k0_h3 : k0_cond3 i k0_t2 = 1#1), ∀ a x, ((![v238] : Fin 1 → IVec S16 32) a x).toNat < S4096.size a := fun i k0_t2 v238 k0_hw8 k0_h3 => k0_hw8.2.1 k0_h3
theorem k0_idx30_inb : ∀ (i : grid0.Coords) (k0_t2 : Fin k0_t2_loop.trips) (v238 : IVec S16 32) (k0_hw8 : k0_chk8 i k0_t2 v238), ∀ (k0_h3 : k0_cond3 i k0_t2 = 1#1), ∀ a x, ((![v238] : Fin 1 → IVec S16 32) a x).toNat < S4096.size a := fun i k0_t2 v238 k0_hw8 k0_h3 => k0_hw8.2.2.1 k0_h3
theorem k0_idx32_inb : ∀ (i : grid0.Coords) (k0_t2 : Fin k0_t2_loop.trips) (v238 : IVec S16 32) (k0_hw8 : k0_chk8 i k0_t2 v238), ∀ (k0_h3 : k0_cond3 i k0_t2 = 1#1), ∀ a x, ((![v238] : Fin 1 → IVec S16 32) a x).toNat < S4096.size a := fun i k0_t2 v238 k0_hw8 k0_h3 => k0_hw8.2.2.2 k0_h3
def k0_cond4 (i : grid0.Coords) (k0_t2 : Fin k0_t2_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_25 : BitVec 32 := 0#32
  let c0_i32_18 : BitVec 32 := 0#32
  let c1_i32_19 : BitVec 32 := 1#32
  let arg15 : BitVec 32 := Scf.iv c0_i32_18 c1_i32_19 k0_t2
  let c2_i32_24 : BitVec 32 := 2#32
  let v41 : BitVec 32 := Scalar.muli arg15 c2_i32_24
  let v42 : BitVec 32 := Scalar.addi c0_i32_25 v41
  let c0_i32_26 : BitVec 32 := 0#32
  let v43 : BitVec 32 := Scalar.addi v42 c0_i32_26
  let c2_i32_44 : BitVec 32 := 2#32
  let v67 : BitVec 32 := Scalar.addi v43 c2_i32_44
  let c16_i32_45 : BitVec 32 := 16#32
  let v68 : BitVec 32 := Scalar.muli v67 c16_i32_45
  let v69 : BitVec 32 := Scalar.addi v28 v68
  let c420_i32_46 : BitVec 32 := 420#32
  let v70 : BitVec 1 := Scalar.cmpi .slt v69 c420_i32_46
  let v71 : BitVec 32 := Scalar.extui v70
  let c0_i32_47 : BitVec 32 := 0#32
  let v72 : BitVec 1 := Scalar.cmpi .ne v71 c0_i32_47
  v72

def k0_off10 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_25 : BitVec 32 := 0#32
  let c0_i32_18 : BitVec 32 := 0#32
  let c1_i32_19 : BitVec 32 := 1#32
  let arg15 : BitVec 32 := Scf.iv c0_i32_18 c1_i32_19 k0_t2
  let c2_i32_24 : BitVec 32 := 2#32
  let v41 : BitVec 32 := Scalar.muli arg15 c2_i32_24
  let v42 : BitVec 32 := Scalar.addi c0_i32_25 v41
  let c0_i32_26 : BitVec 32 := 0#32
  let v43 : BitVec 32 := Scalar.addi v42 c0_i32_26
  let c2_i32_44 : BitVec 32 := 2#32
  let v67 : BitVec 32 := Scalar.addi v43 c2_i32_44
  let c16_i32_48 : BitVec 32 := 16#32
  let v73 : BitVec 32 := Scalar.muli v67 c16_i32_48
  let v74 : BitVec 32 := Scalar.addi v28 v73
  let c256_i32_49 : BitVec 32 := 256#32
  let v75 : BitVec 32 := Scalar.muli v74 c256_i32_49
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c128_i32_50 : BitVec 32 := 128#32
  let v76 : BitVec 32 := Scalar.muli v11 c128_i32_50
  let v77 : BitVec 32 := Scalar.addi v75 v76
  let c0_i32_53 : BitVec 32 := 0#32
  ![v77.toNat, 0]
def k0_off11 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_25 : BitVec 32 := 0#32
  let c0_i32_18 : BitVec 32 := 0#32
  let c1_i32_19 : BitVec 32 := 1#32
  let arg15 : BitVec 32 := Scf.iv c0_i32_18 c1_i32_19 k0_t2
  let c2_i32_24 : BitVec 32 := 2#32
  let v41 : BitVec 32 := Scalar.muli arg15 c2_i32_24
  let v42 : BitVec 32 := Scalar.addi c0_i32_25 v41
  let c0_i32_26 : BitVec 32 := 0#32
  let v43 : BitVec 32 := Scalar.addi v42 c0_i32_26
  let c2_i32_44 : BitVec 32 := 2#32
  let v67 : BitVec 32 := Scalar.addi v43 c2_i32_44
  let c16_i32_48 : BitVec 32 := 16#32
  let v73 : BitVec 32 := Scalar.muli v67 c16_i32_48
  let v74 : BitVec 32 := Scalar.addi v28 v73
  let c2_i32_51 : BitVec 32 := 2#32
  let v78 : BitVec 32 := Scalar.muli v74 c2_i32_51
  let c8_i32_52 : BitVec 32 := 8#32
  let v79 : BitVec 32 := Scalar.muli v78 c8_i32_52
  let c0_i32_55 : BitVec 32 := 0#32
  ![v79.toNat, 0]
def k0_cond5 (i : grid0.Coords) (k0_t2 : Fin k0_t2_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_25 : BitVec 32 := 0#32
  let c0_i32_18 : BitVec 32 := 0#32
  let c1_i32_19 : BitVec 32 := 1#32
  let arg15 : BitVec 32 := Scf.iv c0_i32_18 c1_i32_19 k0_t2
  let c2_i32_24 : BitVec 32 := 2#32
  let v41 : BitVec 32 := Scalar.muli arg15 c2_i32_24
  let v42 : BitVec 32 := Scalar.addi c0_i32_25 v41
  let c1_i32_30 : BitVec 32 := 1#32
  let v49 : BitVec 32 := Scalar.addi v42 c1_i32_30
  let c16_i32_31 : BitVec 32 := 16#32
  let v50 : BitVec 32 := Scalar.muli v49 c16_i32_31
  let v51 : BitVec 32 := Scalar.addi v28 v50
  let c420_i32_32 : BitVec 32 := 420#32
  let v52 : BitVec 1 := Scalar.cmpi .slt v51 c420_i32_32
  let v53 : BitVec 32 := Scalar.extui v52
  let c0_i32_33 : BitVec 32 := 0#32
  let v54 : BitVec 1 := Scalar.cmpi .ne v53 c0_i32_33
  v54

def k0_off12 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_25 : BitVec 32 := 0#32
  let c0_i32_18 : BitVec 32 := 0#32
  let c1_i32_19 : BitVec 32 := 1#32
  let arg15 : BitVec 32 := Scf.iv c0_i32_18 c1_i32_19 k0_t2
  let c2_i32_24 : BitVec 32 := 2#32
  let v41 : BitVec 32 := Scalar.muli arg15 c2_i32_24
  let v42 : BitVec 32 := Scalar.addi c0_i32_25 v41
  let c1_i32_30 : BitVec 32 := 1#32
  let v49 : BitVec 32 := Scalar.addi v42 c1_i32_30
  let c16_i32_34 : BitVec 32 := 16#32
  let v55 : BitVec 32 := Scalar.muli v49 c16_i32_34
  let v56 : BitVec 32 := Scalar.addi v28 v55
  let c256_i32 : BitVec 32 := 256#32
  let v57 : BitVec 32 := Scalar.muli v56 c256_i32
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c128_i32_35 : BitVec 32 := 128#32
  let v58 : BitVec 32 := Scalar.muli v11 c128_i32_35
  let v59 : BitVec 32 := Scalar.addi v57 v58
  let c0_i32_37 : BitVec 32 := 0#32
  ![v59.toNat, 0]
def k0_off13 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_25 : BitVec 32 := 0#32
  let c0_i32_18 : BitVec 32 := 0#32
  let c1_i32_19 : BitVec 32 := 1#32
  let arg15 : BitVec 32 := Scf.iv c0_i32_18 c1_i32_19 k0_t2
  let c2_i32_24 : BitVec 32 := 2#32
  let v41 : BitVec 32 := Scalar.muli arg15 c2_i32_24
  let v42 : BitVec 32 := Scalar.addi c0_i32_25 v41
  let c1_i32_30 : BitVec 32 := 1#32
  let v49 : BitVec 32 := Scalar.addi v42 c1_i32_30
  let c16_i32_34 : BitVec 32 := 16#32
  let v55 : BitVec 32 := Scalar.muli v49 c16_i32_34
  let v56 : BitVec 32 := Scalar.addi v28 v55
  let c2_i32_36 : BitVec 32 := 2#32
  let v60 : BitVec 32 := Scalar.muli v56 c2_i32_36
  let c8_i32 : BitVec 32 := 8#32
  let v61 : BitVec 32 := Scalar.muli v60 c8_i32
  let c0_i32_39 : BitVec 32 := 0#32
  ![v61.toNat, 0]
@[reducible] def k0_t4_loop : Scf.Loop 32 :=
  let c0_i32_41 : BitVec 32 := 0#32
  let c64_i32 : BitVec 32 := 64#32
  let v66 : BitVec 32 := Scalar.addi c0_i32_41 c64_i32
  let c1_i32_42 : BitVec 32 := 1#32
  ⟨c0_i32_41, v66, c1_i32_42⟩
def k0_off14 (k0_t4 : Fin k0_t4_loop.trips) (c0_i32_64 : BitVec 32) : Fin 2 → Nat :=
  let c0_i32_49 : BitVec 32 := 0#32
  let c0_i32_41 : BitVec 32 := 0#32
  let c1_i32_42 : BitVec 32 := 1#32
  let arg16 : BitVec 32 := Scf.iv c0_i32_41 c1_i32_42 k0_t4
  let c1_i32_48 : BitVec 32 := 1#32
  let v73 : BitVec 32 := Scalar.muli arg16 c1_i32_48
  let v74 : BitVec 32 := Scalar.addi c0_i32_49 v73
  let c0_i32_51 : BitVec 32 := 0#32
  let v76 : BitVec 1 := Scalar.cmpi .sgt v74 c0_i32_51
  let v77 : BitVec 32 := Scalar.extui v76
  let c0_i32_52 : BitVec 32 := 0#32
  let v78 : BitVec 1 := Scalar.cmpi .slt v74 c0_i32_52
  let v79 : BitVec 32 := Scalar.extui v78
  let v80 : BitVec 32 := Scalar.subi v77 v79
  let c8_i32_50 : BitVec 32 := 8#32
  let c0_i32_53 : BitVec 32 := 0#32
  let v81 : BitVec 1 := Scalar.cmpi .sgt c8_i32_50 c0_i32_53
  let v82 : BitVec 32 := Scalar.extui v81
  let c0_i32_54 : BitVec 32 := 0#32
  let v83 : BitVec 1 := Scalar.cmpi .slt c8_i32_50 c0_i32_54
  let v84 : BitVec 32 := Scalar.extui v83
  let v85 : BitVec 32 := Scalar.subi v82 v84
  let v86 : BitVec 1 := Scalar.cmpi .ne v80 v85
  let v87 : BitVec 32 := Scalar.remsi v74 c8_i32_50
  let c0_i32_55 : BitVec 32 := 0#32
  let v88 : BitVec 1 := Scalar.cmpi .ne v87 c0_i32_55
  let v89 : BitVec 1 := Scalar.andi v86 v88
  let v75 : BitVec 32 := Scalar.divsi v74 c8_i32_50
  let c1_i32_56 : BitVec 32 := 1#32
  let v90 : BitVec 32 := Scalar.subi v75 c1_i32_56
  let v91 : BitVec 32 := Scalar.select v89 v90 v75
  let v103 : BitVec 32 := Scalar.addi c0_i32_64 v91
  let v104 : Index := Scalar.indexCast v103
  let c8_i32_57 : BitVec 32 := 8#32
  let c0_i32_58 : BitVec 32 := 0#32
  let v92 : BitVec 1 := Scalar.cmpi .eq c8_i32_57 c0_i32_58
  let c1_i32_59 : BitVec 32 := 1#32
  let v93 : BitVec 32 := Scalar.select v92 c1_i32_59 c8_i32_57
  let v94 : BitVec 32 := Scalar.remsi v74 v93
  let c0_i32_61 : BitVec 32 := 0#32
  let v96 : BitVec 1 := Scalar.cmpi .slt v94 c0_i32_61
  let c0_i32_62 : BitVec 32 := 0#32
  let v97 : BitVec 1 := Scalar.cmpi .slt v93 c0_i32_62
  let v98 : BitVec 1 := Scalar.xori v96 v97
  let c0_i32_60 : BitVec 32 := 0#32
  let v95 : BitVec 1 := Scalar.cmpi .ne v94 c0_i32_60
  let v99 : BitVec 1 := Scalar.andi v98 v95
  let v100 : BitVec 32 := Scalar.addi v94 v93
  let v101 : BitVec 32 := Scalar.select v99 v100 v94
  let c16_i32_63 : BitVec 32 := 16#32
  let v102 : BitVec 32 := Scalar.muli v101 c16_i32_63
  let v105 : Index := Scalar.indexCast v102
  ![v104.toNat, v105.toNat]
def k0_off15 (k0_t4 : Fin k0_t4_loop.trips) (c0_i32_66 : BitVec 32) : Fin 2 → Nat :=
  let c0_i32_49 : BitVec 32 := 0#32
  let c0_i32_41 : BitVec 32 := 0#32
  let c1_i32_42 : BitVec 32 := 1#32
  let arg16 : BitVec 32 := Scf.iv c0_i32_41 c1_i32_42 k0_t4
  let c1_i32_48 : BitVec 32 := 1#32
  let v73 : BitVec 32 := Scalar.muli arg16 c1_i32_48
  let v74 : BitVec 32 := Scalar.addi c0_i32_49 v73
  let c0_i32_51 : BitVec 32 := 0#32
  let v76 : BitVec 1 := Scalar.cmpi .sgt v74 c0_i32_51
  let v77 : BitVec 32 := Scalar.extui v76
  let c0_i32_52 : BitVec 32 := 0#32
  let v78 : BitVec 1 := Scalar.cmpi .slt v74 c0_i32_52
  let v79 : BitVec 32 := Scalar.extui v78
  let v80 : BitVec 32 := Scalar.subi v77 v79
  let c8_i32_50 : BitVec 32 := 8#32
  let c0_i32_53 : BitVec 32 := 0#32
  let v81 : BitVec 1 := Scalar.cmpi .sgt c8_i32_50 c0_i32_53
  let v82 : BitVec 32 := Scalar.extui v81
  let c0_i32_54 : BitVec 32 := 0#32
  let v83 : BitVec 1 := Scalar.cmpi .slt c8_i32_50 c0_i32_54
  let v84 : BitVec 32 := Scalar.extui v83
  let v85 : BitVec 32 := Scalar.subi v82 v84
  let v86 : BitVec 1 := Scalar.cmpi .ne v80 v85
  let v87 : BitVec 32 := Scalar.remsi v74 c8_i32_50
  let c0_i32_55 : BitVec 32 := 0#32
  let v88 : BitVec 1 := Scalar.cmpi .ne v87 c0_i32_55
  let v89 : BitVec 1 := Scalar.andi v86 v88
  let v75 : BitVec 32 := Scalar.divsi v74 c8_i32_50
  let c1_i32_56 : BitVec 32 := 1#32
  let v90 : BitVec 32 := Scalar.subi v75 c1_i32_56
  let v91 : BitVec 32 := Scalar.select v89 v90 v75
  let v111 : BitVec 32 := Scalar.addi c0_i32_66 v91
  let v112 : Index := Scalar.indexCast v111
  let c8_i32_57 : BitVec 32 := 8#32
  let c0_i32_58 : BitVec 32 := 0#32
  let v92 : BitVec 1 := Scalar.cmpi .eq c8_i32_57 c0_i32_58
  let c1_i32_59 : BitVec 32 := 1#32
  let v93 : BitVec 32 := Scalar.select v92 c1_i32_59 c8_i32_57
  let v94 : BitVec 32 := Scalar.remsi v74 v93
  let c0_i32_61 : BitVec 32 := 0#32
  let v96 : BitVec 1 := Scalar.cmpi .slt v94 c0_i32_61
  let c0_i32_62 : BitVec 32 := 0#32
  let v97 : BitVec 1 := Scalar.cmpi .slt v93 c0_i32_62
  let v98 : BitVec 1 := Scalar.xori v96 v97
  let c0_i32_60 : BitVec 32 := 0#32
  let v95 : BitVec 1 := Scalar.cmpi .ne v94 c0_i32_60
  let v99 : BitVec 1 := Scalar.andi v98 v95
  let v100 : BitVec 32 := Scalar.addi v94 v93
  let v101 : BitVec 32 := Scalar.select v99 v100 v94
  let c16_i32_63 : BitVec 32 := 16#32
  let v102 : BitVec 32 := Scalar.muli v101 c16_i32_63
  let v113 : Index := Scalar.indexCast v102
  ![v112.toNat, v113.toNat]

def k0_chk9 (i : grid0.Coords) (k0_t2 : Fin k0_t2_loop.trips) (v179 : IVec S16 32) : Prop :=
  (∀ (k0_h5 : k0_cond5 i k0_t2 = 1#1), ∀ a x, ((![v179] : Fin 1 → IVec S16 32) a x).toNat < S4096.size a) ∧
  (∀ (k0_h5 : k0_cond5 i k0_t2 = 1#1), ∀ a x, ((![v179] : Fin 1 → IVec S16 32) a x).toNat < S4096.size a) ∧
  (∀ (k0_h5 : k0_cond5 i k0_t2 = 1#1), ∀ a x, ((![v179] : Fin 1 → IVec S16 32) a x).toNat < S4096.size a) ∧
  (∀ (k0_h5 : k0_cond5 i k0_t2 = 1#1), ∀ a x, ((![v179] : Fin 1 → IVec S16 32) a x).toNat < S4096.size a)
theorem k0_idx33_inb : ∀ (i : grid0.Coords) (k0_t2 : Fin k0_t2_loop.trips) (v179 : IVec S16 32) (k0_hw9 : k0_chk9 i k0_t2 v179), ∀ (k0_h5 : k0_cond5 i k0_t2 = 1#1), ∀ a x, ((![v179] : Fin 1 → IVec S16 32) a x).toNat < S4096.size a := fun i k0_t2 v179 k0_hw9 k0_h5 => k0_hw9.1 k0_h5
theorem k0_idx35_inb : ∀ (i : grid0.Coords) (k0_t2 : Fin k0_t2_loop.trips) (v179 : IVec S16 32) (k0_hw9 : k0_chk9 i k0_t2 v179), ∀ (k0_h5 : k0_cond5 i k0_t2 = 1#1), ∀ a x, ((![v179] : Fin 1 → IVec S16 32) a x).toNat < S4096.size a := fun i k0_t2 v179 k0_hw9 k0_h5 => k0_hw9.2.1 k0_h5
theorem k0_idx37_inb : ∀ (i : grid0.Coords) (k0_t2 : Fin k0_t2_loop.trips) (v179 : IVec S16 32) (k0_hw9 : k0_chk9 i k0_t2 v179), ∀ (k0_h5 : k0_cond5 i k0_t2 = 1#1), ∀ a x, ((![v179] : Fin 1 → IVec S16 32) a x).toNat < S4096.size a := fun i k0_t2 v179 k0_hw9 k0_h5 => k0_hw9.2.2.1 k0_h5
theorem k0_idx39_inb : ∀ (i : grid0.Coords) (k0_t2 : Fin k0_t2_loop.trips) (v179 : IVec S16 32) (k0_hw9 : k0_chk9 i k0_t2 v179), ∀ (k0_h5 : k0_cond5 i k0_t2 = 1#1), ∀ a x, ((![v179] : Fin 1 → IVec S16 32) a x).toNat < S4096.size a := fun i k0_t2 v179 k0_hw9 k0_h5 => k0_hw9.2.2.2 k0_h5

def k0_chk10 (i : grid0.Coords) (k0_t2 : Fin k0_t2_loop.trips) (v184 : IVec S16 32) : Prop :=
  (∀ (k0_h5 : k0_cond5 i k0_t2 = 1#1), ∀ a x, ((![v184] : Fin 1 → IVec S16 32) a x).toNat < S4096.size a) ∧
  (∀ (k0_h5 : k0_cond5 i k0_t2 = 1#1), ∀ a x, ((![v184] : Fin 1 → IVec S16 32) a x).toNat < S4096.size a) ∧
  (∀ (k0_h5 : k0_cond5 i k0_t2 = 1#1), ∀ a x, ((![v184] : Fin 1 → IVec S16 32) a x).toNat < S4096.size a) ∧
  (∀ (k0_h5 : k0_cond5 i k0_t2 = 1#1), ∀ a x, ((![v184] : Fin 1 → IVec S16 32) a x).toNat < S4096.size a)
theorem k0_idx34_inb : ∀ (i : grid0.Coords) (k0_t2 : Fin k0_t2_loop.trips) (v184 : IVec S16 32) (k0_hw10 : k0_chk10 i k0_t2 v184), ∀ (k0_h5 : k0_cond5 i k0_t2 = 1#1), ∀ a x, ((![v184] : Fin 1 → IVec S16 32) a x).toNat < S4096.size a := fun i k0_t2 v184 k0_hw10 k0_h5 => k0_hw10.1 k0_h5
theorem k0_idx36_inb : ∀ (i : grid0.Coords) (k0_t2 : Fin k0_t2_loop.trips) (v184 : IVec S16 32) (k0_hw10 : k0_chk10 i k0_t2 v184), ∀ (k0_h5 : k0_cond5 i k0_t2 = 1#1), ∀ a x, ((![v184] : Fin 1 → IVec S16 32) a x).toNat < S4096.size a := fun i k0_t2 v184 k0_hw10 k0_h5 => k0_hw10.2.1 k0_h5
theorem k0_idx38_inb : ∀ (i : grid0.Coords) (k0_t2 : Fin k0_t2_loop.trips) (v184 : IVec S16 32) (k0_hw10 : k0_chk10 i k0_t2 v184), ∀ (k0_h5 : k0_cond5 i k0_t2 = 1#1), ∀ a x, ((![v184] : Fin 1 → IVec S16 32) a x).toNat < S4096.size a := fun i k0_t2 v184 k0_hw10 k0_h5 => k0_hw10.2.2.1 k0_h5
theorem k0_idx40_inb : ∀ (i : grid0.Coords) (k0_t2 : Fin k0_t2_loop.trips) (v184 : IVec S16 32) (k0_hw10 : k0_chk10 i k0_t2 v184), ∀ (k0_h5 : k0_cond5 i k0_t2 = 1#1), ∀ a x, ((![v184] : Fin 1 → IVec S16 32) a x).toNat < S4096.size a := fun i k0_t2 v184 k0_hw10 k0_h5 => k0_hw10.2.2.2 k0_h5

def k0_chk11 (i : grid0.Coords) (k0_t2 : Fin k0_t2_loop.trips) (v197 : IVec S16 32) : Prop :=
  (∀ (k0_h5 : k0_cond5 i k0_t2 = 1#1), ∀ a x, ((![v197] : Fin 1 → IVec S16 32) a x).toNat < S4096.size a) ∧
  (∀ (k0_h5 : k0_cond5 i k0_t2 = 1#1), ∀ a x, ((![v197] : Fin 1 → IVec S16 32) a x).toNat < S4096.size a) ∧
  (∀ (k0_h5 : k0_cond5 i k0_t2 = 1#1), ∀ a x, ((![v197] : Fin 1 → IVec S16 32) a x).toNat < S4096.size a) ∧
  (∀ (k0_h5 : k0_cond5 i k0_t2 = 1#1), ∀ a x, ((![v197] : Fin 1 → IVec S16 32) a x).toNat < S4096.size a)
theorem k0_idx41_inb : ∀ (i : grid0.Coords) (k0_t2 : Fin k0_t2_loop.trips) (v197 : IVec S16 32) (k0_hw11 : k0_chk11 i k0_t2 v197), ∀ (k0_h5 : k0_cond5 i k0_t2 = 1#1), ∀ a x, ((![v197] : Fin 1 → IVec S16 32) a x).toNat < S4096.size a := fun i k0_t2 v197 k0_hw11 k0_h5 => k0_hw11.1 k0_h5
theorem k0_idx43_inb : ∀ (i : grid0.Coords) (k0_t2 : Fin k0_t2_loop.trips) (v197 : IVec S16 32) (k0_hw11 : k0_chk11 i k0_t2 v197), ∀ (k0_h5 : k0_cond5 i k0_t2 = 1#1), ∀ a x, ((![v197] : Fin 1 → IVec S16 32) a x).toNat < S4096.size a := fun i k0_t2 v197 k0_hw11 k0_h5 => k0_hw11.2.1 k0_h5
theorem k0_idx45_inb : ∀ (i : grid0.Coords) (k0_t2 : Fin k0_t2_loop.trips) (v197 : IVec S16 32) (k0_hw11 : k0_chk11 i k0_t2 v197), ∀ (k0_h5 : k0_cond5 i k0_t2 = 1#1), ∀ a x, ((![v197] : Fin 1 → IVec S16 32) a x).toNat < S4096.size a := fun i k0_t2 v197 k0_hw11 k0_h5 => k0_hw11.2.2.1 k0_h5
theorem k0_idx47_inb : ∀ (i : grid0.Coords) (k0_t2 : Fin k0_t2_loop.trips) (v197 : IVec S16 32) (k0_hw11 : k0_chk11 i k0_t2 v197), ∀ (k0_h5 : k0_cond5 i k0_t2 = 1#1), ∀ a x, ((![v197] : Fin 1 → IVec S16 32) a x).toNat < S4096.size a := fun i k0_t2 v197 k0_hw11 k0_h5 => k0_hw11.2.2.2 k0_h5

def k0_chk12 (i : grid0.Coords) (k0_t2 : Fin k0_t2_loop.trips) (v202 : IVec S16 32) : Prop :=
  (∀ (k0_h5 : k0_cond5 i k0_t2 = 1#1), ∀ a x, ((![v202] : Fin 1 → IVec S16 32) a x).toNat < S4096.size a) ∧
  (∀ (k0_h5 : k0_cond5 i k0_t2 = 1#1), ∀ a x, ((![v202] : Fin 1 → IVec S16 32) a x).toNat < S4096.size a) ∧
  (∀ (k0_h5 : k0_cond5 i k0_t2 = 1#1), ∀ a x, ((![v202] : Fin 1 → IVec S16 32) a x).toNat < S4096.size a) ∧
  (∀ (k0_h5 : k0_cond5 i k0_t2 = 1#1), ∀ a x, ((![v202] : Fin 1 → IVec S16 32) a x).toNat < S4096.size a)
theorem k0_idx42_inb : ∀ (i : grid0.Coords) (k0_t2 : Fin k0_t2_loop.trips) (v202 : IVec S16 32) (k0_hw12 : k0_chk12 i k0_t2 v202), ∀ (k0_h5 : k0_cond5 i k0_t2 = 1#1), ∀ a x, ((![v202] : Fin 1 → IVec S16 32) a x).toNat < S4096.size a := fun i k0_t2 v202 k0_hw12 k0_h5 => k0_hw12.1 k0_h5
theorem k0_idx44_inb : ∀ (i : grid0.Coords) (k0_t2 : Fin k0_t2_loop.trips) (v202 : IVec S16 32) (k0_hw12 : k0_chk12 i k0_t2 v202), ∀ (k0_h5 : k0_cond5 i k0_t2 = 1#1), ∀ a x, ((![v202] : Fin 1 → IVec S16 32) a x).toNat < S4096.size a := fun i k0_t2 v202 k0_hw12 k0_h5 => k0_hw12.2.1 k0_h5
theorem k0_idx46_inb : ∀ (i : grid0.Coords) (k0_t2 : Fin k0_t2_loop.trips) (v202 : IVec S16 32) (k0_hw12 : k0_chk12 i k0_t2 v202), ∀ (k0_h5 : k0_cond5 i k0_t2 = 1#1), ∀ a x, ((![v202] : Fin 1 → IVec S16 32) a x).toNat < S4096.size a := fun i k0_t2 v202 k0_hw12 k0_h5 => k0_hw12.2.2.1 k0_h5
theorem k0_idx48_inb : ∀ (i : grid0.Coords) (k0_t2 : Fin k0_t2_loop.trips) (v202 : IVec S16 32) (k0_hw12 : k0_chk12 i k0_t2 v202), ∀ (k0_h5 : k0_cond5 i k0_t2 = 1#1), ∀ a x, ((![v202] : Fin 1 → IVec S16 32) a x).toNat < S4096.size a := fun i k0_t2 v202 k0_hw12 k0_h5 => k0_hw12.2.2.2 k0_h5

def k0_chk13 (i : grid0.Coords) (k0_t2 : Fin k0_t2_loop.trips) (v215 : IVec S16 32) : Prop :=
  (∀ (k0_h5 : k0_cond5 i k0_t2 = 1#1), ∀ a x, ((![v215] : Fin 1 → IVec S16 32) a x).toNat < S4096.size a) ∧
  (∀ (k0_h5 : k0_cond5 i k0_t2 = 1#1), ∀ a x, ((![v215] : Fin 1 → IVec S16 32) a x).toNat < S4096.size a) ∧
  (∀ (k0_h5 : k0_cond5 i k0_t2 = 1#1), ∀ a x, ((![v215] : Fin 1 → IVec S16 32) a x).toNat < S4096.size a) ∧
  (∀ (k0_h5 : k0_cond5 i k0_t2 = 1#1), ∀ a x, ((![v215] : Fin 1 → IVec S16 32) a x).toNat < S4096.size a)
theorem k0_idx49_inb : ∀ (i : grid0.Coords) (k0_t2 : Fin k0_t2_loop.trips) (v215 : IVec S16 32) (k0_hw13 : k0_chk13 i k0_t2 v215), ∀ (k0_h5 : k0_cond5 i k0_t2 = 1#1), ∀ a x, ((![v215] : Fin 1 → IVec S16 32) a x).toNat < S4096.size a := fun i k0_t2 v215 k0_hw13 k0_h5 => k0_hw13.1 k0_h5
theorem k0_idx51_inb : ∀ (i : grid0.Coords) (k0_t2 : Fin k0_t2_loop.trips) (v215 : IVec S16 32) (k0_hw13 : k0_chk13 i k0_t2 v215), ∀ (k0_h5 : k0_cond5 i k0_t2 = 1#1), ∀ a x, ((![v215] : Fin 1 → IVec S16 32) a x).toNat < S4096.size a := fun i k0_t2 v215 k0_hw13 k0_h5 => k0_hw13.2.1 k0_h5
theorem k0_idx53_inb : ∀ (i : grid0.Coords) (k0_t2 : Fin k0_t2_loop.trips) (v215 : IVec S16 32) (k0_hw13 : k0_chk13 i k0_t2 v215), ∀ (k0_h5 : k0_cond5 i k0_t2 = 1#1), ∀ a x, ((![v215] : Fin 1 → IVec S16 32) a x).toNat < S4096.size a := fun i k0_t2 v215 k0_hw13 k0_h5 => k0_hw13.2.2.1 k0_h5
theorem k0_idx55_inb : ∀ (i : grid0.Coords) (k0_t2 : Fin k0_t2_loop.trips) (v215 : IVec S16 32) (k0_hw13 : k0_chk13 i k0_t2 v215), ∀ (k0_h5 : k0_cond5 i k0_t2 = 1#1), ∀ a x, ((![v215] : Fin 1 → IVec S16 32) a x).toNat < S4096.size a := fun i k0_t2 v215 k0_hw13 k0_h5 => k0_hw13.2.2.2 k0_h5

def k0_chk14 (i : grid0.Coords) (k0_t2 : Fin k0_t2_loop.trips) (v220 : IVec S16 32) : Prop :=
  (∀ (k0_h5 : k0_cond5 i k0_t2 = 1#1), ∀ a x, ((![v220] : Fin 1 → IVec S16 32) a x).toNat < S4096.size a) ∧
  (∀ (k0_h5 : k0_cond5 i k0_t2 = 1#1), ∀ a x, ((![v220] : Fin 1 → IVec S16 32) a x).toNat < S4096.size a) ∧
  (∀ (k0_h5 : k0_cond5 i k0_t2 = 1#1), ∀ a x, ((![v220] : Fin 1 → IVec S16 32) a x).toNat < S4096.size a) ∧
  (∀ (k0_h5 : k0_cond5 i k0_t2 = 1#1), ∀ a x, ((![v220] : Fin 1 → IVec S16 32) a x).toNat < S4096.size a)
theorem k0_idx50_inb : ∀ (i : grid0.Coords) (k0_t2 : Fin k0_t2_loop.trips) (v220 : IVec S16 32) (k0_hw14 : k0_chk14 i k0_t2 v220), ∀ (k0_h5 : k0_cond5 i k0_t2 = 1#1), ∀ a x, ((![v220] : Fin 1 → IVec S16 32) a x).toNat < S4096.size a := fun i k0_t2 v220 k0_hw14 k0_h5 => k0_hw14.1 k0_h5
theorem k0_idx52_inb : ∀ (i : grid0.Coords) (k0_t2 : Fin k0_t2_loop.trips) (v220 : IVec S16 32) (k0_hw14 : k0_chk14 i k0_t2 v220), ∀ (k0_h5 : k0_cond5 i k0_t2 = 1#1), ∀ a x, ((![v220] : Fin 1 → IVec S16 32) a x).toNat < S4096.size a := fun i k0_t2 v220 k0_hw14 k0_h5 => k0_hw14.2.1 k0_h5
theorem k0_idx54_inb : ∀ (i : grid0.Coords) (k0_t2 : Fin k0_t2_loop.trips) (v220 : IVec S16 32) (k0_hw14 : k0_chk14 i k0_t2 v220), ∀ (k0_h5 : k0_cond5 i k0_t2 = 1#1), ∀ a x, ((![v220] : Fin 1 → IVec S16 32) a x).toNat < S4096.size a := fun i k0_t2 v220 k0_hw14 k0_h5 => k0_hw14.2.2.1 k0_h5
theorem k0_idx56_inb : ∀ (i : grid0.Coords) (k0_t2 : Fin k0_t2_loop.trips) (v220 : IVec S16 32) (k0_hw14 : k0_chk14 i k0_t2 v220), ∀ (k0_h5 : k0_cond5 i k0_t2 = 1#1), ∀ a x, ((![v220] : Fin 1 → IVec S16 32) a x).toNat < S4096.size a := fun i k0_t2 v220 k0_hw14 k0_h5 => k0_hw14.2.2.2 k0_h5

def k0_chk15 (i : grid0.Coords) (k0_t2 : Fin k0_t2_loop.trips) (v233 : IVec S16 32) : Prop :=
  (∀ (k0_h5 : k0_cond5 i k0_t2 = 1#1), ∀ a x, ((![v233] : Fin 1 → IVec S16 32) a x).toNat < S4096.size a) ∧
  (∀ (k0_h5 : k0_cond5 i k0_t2 = 1#1), ∀ a x, ((![v233] : Fin 1 → IVec S16 32) a x).toNat < S4096.size a) ∧
  (∀ (k0_h5 : k0_cond5 i k0_t2 = 1#1), ∀ a x, ((![v233] : Fin 1 → IVec S16 32) a x).toNat < S4096.size a) ∧
  (∀ (k0_h5 : k0_cond5 i k0_t2 = 1#1), ∀ a x, ((![v233] : Fin 1 → IVec S16 32) a x).toNat < S4096.size a)
theorem k0_idx57_inb : ∀ (i : grid0.Coords) (k0_t2 : Fin k0_t2_loop.trips) (v233 : IVec S16 32) (k0_hw15 : k0_chk15 i k0_t2 v233), ∀ (k0_h5 : k0_cond5 i k0_t2 = 1#1), ∀ a x, ((![v233] : Fin 1 → IVec S16 32) a x).toNat < S4096.size a := fun i k0_t2 v233 k0_hw15 k0_h5 => k0_hw15.1 k0_h5
theorem k0_idx59_inb : ∀ (i : grid0.Coords) (k0_t2 : Fin k0_t2_loop.trips) (v233 : IVec S16 32) (k0_hw15 : k0_chk15 i k0_t2 v233), ∀ (k0_h5 : k0_cond5 i k0_t2 = 1#1), ∀ a x, ((![v233] : Fin 1 → IVec S16 32) a x).toNat < S4096.size a := fun i k0_t2 v233 k0_hw15 k0_h5 => k0_hw15.2.1 k0_h5
theorem k0_idx61_inb : ∀ (i : grid0.Coords) (k0_t2 : Fin k0_t2_loop.trips) (v233 : IVec S16 32) (k0_hw15 : k0_chk15 i k0_t2 v233), ∀ (k0_h5 : k0_cond5 i k0_t2 = 1#1), ∀ a x, ((![v233] : Fin 1 → IVec S16 32) a x).toNat < S4096.size a := fun i k0_t2 v233 k0_hw15 k0_h5 => k0_hw15.2.2.1 k0_h5
theorem k0_idx63_inb : ∀ (i : grid0.Coords) (k0_t2 : Fin k0_t2_loop.trips) (v233 : IVec S16 32) (k0_hw15 : k0_chk15 i k0_t2 v233), ∀ (k0_h5 : k0_cond5 i k0_t2 = 1#1), ∀ a x, ((![v233] : Fin 1 → IVec S16 32) a x).toNat < S4096.size a := fun i k0_t2 v233 k0_hw15 k0_h5 => k0_hw15.2.2.2 k0_h5

def k0_chk16 (i : grid0.Coords) (k0_t2 : Fin k0_t2_loop.trips) (v238 : IVec S16 32) : Prop :=
  (∀ (k0_h5 : k0_cond5 i k0_t2 = 1#1), ∀ a x, ((![v238] : Fin 1 → IVec S16 32) a x).toNat < S4096.size a) ∧
  (∀ (k0_h5 : k0_cond5 i k0_t2 = 1#1), ∀ a x, ((![v238] : Fin 1 → IVec S16 32) a x).toNat < S4096.size a) ∧
  (∀ (k0_h5 : k0_cond5 i k0_t2 = 1#1), ∀ a x, ((![v238] : Fin 1 → IVec S16 32) a x).toNat < S4096.size a) ∧
  (∀ (k0_h5 : k0_cond5 i k0_t2 = 1#1), ∀ a x, ((![v238] : Fin 1 → IVec S16 32) a x).toNat < S4096.size a)
theorem k0_idx58_inb : ∀ (i : grid0.Coords) (k0_t2 : Fin k0_t2_loop.trips) (v238 : IVec S16 32) (k0_hw16 : k0_chk16 i k0_t2 v238), ∀ (k0_h5 : k0_cond5 i k0_t2 = 1#1), ∀ a x, ((![v238] : Fin 1 → IVec S16 32) a x).toNat < S4096.size a := fun i k0_t2 v238 k0_hw16 k0_h5 => k0_hw16.1 k0_h5
theorem k0_idx60_inb : ∀ (i : grid0.Coords) (k0_t2 : Fin k0_t2_loop.trips) (v238 : IVec S16 32) (k0_hw16 : k0_chk16 i k0_t2 v238), ∀ (k0_h5 : k0_cond5 i k0_t2 = 1#1), ∀ a x, ((![v238] : Fin 1 → IVec S16 32) a x).toNat < S4096.size a := fun i k0_t2 v238 k0_hw16 k0_h5 => k0_hw16.2.1 k0_h5
theorem k0_idx62_inb : ∀ (i : grid0.Coords) (k0_t2 : Fin k0_t2_loop.trips) (v238 : IVec S16 32) (k0_hw16 : k0_chk16 i k0_t2 v238), ∀ (k0_h5 : k0_cond5 i k0_t2 = 1#1), ∀ a x, ((![v238] : Fin 1 → IVec S16 32) a x).toNat < S4096.size a := fun i k0_t2 v238 k0_hw16 k0_h5 => k0_hw16.2.2.1 k0_h5
theorem k0_idx64_inb : ∀ (i : grid0.Coords) (k0_t2 : Fin k0_t2_loop.trips) (v238 : IVec S16 32) (k0_hw16 : k0_chk16 i k0_t2 v238), ∀ (k0_h5 : k0_cond5 i k0_t2 = 1#1), ∀ a x, ((![v238] : Fin 1 → IVec S16 32) a x).toNat < S4096.size a := fun i k0_t2 v238 k0_hw16 k0_h5 => k0_hw16.2.2.2 k0_h5
def k0_cond6 (i : grid0.Coords) (k0_t2 : Fin k0_t2_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_25 : BitVec 32 := 0#32
  let c0_i32_18 : BitVec 32 := 0#32
  let c1_i32_19 : BitVec 32 := 1#32
  let arg15 : BitVec 32 := Scf.iv c0_i32_18 c1_i32_19 k0_t2
  let c2_i32_24 : BitVec 32 := 2#32
  let v41 : BitVec 32 := Scalar.muli arg15 c2_i32_24
  let v42 : BitVec 32 := Scalar.addi c0_i32_25 v41
  let c1_i32_30 : BitVec 32 := 1#32
  let v49 : BitVec 32 := Scalar.addi v42 c1_i32_30
  let c2_i32_44 : BitVec 32 := 2#32
  let v67 : BitVec 32 := Scalar.addi v49 c2_i32_44
  let c16_i32_45 : BitVec 32 := 16#32
  let v68 : BitVec 32 := Scalar.muli v67 c16_i32_45
  let v69 : BitVec 32 := Scalar.addi v28 v68
  let c420_i32_46 : BitVec 32 := 420#32
  let v70 : BitVec 1 := Scalar.cmpi .slt v69 c420_i32_46
  let v71 : BitVec 32 := Scalar.extui v70
  let c0_i32_47 : BitVec 32 := 0#32
  let v72 : BitVec 1 := Scalar.cmpi .ne v71 c0_i32_47
  v72

def k0_off16 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_25 : BitVec 32 := 0#32
  let c0_i32_18 : BitVec 32 := 0#32
  let c1_i32_19 : BitVec 32 := 1#32
  let arg15 : BitVec 32 := Scf.iv c0_i32_18 c1_i32_19 k0_t2
  let c2_i32_24 : BitVec 32 := 2#32
  let v41 : BitVec 32 := Scalar.muli arg15 c2_i32_24
  let v42 : BitVec 32 := Scalar.addi c0_i32_25 v41
  let c1_i32_30 : BitVec 32 := 1#32
  let v49 : BitVec 32 := Scalar.addi v42 c1_i32_30
  let c2_i32_44 : BitVec 32 := 2#32
  let v67 : BitVec 32 := Scalar.addi v49 c2_i32_44
  let c16_i32_48 : BitVec 32 := 16#32
  let v73 : BitVec 32 := Scalar.muli v67 c16_i32_48
  let v74 : BitVec 32 := Scalar.addi v28 v73
  let c256_i32_49 : BitVec 32 := 256#32
  let v75 : BitVec 32 := Scalar.muli v74 c256_i32_49
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c128_i32_50 : BitVec 32 := 128#32
  let v76 : BitVec 32 := Scalar.muli v11 c128_i32_50
  let v77 : BitVec 32 := Scalar.addi v75 v76
  let c0_i32_53 : BitVec 32 := 0#32
  ![v77.toNat, 0]
def k0_off17 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_25 : BitVec 32 := 0#32
  let c0_i32_18 : BitVec 32 := 0#32
  let c1_i32_19 : BitVec 32 := 1#32
  let arg15 : BitVec 32 := Scf.iv c0_i32_18 c1_i32_19 k0_t2
  let c2_i32_24 : BitVec 32 := 2#32
  let v41 : BitVec 32 := Scalar.muli arg15 c2_i32_24
  let v42 : BitVec 32 := Scalar.addi c0_i32_25 v41
  let c1_i32_30 : BitVec 32 := 1#32
  let v49 : BitVec 32 := Scalar.addi v42 c1_i32_30
  let c2_i32_44 : BitVec 32 := 2#32
  let v67 : BitVec 32 := Scalar.addi v49 c2_i32_44
  let c16_i32_48 : BitVec 32 := 16#32
  let v73 : BitVec 32 := Scalar.muli v67 c16_i32_48
  let v74 : BitVec 32 := Scalar.addi v28 v73
  let c2_i32_51 : BitVec 32 := 2#32
  let v78 : BitVec 32 := Scalar.muli v74 c2_i32_51
  let c8_i32_52 : BitVec 32 := 8#32
  let v79 : BitVec 32 := Scalar.muli v78 c8_i32_52
  let c0_i32_55 : BitVec 32 := 0#32
  ![v79.toNat, 0]
@[reducible] def k0_t5_loop : Scf.Loop 32 :=
  let c0_i32_21 : BitVec 32 := 0#32
  let c128_i32 : BitVec 32 := 128#32
  let v40 : BitVec 32 := Scalar.addi c0_i32_21 c128_i32
  let c1_i32_22 : BitVec 32 := 1#32
  ⟨c0_i32_21, v40, c1_i32_22⟩

def k0_chk17 (v53 : IVec S16 32) : Prop :=
  (∀ a x, ((![v53] : Fin 1 → IVec S16 32) a x).toNat < S32768.size a)
theorem k0_idx65_inb : ∀ (v53 : IVec S16 32) (k0_hw17 : k0_chk17 v53), ∀ a x, ((![v53] : Fin 1 → IVec S16 32) a x).toNat < S32768.size a := fun v53 k0_hw17 => k0_hw17

def k0_chk18 (v60 : IVec S16 32) : Prop :=
  (∀ a x, ((![v60] : Fin 1 → IVec S16 32) a x).toNat < S32768.size a)
theorem k0_idx66_inb : ∀ (v60 : IVec S16 32) (k0_hw18 : k0_chk18 v60), ∀ a x, ((![v60] : Fin 1 → IVec S16 32) a x).toNat < S32768.size a := fun v60 k0_hw18 => k0_hw18

def k0_chk19 (v67 : IVec S16 32) : Prop :=
  (∀ a x, ((![v67] : Fin 1 → IVec S16 32) a x).toNat < S32768.size a)
theorem k0_idx67_inb : ∀ (v67 : IVec S16 32) (k0_hw19 : k0_chk19 v67), ∀ a x, ((![v67] : Fin 1 → IVec S16 32) a x).toNat < S32768.size a := fun v67 k0_hw19 => k0_hw19

def k0_chk20 (v74 : IVec S16 32) : Prop :=
  (∀ a x, ((![v74] : Fin 1 → IVec S16 32) a x).toNat < S32768.size a)
theorem k0_idx68_inb : ∀ (v74 : IVec S16 32) (k0_hw20 : k0_chk20 v74), ∀ a x, ((![v74] : Fin 1 → IVec S16 32) a x).toNat < S32768.size a := fun v74 k0_hw20 => k0_hw20

def k0_chk21 (v81 : IVec S16 32) : Prop :=
  (∀ a x, ((![v81] : Fin 1 → IVec S16 32) a x).toNat < S32768.size a)
theorem k0_idx69_inb : ∀ (v81 : IVec S16 32) (k0_hw21 : k0_chk21 v81), ∀ a x, ((![v81] : Fin 1 → IVec S16 32) a x).toNat < S32768.size a := fun v81 k0_hw21 => k0_hw21

def k0_chk22 (v88 : IVec S16 32) : Prop :=
  (∀ a x, ((![v88] : Fin 1 → IVec S16 32) a x).toNat < S32768.size a)
theorem k0_idx70_inb : ∀ (v88 : IVec S16 32) (k0_hw22 : k0_chk22 v88), ∀ a x, ((![v88] : Fin 1 → IVec S16 32) a x).toNat < S32768.size a := fun v88 k0_hw22 => k0_hw22

def k0_chk23 (v95 : IVec S16 32) : Prop :=
  (∀ a x, ((![v95] : Fin 1 → IVec S16 32) a x).toNat < S32768.size a)
theorem k0_idx71_inb : ∀ (v95 : IVec S16 32) (k0_hw23 : k0_chk23 v95), ∀ a x, ((![v95] : Fin 1 → IVec S16 32) a x).toNat < S32768.size a := fun v95 k0_hw23 => k0_hw23

def k0_chk24 (v102 : IVec S16 32) : Prop :=
  (∀ a x, ((![v102] : Fin 1 → IVec S16 32) a x).toNat < S32768.size a)
theorem k0_idx72_inb : ∀ (v102 : IVec S16 32) (k0_hw24 : k0_chk24 v102), ∀ a x, ((![v102] : Fin 1 → IVec S16 32) a x).toNat < S32768.size a := fun v102 k0_hw24 => k0_hw24

def k0_chk25 (v109 : IVec S16 32) : Prop :=
  (∀ a x, ((![v109] : Fin 1 → IVec S16 32) a x).toNat < S32768.size a)
theorem k0_idx73_inb : ∀ (v109 : IVec S16 32) (k0_hw25 : k0_chk25 v109), ∀ a x, ((![v109] : Fin 1 → IVec S16 32) a x).toNat < S32768.size a := fun v109 k0_hw25 => k0_hw25

def k0_chk26 (v116 : IVec S16 32) : Prop :=
  (∀ a x, ((![v116] : Fin 1 → IVec S16 32) a x).toNat < S32768.size a)
theorem k0_idx74_inb : ∀ (v116 : IVec S16 32) (k0_hw26 : k0_chk26 v116), ∀ a x, ((![v116] : Fin 1 → IVec S16 32) a x).toNat < S32768.size a := fun v116 k0_hw26 => k0_hw26

def k0_chk27 (v123 : IVec S16 32) : Prop :=
  (∀ a x, ((![v123] : Fin 1 → IVec S16 32) a x).toNat < S32768.size a)
theorem k0_idx75_inb : ∀ (v123 : IVec S16 32) (k0_hw27 : k0_chk27 v123), ∀ a x, ((![v123] : Fin 1 → IVec S16 32) a x).toNat < S32768.size a := fun v123 k0_hw27 => k0_hw27

def k0_chk28 (v130 : IVec S16 32) : Prop :=
  (∀ a x, ((![v130] : Fin 1 → IVec S16 32) a x).toNat < S32768.size a)
theorem k0_idx76_inb : ∀ (v130 : IVec S16 32) (k0_hw28 : k0_chk28 v130), ∀ a x, ((![v130] : Fin 1 → IVec S16 32) a x).toNat < S32768.size a := fun v130 k0_hw28 => k0_hw28

def k0_chk29 (v137 : IVec S16 32) : Prop :=
  (∀ a x, ((![v137] : Fin 1 → IVec S16 32) a x).toNat < S32768.size a)
theorem k0_idx77_inb : ∀ (v137 : IVec S16 32) (k0_hw29 : k0_chk29 v137), ∀ a x, ((![v137] : Fin 1 → IVec S16 32) a x).toNat < S32768.size a := fun v137 k0_hw29 => k0_hw29

def k0_chk30 (v144 : IVec S16 32) : Prop :=
  (∀ a x, ((![v144] : Fin 1 → IVec S16 32) a x).toNat < S32768.size a)
theorem k0_idx78_inb : ∀ (v144 : IVec S16 32) (k0_hw30 : k0_chk30 v144), ∀ a x, ((![v144] : Fin 1 → IVec S16 32) a x).toNat < S32768.size a := fun v144 k0_hw30 => k0_hw30

def k0_chk31 (v151 : IVec S16 32) : Prop :=
  (∀ a x, ((![v151] : Fin 1 → IVec S16 32) a x).toNat < S32768.size a)
theorem k0_idx79_inb : ∀ (v151 : IVec S16 32) (k0_hw31 : k0_chk31 v151), ∀ a x, ((![v151] : Fin 1 → IVec S16 32) a x).toNat < S32768.size a := fun v151 k0_hw31 => k0_hw31

def k0_chk32 (v158 : IVec S16 32) : Prop :=
  (∀ a x, ((![v158] : Fin 1 → IVec S16 32) a x).toNat < S32768.size a)
theorem k0_idx80_inb : ∀ (v158 : IVec S16 32) (k0_hw32 : k0_chk32 v158), ∀ a x, ((![v158] : Fin 1 → IVec S16 32) a x).toNat < S32768.size a := fun v158 k0_hw32 => k0_hw32
def k0_off18 (k0_t5 : Fin k0_t5_loop.trips) : Fin 1 → Nat :=
  let c0_i32_25 : BitVec 32 := 0#32
  let c0_i32_21 : BitVec 32 := 0#32
  let c1_i32_22 : BitVec 32 := 1#32
  let arg15 : BitVec 32 := Scf.iv c0_i32_21 c1_i32_22 k0_t5
  let c1_i32_24 : BitVec 32 := 1#32
  let v41 : BitVec 32 := Scalar.muli arg15 c1_i32_24
  let v42 : BitVec 32 := Scalar.addi c0_i32_25 v41
  let c16_i32_48 : BitVec 32 := 16#32
  let v161 : BitVec 32 := Scalar.muli v42 c16_i32_48
  let v162 : Index := Scalar.indexCast v161
  ![v162.toNat]
def k0_off19 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let c0_i32 : BitVec 32 := 0#32
  let v2 : BitVec 1 := Scalar.cmpi .eq c2_i32_0 c0_i32
  let c1_i32 : BitVec 32 := 1#32
  let v3 : BitVec 32 := Scalar.select v2 c1_i32 c2_i32_0
  let v4 : BitVec 32 := Scalar.remsi v1 v3
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let c0_i32_1 : BitVec 32 := 0#32
  let v5 : BitVec 1 := Scalar.cmpi .ne v4 c0_i32_1
  let v9 : BitVec 1 := Scalar.andi v8 v5
  let v10 : BitVec 32 := Scalar.addi v4 v3
  let v11 : BitVec 32 := Scalar.select v9 v10 v4
  let c0_i32_5 : BitVec 32 := 0#32
  let v13 : BitVec 1 := Scalar.cmpi .sgt v1 c0_i32_5
  let v14 : BitVec 32 := Scalar.extui v13
  let c0_i32_6 : BitVec 32 := 0#32
  let v15 : BitVec 1 := Scalar.cmpi .slt v1 c0_i32_6
  let v16 : BitVec 32 := Scalar.extui v15
  let v17 : BitVec 32 := Scalar.subi v14 v16
  let c2_i32_4 : BitVec 32 := 2#32
  let c0_i32_7 : BitVec 32 := 0#32
  let v18 : BitVec 1 := Scalar.cmpi .sgt c2_i32_4 c0_i32_7
  let v19 : BitVec 32 := Scalar.extui v18
  let c0_i32_8 : BitVec 32 := 0#32
  let v20 : BitVec 1 := Scalar.cmpi .slt c2_i32_4 c0_i32_8
  let v21 : BitVec 32 := Scalar.extui v20
  let v22 : BitVec 32 := Scalar.subi v19 v21
  let v23 : BitVec 1 := Scalar.cmpi .ne v17 v22
  let v24 : BitVec 32 := Scalar.remsi v1 c2_i32_4
  let c0_i32_9 : BitVec 32 := 0#32
  let v25 : BitVec 1 := Scalar.cmpi .ne v24 c0_i32_9
  let v26 : BitVec 1 := Scalar.andi v23 v25
  let v12 : BitVec 32 := Scalar.divsi v1 c2_i32_4
  let c1_i32_10 : BitVec 32 := 1#32
  let v27 : BitVec 32 := Scalar.subi v12 c1_i32_10
  let v28 : BitVec 32 := Scalar.select v26 v27 v12
  let c0_i32_24_r0 : BitVec 32 := 0#32
  ![v11.toNat, v28.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Proof.Vocab.lean ====
/- The vector operations of one pass of the kernel's block loop, written once for all five loops: the code words
   unpacked from the code bytes, the table look-up, the two bf16 halves of a table word, the running sum of one pass
   and the two kinds of stores it makes. -/
module

public import proofs.«01_k».proof.Proof.Gen.KernelIdeal.Frame

@[expose] public section

set_option maxRecDepth 16384

noncomputable section

open Idealize.ShloMosaic Idealize.ShloMosaic.TcCoe Idealize.SL.Sem

namespace Cert.KernelIdeal.Pass

open Cert.KernelIdeal Cert.KernelIdeal.Gen

variable {F : FTy → Type} [FloatOps F]

/-- The eight rows of code words packed from thirty-two rows of code bytes. -/
def codeWords (C : Vec F S1x32x128 .i8) : IVec S8x128 32 :=
  bitcast S8x128 32 (shapeCast S32x128 (C : IVec S1x32x128 8) shapeCasts_S1x32x128_S32x128) bitcasts_S32x128_w8_S8x128_w32

/-- The code words shifted so that byte `b` is the lowest one. -/
def shifted (W : IVec S8x128 32) (b : ℕ) : IVec S8x128 32 := shrui W (broadcast S8x128 (BitVec.ofNat 32 (8 * b)))

/-- The lane a code selects: its low seven bits. -/
def laneOf (W : IVec S8x128 32) (b : ℕ) : IVec S8x128 32 := andi (shifted W b) (broadcast S8x128 127#32)

/-- Whether a code has bit seven set. -/
def upperOf (W : IVec S8x128 32) (b : ℕ) : IVec S8x128 1 :=
  cmpi .ne (andi (shifted W b) (broadcast S8x128 128#32)) (broadcast S8x128 0#32)

/-- One table row repeated over the eight sublanes. -/
def rows (T : Vec F S1x128 .i32) : IVec S8x128 32 :=
  broadcastTo S8x128 (shapeCast S1x128 (shapeCast S1x128 (T : IVec S1x128 32) shapeCasts_S1x128_S1x128) shapeCasts_S1x128_S1x128)
    broadcasts_S1x128_S8x128

/-- A lane index brought into range from below, as the gather's index operand. -/
def wrapped (I : IVec S8x128 32) : IVec S8x128 32 :=
  shapeCast S8x128 (shapeCast S8x128x1
    (select (cmpi .slt I (broadcast S8x128 0#32)) (addi I (broadcast S8x128 128#32)) I) shapeCasts_S8x128_S8x128x1)
    shapeCasts_S8x128x1_S8x128

/-- The table word each code selects from a pair of table rows. -/
def look (I : IVec S8x128 32) (U : IVec S8x128 1) (T0 T1 : Vec F S1x128 .i32) : IVec S8x128 32 :=
  select U (dynamicGather 1 (rows T1) (wrapped I)) (dynamicGather 1 (rows T0) (wrapped I))

/-- The table word of codebook `m`, byte `b`, pair `p`. -/
def word (C : Fin 2 → Vec F S1x32x128 .i8) (T : Fin 2 → Fin 4 → Fin 2 → Vec F S1x128 .i32) (m : Fin 2) (b p : Fin 4) :
    IVec S8x128 32 :=
  look (laneOf (codeWords (C m)) b) (upperOf (codeWords (C m)) b) (T m p 0) (T m p 1)

/-- The first value of each pair, read from the words' low halves. -/
def low (w : IVec S8x128 32) : FVec F S8x128 .f32 := bitcastToFloat .f32 (shli w (broadcast S8x128 16#32))

/-- The second value of each pair, read from the words' high halves. -/
def high (w : IVec S8x128 32) : FVec F S8x128 .f32 := bitcastToFloat .f32 (andi w (broadcast S8x128 4294901760#32))

/-- The zero block. -/
def zeros : FVec F S8x128 .f32 := broadcast S8x128 (Scalar.ofBits .f32 0x00000000#32 : F .f32)

/-- The decoded weights of byte `b`, pair `p`: the two codebooks' values added up, first or second of the pair. -/
def dec (C : Fin 2 → Vec F S1x32x128 .i8) (T : Fin 2 → Fin 4 → Fin 2 → Vec F S1x128 .i32) (b p : Fin 4) (second : Bool) :
    FVec F S8x128 .f32 :=
  match second with
  | false => addf (addf zeros (low (word C T 0 b p))) (low (word C T 1 b p))
  | true => addf (addf zeros (high (word C T 0 b p))) (high (word C T 1 b p))

/-- The running sum after the two terms of byte `b`, pair `p`; `Y j b` are the eight rows of the weight gradient at
    position `j` of the group and byte `b`. -/
def pair (C : Fin 2 → Vec F S1x32x128 .i8) (T : Fin 2 → Fin 4 → Fin 2 → Vec F S1x128 .i32)
    (Y : Fin 32 → Vec F S8x128 .f32) (b p : Fin 4) (acc : FVec F S8x128 .f32) : FVec F S8x128 .f32 :=
  addf (addf acc (mulf (Y ⟨8 * p.val + b.val, by omega⟩) (dec C T b p false)))
    (mulf (Y ⟨8 * p.val + 4 + b.val, by omega⟩) (dec C T b p true))

/-- The running sum after the eight terms of byte `b`. -/
def byteSum (C : Fin 2 → Vec F S1x32x128 .i8) (T : Fin 2 → Fin 4 → Fin 2 → Vec F S1x128 .i32)
    (Y : Fin 32 → Vec F S8x128 .f32) (b : Fin 4) (acc : FVec F S8x128 .f32) : FVec F S8x128 .f32 :=
  pair C T Y b 3 (pair C T Y b 2 (pair C T Y b 1 (pair C T Y b 0 acc)))

/-- The running sum after one pass. -/
def pass (C : Fin 2 → Vec F S1x32x128 .i8) (T : Fin 2 → Fin 4 → Fin 2 → Vec F S1x128 .i32)
    (Y : Fin 32 → Vec F S8x128 .f32) (acc : FVec F S8x128 .f32) : FVec F S8x128 .f32 :=
  byteSum C T Y 3 (byteSum C T Y 2 (byteSum C T Y 1 (byteSum C T Y 0 acc)))

/-- The row scales of a lane block repeated over the eight sublanes. -/
def scales (s : Vec F S1x128 .f32) : FVec F S8x128 .f32 :=
  broadcastTo S8x128 (shapeCast S1x128 (shapeCast S1x128 s shapeCasts_S1x128_S1x128) shapeCasts_S1x128_S1x128)
    broadcasts_S1x128_S8x128

/-- What a pass stores of the weighted gradient: eight rows of the gradient times the row scales. -/
def weighted (y : Vec F S8x128 .f32) (s : FVec F S8x128 .f32) : FVec F S1x8x128 .f32 :=
  shapeCast S1x8x128 (mulf y s) shapeCasts_S8x128_S1x8x128

/-- What a pass stores of the code words. -/
def packed (C : Vec F S1x32x128 .i8) : IVec S1x1x1x8x128 32 :=
  shapeCast S1x1x1x8x128 (codeWords C) shapeCasts_S8x128_S1x1x1x8x128

/-- A lane block's row sums: the running sum added over its eight sublanes. -/
def collapse (acc : FVec F S8x128 .f32) : FVec F S1x128 .f32 :=
  shapeCast S1x128 (multiReduction .add [0] S128 acc 0x00000000#32 reduces_S8x128_S128 (.inl rfl) rfl) shapeCasts_S128_S1x128

/-- The order in which a pass writes the weighted gradient's thirty-two row groups, last first. -/
def order : List (Fin 32) :=
  [31, 27, 23, 19, 15, 11, 7, 3, 30, 26, 22, 18, 14, 10, 6, 2, 29, 25, 21, 17, 13, 9, 5, 1, 28, 24, 20, 16, 12, 8, 4, 0]

/-- A table row lies in the table. -/
theorem table_inb (m : Fin 2) (p : Fin 4) (h : Fin 2) :
    ∀ a, (![(m.val * 4 + p.val) * 2 + h.val, 0] : Fin 2 → ℕ) a + S1x128.size a ≤ S16x128.size a := by
  revert m p h; decide

end Cert.KernelIdeal.Pass

end
-- ==== Proof.Bits.lean ====
/- Facts about bit patterns: the f32 value of a bf16 pattern placed in a word's high half, the two halves of a word of
   two bf16 patterns, and the lane and half of the table that a byte of a word of four codes names. -/
module

public import proofs.«01_k».proof.Proof.Vocab
public import Idealize.ShloMosaic.Lib.BitcastFour
public import Idealize.ShloMosaic.Lib.BitcastConvert
public import Idealize.ShloMosaic.PureOps.Ideal
public import Idealize.ShloMosaic.Lib.Pointwise
public import Mathlib.Tactic.Ring

@[expose] public section

noncomputable section

open Idealize.ShloMosaic

namespace Cert.KernelIdeal.Pass

/-- A pattern of 23 fraction bits with the sign and exponent of a pattern of 7 and its fraction followed by zeros
    denotes the same value. -/
theorem ieee_eq (b : BitVec 32) (c : BitVec 16) (hs : b.extractLsb' (8 + 23) 1 = c.extractLsb' (8 + 7) 1)
    (he : b.extractLsb' 23 8 = c.extractLsb' 7 8) (hf : (b.extractLsb' 0 23).toNat = (c.extractLsb' 0 7).toNat * 65536) :
    Ideal.ieee 8 23 b = Ideal.ieee 8 7 c := by
  unfold Ideal.ieee
  simp only [hs, he, hf]
  generalize (c.extractLsb' 7 8).toNat = ex
  generalize (c.extractLsb' 0 7).toNat = fr
  generalize (c.extractLsb' (8 + 7) 1 == 1#1) = neg
  have h16 : (2 : ℝ) ^ (16 : ℤ) = 65536 := by norm_num
  have z : fr * 65536 = 0 ↔ fr = 0 := by omega
  have e1 : (2 : ℝ) ^ (1 - (2 ^ (8 - 1) - 1) - (7 : ℕ) : ℤ) = (2 : ℝ) ^ (1 - (2 ^ (8 - 1) - 1) - (23 : ℕ) : ℤ) * 65536 := by
    rw [← h16, ← zpow_add₀ (by norm_num)]; norm_num
  have e2 : (2 : ℝ) ^ ((ex : ℤ) - (2 ^ (8 - 1) - 1) - (7 : ℕ)) = (2 : ℝ) ^ ((ex : ℤ) - (2 ^ (8 - 1) - 1) - (23 : ℕ)) * 65536 := by
    rw [← h16, ← zpow_add₀ (by norm_num)]; congr 1; push_cast; ring
  simp only [z]
  by_cases h1 : ex = 2 ^ 8 - 1
  · rw [if_pos h1, if_pos h1]
  rw [if_neg h1, if_neg h1]
  by_cases h2 : ex = 0
  · rw [if_pos h2, if_pos h2, e1]
    congr 1; push_cast; ring
  · rw [if_neg h2, if_neg h2, e2]
    congr 1; push_cast; ring

/-- A bf16 pattern placed in the high half of a word of zeros denotes, as an f32 pattern, what it denotes as bf16. -/
theorem ofBits_high_half (c : BitVec 16) : Ideal.ofBits .f32 (c.setWidth 32 <<< 16) = Ideal.ofBits .bf16 c := by
  refine ieee_eq _ _ ?_ ?_ ?_
  · apply BitVec.eq_of_getLsbD_eq
    intro q hq
    obtain rfl : q = 0 := by omega
    simp [BitVec.getLsbD_extractLsb', BitVec.getLsbD_shiftLeft, BitVec.getLsbD_setWidth]
  · apply BitVec.eq_of_getLsbD_eq
    intro q hq
    simp only [BitVec.getLsbD_extractLsb', BitVec.getLsbD_shiftLeft, BitVec.getLsbD_setWidth, hq]
    have e : 23 + q - 16 = 7 + q := by omega
    simp [e, show 23 + q < 32 by omega, show ¬ 23 + q < 16 by omega, show 7 + q < 32 by omega]
  · have := c.isLt
    simp only [BitVec.extractLsb'_toNat, BitVec.toNat_shiftLeft, BitVec.toNat_setWidth, Nat.shiftLeft_eq, Nat.shiftRight_zero]
    omega

/-- The low half of a word of two patterns, moved to the high half. -/
theorem low_half (hi lo : BitVec 16) : (hi ++ lo : BitVec 32) <<< 16 = lo.setWidth 32 <<< 16 := by
  apply BitVec.eq_of_getLsbD_eq
  intro q hq
  simp only [BitVec.getLsbD_shiftLeft, BitVec.getLsbD_setWidth, BitVec.getLsbD_append, hq]
  by_cases h : q < 16
  · simp [h]
  · simp [h, show q - 16 < 16 by omega, show q - 16 < 32 by omega]

/-- The high half of a word of two patterns, kept in place. -/
theorem high_half (hi lo : BitVec 16) : (hi ++ lo : BitVec 32) &&& 4294901760#32 = hi.setWidth 32 <<< 16 := by
  apply BitVec.eq_of_getLsbD_eq
  intro q hq
  have hm : (4294901760#32 : BitVec 32).getLsbD q = decide (16 ≤ q) := by
    have : q < 32 := hq
    interval_cases q <;> rfl
  simp only [BitVec.getLsbD_and, BitVec.getLsbD_shiftLeft, BitVec.getLsbD_setWidth, BitVec.getLsbD_append, hq, hm]
  by_cases h : q < 16
  · simp [h]
  · simp [h, show q - 16 < 32 by omega, show 16 ≤ q by omega]

/-- Four bytes side by side, the first one lowest. -/
def four (b : Fin 4 → BitVec 8) : BitVec 32 :=
  (b 0).setWidth 32 ||| ((b 1).setWidth 32 <<< 8) ||| ((b 2).setWidth 32 <<< 16) ||| ((b 3).setWidth 32 <<< 24)

/-- Bit `q` of four bytes side by side is bit `q % 8` of byte `q / 8`. -/
theorem four_getLsbD (b : Fin 4 → BitVec 8) (q : ℕ) (hq : q < 32) :
    (four b).getLsbD q = (b ⟨q / 8, by omega⟩).getLsbD (q % 8) := four_bytes_getLsbD b q hq

/-- A byte of four side by side: shifted down, its low seven bits are the byte's remainder by 128. -/
theorem four_toNat (b : Fin 4 → BitVec 8) (n : Fin 4) : (four b >>> (8 * n.val)).toNat % 256 = (b n).toNat := by
  have h : (four b >>> (8 * n.val)).setWidth 8 = b n := by
    apply BitVec.eq_of_getLsbD_eq
    intro q hq
    have hn := n.isLt
    simp only [BitVec.getLsbD_setWidth, BitVec.getLsbD_ushiftRight, hq, decide_true, Bool.true_and]
    unfold four
    rw [four_bytes_getLsbD b (8 * n.val + q) (by omega)]
    have e1 : (8 * n.val + q) / 8 = n.val := by omega
    have e2 : (8 * n.val + q) % 8 = q := by omega
    simp only [e1, e2]
  rw [← h, BitVec.toNat_setWidth]

/-- The lane a code names. -/
theorem lane_toNat (b : Fin 4 → BitVec 8) (n : Fin 4) :
    ((four b >>> (8 * n.val)) &&& 127#32).toNat = (b n).toNat % 128 := by
  rw [← four_toNat b n, BitVec.toNat_and]
  show _ &&& (2 ^ 7 - 1) = _
  rw [Nat.and_two_pow_sub_one_eq_mod]
  omega

/-- The half of the table a code names. -/
theorem upper_iff (b : Fin 4 → BitVec 8) (n : Fin 4) :
    ((four b >>> (8 * n.val)) &&& 128#32) = 0#32 ↔ (b n).toNat < 128 := by
  have ht : ((four b >>> (8 * n.val)) &&& 128#32) = 0#32 ↔ (four b >>> (8 * n.val)).toNat.testBit 7 = false := by
    constructor
    · intro h
      have := congrArg (fun x : BitVec 32 => x.getLsbD 7) h
      rw [BitVec.getLsbD_and, show (128#32 : BitVec 32).getLsbD 7 = true from rfl, Bool.and_true] at this
      exact this
    · intro h
      apply BitVec.eq_of_getLsbD_eq
      intro q hq
      have hm : (128#32 : BitVec 32).getLsbD q = decide (q = 7) := by
        have : q < 32 := hq
        interval_cases q <;> rfl
      rw [BitVec.getLsbD_and, hm]
      by_cases e : q = 7
      · subst e; simp only [BitVec.getLsbD, h]; simp
      · simp [e]
  rw [ht, ← four_toNat b n, Nat.testBit_eq_decide_div_mod_eq]
  generalize (four b >>> (8 * n.val)).toNat = x
  simp only [decide_eq_false_iff_not]
  omega

end Cert.KernelIdeal.Pass

end
-- ==== Proof.Point.lean ====
/- The pieces of a pass read at one element. -/
module

public import proofs.«01_k».proof.Proof.Bits

@[expose] public section

set_option maxRecDepth 16384

noncomputable section

open Idealize.ShloMosaic Idealize.ShloMosaic.TcCoe Idealize.SL.Sem

namespace Cert.KernelIdeal.Pass

open Cert.KernelIdeal Cert.KernelIdeal.Gen

/-- A code word holds the four bytes of four consecutive code rows. -/
theorem codeWords_apply (C : Vec Ideal S1x32x128 .i8) (w : Fin 8) (l : Fin 128) :
    codeWords C (ix2 w l) = four (fun b => C (ix3 0 ⟨4 * w.val + b.val, by omega⟩ l)) := by
  apply BitVec.eq_of_getLsbD_eq
  intro q hq
  rw [four_getLsbD _ q hq]
  unfold codeWords
  rw [ix2_eq_valueIdx,
    bitcast_8_32_getLsbD_ix2 _ bitcasts_S32x128_w8_S8x128_w32 w l q hq ⟨4 * w.val + q / 8, by omega⟩ rfl, ← ix2_eq_valueIdx]
  congr 1
  pointwise

/-- The shifted code word at an element. -/
theorem shifted_apply (C : Vec Ideal S1x32x128 .i8) (b : Fin 4) (w : Fin 8) (l : Fin 128) :
    shifted (codeWords C) b (ix2 w l) = four (fun b => C (ix3 0 ⟨4 * w.val + b.val, by omega⟩ l)) >>> (8 * b.val) := by
  unfold shifted
  rw [shrui_apply, codeWords_apply]
  match b with
  | 0 => rfl
  | 1 => rfl
  | 2 => rfl
  | 3 => rfl

/-- A table row repeated over the sublanes is that row at every sublane. -/
theorem rows_apply (T : Vec Ideal S1x128 .i32) (w : Fin 8) (l : Fin 128) : rows T (ix2 w l) = T (ix2 0 l) := by
  pointwise [rows]

/-- A lane index below 128 is left as it is. -/
theorem wrapped_apply (I : IVec S8x128 32) (j : S8x128.Idx) (h : (I j).toNat < 128) : wrapped I j = I j := by
  have e : wrapped I j = Scalar.select (IntOp.cmpi .slt (I j) 0#32) (I j + 128#32) (I j) := by
    unfold wrapped
    rw [shapeCast_comp, shapeCast_id]
    rfl
  rw [e]
  have : (I j).slt 0#32 = false := by
    rw [BitVec.slt_eq_decide, decide_eq_false_iff_not, BitVec.toInt_eq_toNat_of_lt (by omega)]
    simp
  simp [Scalar.select, IntOp.cmpi, this]

/-- The table word a code selects: the code's remainder by 128 names the lane, its quotient the row. -/
theorem look_apply (C : Vec Ideal S1x32x128 .i8) (T : Fin 2 → Vec Ideal S1x128 .i32) (b : Fin 4) (w : Fin 8) (l : Fin 128)
    (c : BitVec 8) (hc : C (ix3 0 ⟨4 * w.val + b.val, by omega⟩ l) = c) :
    look (laneOf (codeWords C) b) (upperOf (codeWords C) b) (T 0) (T 1) (ix2 w l)
      = T ⟨c.toNat / 128, by have := c.isLt; omega⟩ (ix2 0 ⟨c.toNat % 128, by omega⟩) := by
  have hl : laneOf (codeWords C) b (ix2 w l) = four (fun b => C (ix3 0 ⟨4 * w.val + b.val, by omega⟩ l)) >>> (8 * b.val) &&& 127#32 := by
    unfold laneOf
    rw [andi_apply, shifted_apply]
    rfl
  have hn : (laneOf (codeWords C) b (ix2 w l)).toNat = c.toNat % 128 := by
    rw [hl, lane_toNat, hc]
  have hu : upperOf (codeWords C) b (ix2 w l) = if c.toNat < 128 then 0#1 else 1#1 := by
    unfold upperOf
    rw [cmpi_apply, andi_apply, shifted_apply]
    have := upper_iff (fun b => C (ix3 0 ⟨4 * w.val + b.val, by omega⟩ l)) b
    rw [hc] at this
    show BitVec.ofBool ((_ &&& 128#32) != 0#32) = _
    by_cases h : c.toNat < 128
    · rw [if_pos h, this.2 h]; rfl
    · rw [if_neg h, bne_iff_ne.2 (fun e => h (this.1 e))]; rfl
  have hg : ∀ X : Vec Ideal S1x128 .i32, dynamicGather 1 (rows X) (wrapped (laneOf (codeWords C) b)) (ix2 w l)
      = X (ix2 0 ⟨c.toNat % 128, by omega⟩) := by
    intro X
    have hw := wrapped_apply (laneOf (codeWords C) b) (ix2 w l) (by rw [hn]; omega)
    have : dynamicGather 1 (rows X) (wrapped (laneOf (codeWords C) b)) (ix2 w l)
        = rows X (ix2 w ⟨c.toNat % 128, by omega⟩) := by
      unfold dynamicGather
      congr 1
      funext a
      match a with
      | ⟨0, _⟩ => rfl
      | ⟨1, _⟩ =>
        refine Fin.ext ?_
        show (wrapped (laneOf (codeWords C) b) (ix2 w l)).toNat % 128 = _
        rw [hw, hn]
        exact Nat.mod_mod _ _
    rw [this, rows_apply]
  unfold look
  show Scalar.select (upperOf (codeWords C) b (ix2 w l)) _ _ = _
  rw [hu, hg, hg]
  have hc := c.isLt
  by_cases h : c.toNat < 128
  · rw [if_pos h]
    have e : (⟨c.toNat / 128, by omega⟩ : Fin 2) = 0 := Fin.ext (by show c.toNat / 128 = 0; omega)
    rw [e]; rfl
  · rw [if_neg h]
    have e : (⟨c.toNat / 128, by omega⟩ : Fin 2) = 1 := Fin.ext (by show c.toNat / 128 = 1; omega)
    rw [e]; rfl

/-- The decoded value of code `c`: the table row of codebook `m`, pair `p` and the code's upper bit, at the code's lane, its
    low half for the first of the pair and its high half for the second. -/
def entry (T : Fin 2 → Fin 4 → Fin 2 → Vec Ideal S1x128 .i32) (m : Fin 2) (p : Fin 4) (second : Bool) (c : BitVec 8) : EReal :=
  let x : BitVec 32 := T m p ⟨c.toNat / 128, by have := c.isLt; omega⟩ (ix2 0 ⟨c.toNat % 128, by omega⟩)
  match second with
  | false => Ideal.ofBits .f32 (x <<< 16)
  | true => Ideal.ofBits .f32 (x &&& 4294901760#32)

/-- The decoded weight at an element: the two codebooks' values of that element's two codes, added up. -/
theorem dec_apply (C : Fin 2 → Vec Ideal S1x32x128 .i8) (T : Fin 2 → Fin 4 → Fin 2 → Vec Ideal S1x128 .i32) (b p : Fin 4)
    (second : Bool) (w : Fin 8) (l : Fin 128) :
    dec C T b p second (ix2 w l)
      = entry T 0 p second (C 0 (ix3 0 ⟨4 * w.val + b.val, by omega⟩ l))
        + entry T 1 p second (C 1 (ix3 0 ⟨4 * w.val + b.val, by omega⟩ l)) := by
  have hw : ∀ m, word C T m b p (ix2 w l) = _ := fun m => look_apply (C m) (T m p) b w l _ rfl
  have hz : (zeros (F := Ideal)) (ix2 w l) = 0 := by pointwise [zeros]
  match second with
  | false =>
    show zeros (ix2 w l) + Ideal.ofBits .f32 (word C T 0 b p (ix2 w l) <<< 16) + Ideal.ofBits .f32 (word C T 1 b p (ix2 w l) <<< 16) = _
    rw [hz, zero_add, hw, hw]; rfl
  | true =>
    show zeros (ix2 w l) + Ideal.ofBits .f32 (word C T 0 b p (ix2 w l) &&& 4294901760#32)
      + Ideal.ofBits .f32 (word C T 1 b p (ix2 w l) &&& 4294901760#32) = _
    rw [hz, zero_add, hw, hw]; rfl

/-- Four terms added one after the other. -/
theorem add_four (f : Fin 4 → EReal) (x : EReal) : x + f 0 + f 1 + f 2 + f 3 = x + ∑ p : Fin 4, f p := by
  rw [Fin.sum_univ_four, add_assoc, add_assoc, add_assoc, add_assoc, add_assoc]

/-- The running sum after a pass: what it was before, plus the sum over the pass's bytes and pairs of the two products of
    gradient and decoded weight. -/
theorem pass_apply (C : Fin 2 → Vec Ideal S1x32x128 .i8) (T : Fin 2 → Fin 4 → Fin 2 → Vec Ideal S1x128 .i32)
    (Y : Fin 32 → Vec Ideal S8x128 .f32) (acc : FVec Ideal S8x128 .f32) (j : S8x128.Idx) :
    pass C T Y acc j = acc j + ∑ b : Fin 4, ∑ p : Fin 4,
      (Y ⟨8 * p.val + b.val, by omega⟩ j * dec C T b p false j + Y ⟨8 * p.val + 4 + b.val, by omega⟩ j * dec C T b p true j) := by
  have hp : ∀ (b p : Fin 4) (a : FVec Ideal S8x128 .f32), pair C T Y b p a j = a j +
      (Y ⟨8 * p.val + b.val, by omega⟩ j * dec C T b p false j + Y ⟨8 * p.val + 4 + b.val, by omega⟩ j * dec C T b p true j) :=
    fun b p a => add_assoc _ _ _
  have hb : ∀ (b : Fin 4) (a : FVec Ideal S8x128 .f32), byteSum C T Y b a j = a j + ∑ p : Fin 4,
      (Y ⟨8 * p.val + b.val, by omega⟩ j * dec C T b p false j + Y ⟨8 * p.val + 4 + b.val, by omega⟩ j * dec C T b p true j) := by
    intro b a
    unfold byteSum
    rw [hp, hp, hp, hp]
    exact add_four (fun p => Y ⟨8 * p.val + b.val, by omega⟩ j * dec C T b p false j
      + Y ⟨8 * p.val + 4 + b.val, by omega⟩ j * dec C T b p true j) (a j)
  unfold pass
  rw [hb, hb, hb, hb]
  exact add_four (fun b => ∑ p : Fin 4, (Y ⟨8 * p.val + b.val, by omega⟩ j * dec C T b p false j
    + Y ⟨8 * p.val + 4 + b.val, by omega⟩ j * dec C T b p true j)) (acc j)

/-- A lane block's row scales repeated over the sublanes. -/
theorem scales_apply (s : Vec Ideal S1x128 .f32) (w : Fin 8) (l : Fin 128) : scales s (ix2 w l) = s (ix2 0 l) := by
  pointwise [scales]

/-- A stored element of the weighted gradient. -/
theorem weighted_apply (y : Vec Ideal S8x128 .f32) (s : FVec Ideal S8x128 .f32) (z : Fin 1) (w : Fin 8) (l : Fin 128) :
    weighted y s (ix3 z w l) = y (ix2 w l) * s (ix2 w l) := by
  pointwise [weighted]

/-- A stored code word. -/
theorem packed_apply (C : Vec Ideal S1x32x128 .i8) (x y z : Fin 1) (w : Fin 8) (l : Fin 128) :
    packed C (ix5 x y z w l) = codeWords C (ix2 w l) := by
  pointwise [packed]

/-- A lane block's row sums. -/
theorem collapse_apply (acc : FVec Ideal S8x128 .f32) (z : Fin 1) (l : Fin 128) :
    collapse acc (ix2 z l) = ∑ w : Fin 8, acc (ix2 w l) := by
  pointwise [collapse]

end Cert.KernelIdeal.Pass

end
-- ==== Proof.Trips.lean ====
/- One pass of each of the five lane blocks' loops, in the common vocabulary: the loop's state after a pass is the
   common pass applied to its state before it, at that lane block's offsets. -/
module

public import proofs.«01_k».proof.Proof.Vocab

@[expose] public section

set_option maxRecDepth 16384

noncomputable section

open Idealize.ShloMosaic Idealize.ShloMosaic.TcCoe Idealize.SL.Sem

namespace Cert.KernelIdeal.Pass

open Cert.KernelIdeal Cert.KernelIdeal.Gen

variable {F : FTy → Type} [FloatOps F]

/-- A loop's state: the running sum and the stores made so far, last first, into the weighted gradient's block and
    into the code words' block. -/
abbrev State (F : FTy → Type) : Type :=
  FVec F S8x128 .f32 × List (View.Piece (Elt F) S5x1536x128 .f32) × List (View.Piece (Elt F) S5x6x2x8x128 .i32)

/-- The state after a pass that reads the code bytes `A` at offsets `o0`, `o1`, the table `B`, the weight gradient `Y` at
    offsets `oy n`, and stores at offsets `ov n` and `w0`, `w1`. -/
def stateAt (A : Vec F S2x192x640 .i8) (B : Vec F S16x128 .i32) (Y : Vec F S1536x640 .f32) (s : FVec F S8x128 .f32)
    (o0 : Fin 3 → ℕ) (h0 : ∀ a, o0 a + S1x32x128.size a ≤ S2x192x640.size a)
    (o1 : Fin 3 → ℕ) (h1 : ∀ a, o1 a + S1x32x128.size a ≤ S2x192x640.size a)
    (w0 : Fin 5 → ℕ) (g0 : ∀ a, w0 a + S1x1x1x8x128.size a ≤ S5x6x2x8x128.size a)
    (w1 : Fin 5 → ℕ) (g1 : ∀ a, w1 a + S1x1x1x8x128.size a ≤ S5x6x2x8x128.size a)
    (oy : Fin 32 → Fin 2 → ℕ) (hy : ∀ n a, oy n a + S8x128.size a ≤ S1536x640.size a)
    (ov : Fin 32 → Fin 3 → ℕ) (hv : ∀ n a, ov n a + S1x8x128.size a ≤ S5x1536x128.size a)
    (prev : State F) : State F :=
  (pass (fun m => match m with
        | 0 => View.ld A (Rect.unit (s := S2x192x640) o0 S1x32x128.size h0)
        | 1 => View.ld A (Rect.unit (s := S2x192x640) o1 S1x32x128.size h1))
      (fun m p h => View.ld B (Rect.unit (s := S16x128) ![(m.val * 4 + p.val) * 2 + h.val, 0] S1x128.size (table_inb m p h)))
      (fun n => View.ld Y (Rect.unit (s := S1536x640) (oy n) S8x128.size (hy n))) prev.1,
   order.map (fun n => ⟨Rect.unit (s := S5x1536x128) (ov n) S1x8x128.size (hv n),
      weighted (View.ld Y (Rect.unit (s := S1536x640) (oy n) S8x128.size (hy n))) s⟩) ++ prev.2.1,
   [⟨Rect.unit (s := S5x6x2x8x128) w1 S1x1x1x8x128.size g1, packed (View.ld A (Rect.unit (s := S2x192x640) o1 S1x32x128.size h1))⟩,
    ⟨Rect.unit (s := S5x6x2x8x128) w0 S1x1x1x8x128.size g0, packed (View.ld A (Rect.unit (s := S2x192x640) o0 S1x32x128.size h0))⟩]
      ++ prev.2.2)

/-- Thirty-two rows of a lane block's code bytes lie in the block. -/
theorem code_inb (ob : Fin 5) (m : Fin 2) (k : Fin 6) :
    ∀ a, (![m.val, 32 * k.val, 128 * ob.val] : Fin 3 → ℕ) a + S1x32x128.size a ≤ S2x192x640.size a := by
  revert ob m k; decide +kernel

/-- A pass's code words lie in their block. -/
theorem packed_inb (ob : Fin 5) (m : Fin 2) (k : Fin 6) :
    ∀ a, (![ob.val, k.val, m.val, 0, 0] : Fin 5 → ℕ) a + S1x1x1x8x128.size a ≤ S5x6x2x8x128.size a := by
  revert ob m k; decide +kernel

/-- Eight rows of the weight gradient lie in it. -/
theorem grad_inb (ob : Fin 5) (k : Fin 6) (n : Fin 32) :
    ∀ a, (![256 * k.val + 8 * n.val, 128 * ob.val] : Fin 2 → ℕ) a + S8x128.size a ≤ S1536x640.size a := by
  revert ob k n; decide +kernel

/-- Eight rows of a lane block's weighted gradient lie in the block. -/
theorem weighted_inb (ob : Fin 5) (k : Fin 6) (n : Fin 32) :
    ∀ a, (![ob.val, 256 * k.val + 8 * n.val, 0] : Fin 3 → ℕ) a + S1x8x128.size a ≤ S5x1536x128.size a := by
  revert ob k n; decide +kernel

/-- The state after pass `k` of lane block `ob`. -/
def state (A : Vec F S2x192x640 .i8) (B : Vec F S16x128 .i32) (Y : Vec F S1536x640 .f32) (s : FVec F S8x128 .f32)
    (ob : Fin 5) (k : Fin 6) (prev : State F) : State F :=
  stateAt A B Y s _ (code_inb ob 0 k) _ (code_inb ob 1 k) _ (packed_inb ob 0 k) _ (packed_inb ob 1 k) _ (grad_inb ob k)
    _ (weighted_inb ob k) prev

/-- A pass at offsets that equal lane block `ob`'s is that lane block's pass. -/
theorem stateAt_eq {A : Vec F S2x192x640 .i8} {B : Vec F S16x128 .i32} {Y : Vec F S1536x640 .f32} {s : FVec F S8x128 .f32}
    (ob : Fin 5) (k : Fin 6)
    {o0 : Fin 3 → ℕ} (h0 : ∀ a, o0 a + S1x32x128.size a ≤ S2x192x640.size a)
    {o1 : Fin 3 → ℕ} (h1 : ∀ a, o1 a + S1x32x128.size a ≤ S2x192x640.size a)
    {w0 : Fin 5 → ℕ} (g0 : ∀ a, w0 a + S1x1x1x8x128.size a ≤ S5x6x2x8x128.size a)
    {w1 : Fin 5 → ℕ} (g1 : ∀ a, w1 a + S1x1x1x8x128.size a ≤ S5x6x2x8x128.size a)
    {oy : Fin 32 → Fin 2 → ℕ} (hy : ∀ n a, oy n a + S8x128.size a ≤ S1536x640.size a)
    {ov : Fin 32 → Fin 3 → ℕ} (hv : ∀ n a, ov n a + S1x8x128.size a ≤ S5x1536x128.size a) (prev : State F)
    (e0 : o0 = ![(0 : Fin 2).val, 32 * k.val, 128 * ob.val]) (e1 : o1 = ![(1 : Fin 2).val, 32 * k.val, 128 * ob.val])
    (f0 : w0 = ![ob.val, k.val, (0 : Fin 2).val, 0, 0]) (f1 : w1 = ![ob.val, k.val, (1 : Fin 2).val, 0, 0])
    (ey : ∀ n : Fin 32, oy n = ![256 * k.val + 8 * n.val, 128 * ob.val])
    (ev : ∀ n : Fin 32, ov n = ![ob.val, 256 * k.val + 8 * n.val, 0]) :
    stateAt A B Y s o0 h0 o1 h1 w0 g0 w1 g1 oy hy ov hv prev = state A B Y s ob k prev := by
  obtain rfl := funext ey
  obtain rfl := funext ev
  subst e0 e1 f0 f1
  rfl

/-- A loop whose states follow the common pass of lane block `ob`. -/
def Follows (A : Vec F S2x192x640 .i8) (B : Vec F S16x128 .i32) (Y : Vec F S1536x640 .f32) (s : FVec F S8x128 .f32)
    (ob : Fin 5) (σ : ℕ → State F) : Prop :=
  ∀ k : Fin 6, σ (k.val + 1) = state A B Y s ob k (σ k.val)

variable (𝒱 : Variants) (c : Dev nD) (bd : Option 𝒱.V) (i : grid0.Coords) (arg1 : Memref sig .tc .vmem S1536x640 .bf16) (harg1 : arg1.IsWhole) (arg2 : Memref sig .tc .vmem S640x640 .fp8e5m2) (harg2 : arg2.IsWhole) (arg3 : Memref sig .tc .vmem S640x1 .f32) (harg3 : arg3.IsWhole) (arg4 : Memref sig .tc .vmem S2x192x640 .i8) (harg4 : arg4.IsWhole) (arg5 : Memref sig .tc .vmem S16x128 .i32) (harg5 : arg5.IsWhole) (arg6 : Memref sig .tc .vmem S1x640 .f32) (harg6 : arg6.IsWhole) (arg7 : Memref sig .tc .vmem S5x1536x128 .f32) (harg7 : arg7.IsWhole) (arg8 : Memref sig .tc .vmem S5x6x2x8x128 .i32) (harg8 : arg8.IsWhole) (arg9 : Memref sig .tc .vmem S1x640 .f32) (harg9 : arg9.IsWhole) (arg10 : Memref sig .tc .vmem S1536x640 .f32) (harg10 : arg10.IsWhole)
  (X4 : BufTy.Contents (Elt F) arg4.view.ty) (X5 : BufTy.Contents (Elt F) arg5.view.ty) (X10 : BufTy.Contents (Elt F) arg10.view.ty) (init : FVec F S8x128 .f32)

/-- The first loop follows the common pass of lane block 0. -/
theorem follows1 (v14 : Vec F S1x128 .f32) :
    Follows (arg4.view.read (Elt F) X4) (arg5.view.read (Elt F) X5) (arg10.view.read (Elt F) X10) (scales v14) 0
      (st_k0_t1 (F := F) 𝒱 c bd i arg1 harg1 arg2 harg2 arg3 harg3 arg4 harg4 arg5 harg5 arg6 harg6 arg7 harg7 arg8 harg8 arg9 harg9 arg10 harg10 v14 X4 X5 X10 init) := by
  intro k
  refine (st_k0_t1_succ 𝒱 c bd i arg1 harg1 arg2 harg2 arg3 harg3 arg4 harg4 arg5 harg5 arg6 harg6 arg7 harg7 arg8 harg8 arg9 harg9 arg10 harg10 v14 X4 X5 X10 init k).trans (Eq.trans ?_ (stateAt_eq 0 k (k0_off1_inb k) (k0_off2_inb k)
    (k0_off3_inb k) (k0_off4_inb k) (k0_off5_inb k) (k0_off6_inb k) _ (k0_off1_eq k) (k0_off2_eq k) (k0_off3_eq k) (k0_off4_eq k)
    (k0_off5_eq k) (k0_off6_eq k)))
  unfold tripR_k0_t1 tripL_k0_t1 trip_k0_t1
  rfl

/-- The second loop follows the common pass of lane block 1. -/
theorem follows2 (v24 : Vec F S1x128 .f32) :
    Follows (arg4.view.read (Elt F) X4) (arg5.view.read (Elt F) X5) (arg10.view.read (Elt F) X10) (scales v24) 1
      (st_k0_t2 (F := F) 𝒱 c bd i arg1 harg1 arg2 harg2 arg3 harg3 arg4 harg4 arg5 harg5 arg6 harg6 arg7 harg7 arg8 harg8 arg9 harg9 arg10 harg10 v24 X4 X5 X10 init) := by
  intro k
  refine (st_k0_t2_succ 𝒱 c bd i arg1 harg1 arg2 harg2 arg3 harg3 arg4 harg4 arg5 harg5 arg6 harg6 arg7 harg7 arg8 harg8 arg9 harg9 arg10 harg10 v24 X4 X5 X10 init k).trans (Eq.trans ?_ (stateAt_eq 1 k (k0_off7_inb k) (k0_off8_inb k)
    (k0_off9_inb k) (k0_off10_inb k) (k0_off11_inb k) (k0_off12_inb k) _ (k0_off7_eq k) (k0_off8_eq k) (k0_off9_eq k) (k0_off10_eq k)
    (k0_off11_eq k) (k0_off12_eq k)))
  unfold tripR_k0_t2 tripL_k0_t2 trip_k0_t2
  rfl

/-- The third loop follows the common pass of lane block 2. -/
theorem follows3 (v30 : FVec F S8x128 .f32) (v34 : Vec F S1x128 .f32) :
    Follows (arg4.view.read (Elt F) X4) (arg5.view.read (Elt F) X5) (arg10.view.read (Elt F) X10) (scales v34) 2
      (st_k0_t3 (F := F) 𝒱 c bd i arg1 harg1 arg2 harg2 arg3 harg3 arg4 harg4 arg5 harg5 arg6 harg6 arg7 harg7 arg8 harg8 arg9 harg9 arg10 harg10 v30 v34 X4 X5 X10 init) := by
  intro k
  refine (st_k0_t3_succ 𝒱 c bd i arg1 harg1 arg2 harg2 arg3 harg3 arg4 harg4 arg5 harg5 arg6 harg6 arg7 harg7 arg8 harg8 arg9 harg9 arg10 harg10 v30 v34 X4 X5 X10 init k).trans (Eq.trans ?_ (stateAt_eq 2 k (k0_off13_inb k) (k0_off14_inb k)
    (k0_off15_inb k) (k0_off16_inb k) (k0_off17_inb k) (k0_off18_inb k) _ (k0_off13_eq k) (k0_off14_eq k) (k0_off15_eq k) (k0_off16_eq k)
    (k0_off17_eq k) (k0_off18_eq k)))
  unfold tripR_k0_t3 tripL_k0_t3 trip_k0_t3
  rfl

/-- The fourth loop follows the common pass of lane block 3. -/
theorem follows4 (v30 : FVec F S8x128 .f32) (v44 : Vec F S1x128 .f32) :
    Follows (arg4.view.read (Elt F) X4) (arg5.view.read (Elt F) X5) (arg10.view.read (Elt F) X10) (scales v44) 3
      (st_k0_t4 (F := F) 𝒱 c bd i arg1 harg1 arg2 harg2 arg3 harg3 arg4 harg4 arg5 harg5 arg6 harg6 arg7 harg7 arg8 harg8 arg9 harg9 arg10 harg10 v30 v44 X4 X5 X10 init) := by
  intro k
  refine (st_k0_t4_succ 𝒱 c bd i arg1 harg1 arg2 harg2 arg3 harg3 arg4 harg4 arg5 harg5 arg6 harg6 arg7 harg7 arg8 harg8 arg9 harg9 arg10 harg10 v30 v44 X4 X5 X10 init k).trans (Eq.trans ?_ (stateAt_eq 3 k (k0_off19_inb k) (k0_off20_inb k)
    (k0_off21_inb k) (k0_off22_inb k) (k0_off23_inb k) (k0_off24_inb k) _ (k0_off19_eq k) (k0_off20_eq k) (k0_off21_eq k) (k0_off22_eq k)
    (k0_off23_eq k) (k0_off24_eq k)))
  unfold tripR_k0_t4 tripL_k0_t4 trip_k0_t4
  rfl

/-- The fifth loop follows the common pass of lane block 4. -/
theorem follows5 (v57 : FVec F S8x128 .f32) (z : BitVec 32) :
    Follows (arg4.view.read (Elt F) X4) (arg5.view.read (Elt F) X5) (arg10.view.read (Elt F) X10) v57 4
      (st_k0_t5 (F := F) 𝒱 c bd i arg1 harg1 arg2 harg2 arg3 harg3 arg4 harg4 arg5 harg5 arg6 harg6 arg7 harg7 arg8 harg8 arg9 harg9 arg10 harg10 v57 z X4 X5 X10 init) := by
  intro k
  refine (st_k0_t5_succ 𝒱 c bd i arg1 harg1 arg2 harg2 arg3 harg3 arg4 harg4 arg5 harg5 arg6 harg6 arg7 harg7 arg8 harg8 arg9 harg9 arg10 harg10 v57 z X4 X5 X10 init k).trans (Eq.trans ?_ (stateAt_eq 4 k (k0_off25_inb k) (k0_off26_inb k)
    (k0_off27_inb k) (k0_off28_inb k) (k0_off29_inb k) (k0_off30_inb k) _ (k0_off25_eq k) (k0_off26_eq k) (k0_off27_eq k) (k0_off28_eq k)
    (k0_off29_eq k) (k0_off30_eq k)))
  unfold tripR_k0_t5 tripL_k0_t5 trip_k0_t5
  rfl

end Cert.KernelIdeal.Pass

end
-- ==== Proof.Loops.lean ====
/- What a lane block's loop leaves: its running sum, and that every store it makes is a tile of one function. -/
module

public import proofs.«01_k».proof.Proof.Point
public import proofs.«01_k».proof.Proof.Trips

@[expose] public section

set_option maxRecDepth 16384

noncomputable section

open Idealize.ShloMosaic Idealize.ShloMosaic.TcCoe Idealize.SL.Sem

namespace Cert.KernelIdeal.Pass

open Cert.KernelIdeal Cert.KernelIdeal.Gen

/-- The weighted gradient's block: row `r`, lane `l` of lane block `ob` is the weight gradient there times the row scale. -/
def weightedBlock (Y : Vec Ideal S1536x640 .f32) (S : Vec Ideal S1x640 .f32) : Vec Ideal S5x1536x128 .f32 :=
  fun j => Y (ix2 (j 1) ⟨128 * (j 0).val + (j 2).val, by have := (j 0).isLt; have := (j 2).isLt; show _ < 640; simp at *; omega⟩)
    * S (ix2 0 ⟨128 * (j 0).val + (j 2).val, by have := (j 0).isLt; have := (j 2).isLt; show _ < 640; simp at *; omega⟩)

/-- The code words' block: the four code bytes of word row `w` of pass `k`, codebook `m`. -/
def packedBlock (A : Vec Ideal S2x192x640 .i8) : Vec Ideal S5x6x2x8x128 .i32 :=
  fun j => four (fun b => A (ix3 (j 2)
    ⟨32 * (j 1).val + 4 * (j 3).val + b.val, by have := (j 1).isLt; have := (j 3).isLt; show _ < 192; simp at *; omega⟩
    ⟨128 * (j 0).val + (j 4).val, by have := (j 0).isLt; have := (j 4).isLt; show _ < 640; simp at *; omega⟩))

/-- The value the table holds for code `c` of codebook `m`: position `2 p` or `2 p + 1` of the group. -/
def tableValue (B : Vec Ideal S16x128 .i32) (m : Fin 2) (p : Fin 4) (second : Bool) (c : BitVec 8) : EReal :=
  let x : BitVec 32 := B (ix2 ⟨(m.val * 4 + p.val) * 2 + c.toNat / 128, by have := c.isLt; omega⟩ ⟨c.toNat % 128, by omega⟩)
  match second with
  | false => Ideal.ofBits .f32 (x <<< 16)
  | true => Ideal.ofBits .f32 (x &&& 4294901760#32)

/-- The decoded weight of group row `g`, lane `o`, at position `2 p` or `2 p + 1` of the group. -/
def decoded (A : Vec Ideal S2x192x640 .i8) (B : Vec Ideal S16x128 .i32) (g : Fin 192) (o : Fin 640) (p : Fin 4) (second : Bool) : EReal :=
  tableValue B 0 p second (A (ix3 0 g o)) + tableValue B 1 p second (A (ix3 1 g o))

/-- One pass's terms at sublane `w`, lane `o`: the gradient times the decoded weight over the pass's bytes and pairs. -/
def passSum (A : Vec Ideal S2x192x640 .i8) (B : Vec Ideal S16x128 .i32) (Y : Vec Ideal S1536x640 .f32) (k : Fin 6) (w : Fin 8)
    (o : Fin 640) : EReal :=
  ∑ b : Fin 4, ∑ p : Fin 4,
    (Y (ix2 ⟨256 * k.val + 8 * (8 * p.val + b.val) + w.val, by omega⟩ o) * decoded A B ⟨32 * k.val + 4 * w.val + b.val, by omega⟩ o p false
      + Y (ix2 ⟨256 * k.val + 8 * (8 * p.val + 4 + b.val) + w.val, by omega⟩ o) * decoded A B ⟨32 * k.val + 4 * w.val + b.val, by omega⟩ o p true)

variable {A : Vec Ideal S2x192x640 .i8} {B : Vec Ideal S16x128 .i32} {Y : Vec Ideal S1536x640 .f32} {s : FVec Ideal S8x128 .f32}
  {ob : Fin 5} {σ : ℕ → State Ideal}

theorem ld_codes (k : Fin 6) (m : Fin 2) (z : Fin 1) (r : Fin 32) (l : Fin 128) :
    View.ld A (Rect.unit (s := S2x192x640) ![m.val, 32 * k.val, 128 * ob.val] S1x32x128.size (code_inb ob m k)) (ix3 z r l)
      = A (ix3 m ⟨32 * k.val + r.val, by omega⟩ ⟨128 * ob.val + l.val, by omega⟩) := by
  show A _ = A _
  congr 1
  funext a
  match a with
  | ⟨0, _⟩ => exact Fin.ext (by show m.val + 1 * z.val = m.val; omega)
  | ⟨1, _⟩ => exact Fin.ext (by show 32 * k.val + 1 * r.val = _; simp)
  | ⟨2, _⟩ => exact Fin.ext (by show 128 * ob.val + 1 * l.val = _; simp)

theorem ld_grad (k : Fin 6) (n : Fin 32) (w : Fin 8) (l : Fin 128) :
    View.ld Y (Rect.unit (s := S1536x640) ![256 * k.val + 8 * n.val, 128 * ob.val] S8x128.size (grad_inb ob k n)) (ix2 w l)
      = Y (ix2 ⟨256 * k.val + 8 * n.val + w.val, by omega⟩ ⟨128 * ob.val + l.val, by omega⟩) := by
  show Y _ = Y _
  congr 1
  funext a
  match a with
  | ⟨0, _⟩ => exact Fin.ext (by show 256 * k.val + 8 * n.val + 1 * w.val = _; simp)
  | ⟨1, _⟩ => exact Fin.ext (by show 128 * ob.val + 1 * l.val = _; simp)

theorem entry_ld (m : Fin 2) (p : Fin 4) (second : Bool) (c : BitVec 8) :
    entry (fun m p h => View.ld B (Rect.unit (s := S16x128) ![(m.val * 4 + p.val) * 2 + h.val, 0] S1x128.size (table_inb m p h))) m p second c
      = tableValue B m p second c := by
  have e : View.ld B (Rect.unit (s := S16x128) ![(m.val * 4 + p.val) * 2 + c.toNat / 128, 0] S1x128.size
        (table_inb m p ⟨c.toNat / 128, by have := c.isLt; omega⟩)) (ix2 0 ⟨c.toNat % 128, by omega⟩)
      = B (ix2 ⟨(m.val * 4 + p.val) * 2 + c.toNat / 128, by have := c.isLt; omega⟩ ⟨c.toNat % 128, by omega⟩) := by
    show B _ = B _
    congr 1
    funext a
    match a with
    | ⟨0, _⟩ => exact Fin.ext (by show (m.val * 4 + p.val) * 2 + c.toNat / 128 + 1 * 0 = _; simp)
    | ⟨1, _⟩ => exact Fin.ext (by show 0 + 1 * (c.toNat % 128) = _; simp)
  unfold entry tableValue
  simp only [e]
  cases second <;> rfl

/-- The running sum after `n` passes. -/
theorem carried_apply (h : Follows A B Y s ob σ) (w : Fin 8) (l : Fin 128) :
    ∀ (n : ℕ) (hn : n ≤ 6), (σ n).1 (ix2 w l)
      = (σ 0).1 (ix2 w l) + ∑ k : Fin n, passSum A B Y (k.castLE hn) w ⟨128 * ob.val + l.val, by omega⟩
  | 0, _ => by simp
  | n + 1, hn => by
    rw [Fin.sum_univ_castSucc, ← add_assoc]
    have ih := carried_apply h w l n (by omega)
    have e : (∑ k : Fin n, passSum A B Y ((k.castSucc).castLE hn) w ⟨128 * ob.val + l.val, by omega⟩)
        = ∑ k : Fin n, passSum A B Y (k.castLE (by omega : n ≤ 6)) w ⟨128 * ob.val + l.val, by omega⟩ := rfl
    rw [e, ← ih, h ⟨n, by omega⟩]
    refine (pass_apply _ _ _ _ _).trans ?_
    congr 1
    unfold passSum decoded
    refine Finset.sum_congr rfl fun b _ => Finset.sum_congr rfl fun p _ => ?_
    have hd : ∀ second, dec (fun m => match m with
          | 0 => View.ld A (Rect.unit (s := S2x192x640) ![(0 : Fin 2).val, 32 * n, 128 * ob.val] S1x32x128.size (code_inb ob 0 ⟨n, by omega⟩))
          | 1 => View.ld A (Rect.unit (s := S2x192x640) ![(1 : Fin 2).val, 32 * n, 128 * ob.val] S1x32x128.size (code_inb ob 1 ⟨n, by omega⟩)))
        (fun m p h => View.ld B (Rect.unit (s := S16x128) ![(m.val * 4 + p.val) * 2 + h.val, 0] S1x128.size (table_inb m p h))) b p second (ix2 w l)
        = tableValue B 0 p second (A (ix3 0 ⟨32 * n + 4 * w.val + b.val, by omega⟩ ⟨128 * ob.val + l.val, by omega⟩))
          + tableValue B 1 p second (A (ix3 1 ⟨32 * n + 4 * w.val + b.val, by omega⟩ ⟨128 * ob.val + l.val, by omega⟩)) := by
      intro second
      rw [dec_apply, entry_ld, entry_ld]
      have e0 := ld_codes (A := A) (ob := ob) ⟨n, by omega⟩ 0 0 ⟨4 * w.val + b.val, by omega⟩ l
      have e1 := ld_codes (A := A) (ob := ob) ⟨n, by omega⟩ 1 0 ⟨4 * w.val + b.val, by omega⟩ l
      dsimp only at e0 e1 ⊢
      rw [e0, e1]
      simp only [Nat.add_assoc]
    exact congrArg₂ (· + ·)
      (congrArg₂ (· * ·) (ld_grad ⟨n, by omega⟩ ⟨8 * p.val + b.val, by omega⟩ w l) (hd false))
      (congrArg₂ (· * ·) (ld_grad ⟨n, by omega⟩ ⟨8 * p.val + 4 + b.val, by omega⟩ w l) (hd true))

theorem weighted_tile {S : Vec Ideal S1x640 .f32} (hs : ∀ w l, s (ix2 w l) = S (ix2 0 ⟨128 * ob.val + l.val, by omega⟩))
    (k : Fin 6) (n : Fin 32)
    (x : (Rect.unit (s := S5x1536x128) ![ob.val, 256 * k.val + 8 * n.val, 0] S1x8x128.size (weighted_inb ob k n)).shape.Idx) :
    weighted (View.ld Y (Rect.unit (s := S1536x640) ![256 * k.val + 8 * n.val, 128 * ob.val] S8x128.size (grad_inb ob k n))) s x
      = weightedBlock Y S ((Rect.unit (s := S5x1536x128) ![ob.val, 256 * k.val + 8 * n.val, 0] S1x8x128.size (weighted_inb ob k n)).emb x) := by
  obtain ⟨z, w, l, rfl⟩ : ∃ (z : Fin 1) (w : Fin 8) (l : Fin 128), x = ix3 z w l := ⟨_, _, _, eq_ix3 x⟩
  rw [weighted_apply, hs, ld_grad]
  unfold weightedBlock
  have e0 : 128 * ob.val + l.val = 128 * (ob.val + 1 * z.val) + (0 + 1 * l.val) := by omega
  have e1 : 256 * k.val + 8 * n.val + w.val = 256 * k.val + 8 * n.val + 1 * w.val := by omega
  congr 2 <;> funext a <;> match a with
    | ⟨0, _⟩ => first | exact Fin.ext e1 | rfl
    | ⟨1, _⟩ => exact Fin.ext e0

/-- Every store a loop makes into the weighted gradient's block is a tile of it. -/
theorem weighted_tiles (h : Follows A B Y s ob σ) (h0 : (σ 0).2.1 = []) {S : Vec Ideal S1x640 .f32}
    (hs : ∀ w l, s (ix2 w l) = S (ix2 0 ⟨128 * ob.val + l.val, by omega⟩)) :
    ∀ n ≤ 6, ∀ p ∈ (σ n).2.1, ∀ x, p.2 x = weightedBlock Y S (p.1.emb x)
  | 0, _ => by rw [h0]; simp
  | n + 1, hn => by
    rw [h ⟨n, by omega⟩]
    intro p hp
    rcases List.mem_append.1 hp with hp | hp
    · obtain ⟨r, _, rfl⟩ := List.mem_map.1 hp
      exact weighted_tile hs ⟨n, by omega⟩ r
    · exact weighted_tiles h h0 hs n (by omega) p hp

theorem packed_tile (k : Fin 6) (m : Fin 2)
    (x : (Rect.unit (s := S5x6x2x8x128) ![ob.val, k.val, m.val, 0, 0] S1x1x1x8x128.size (packed_inb ob m k)).shape.Idx) :
    packed (View.ld A (Rect.unit (s := S2x192x640) ![m.val, 32 * k.val, 128 * ob.val] S1x32x128.size (code_inb ob m k))) x
      = packedBlock A ((Rect.unit (s := S5x6x2x8x128) ![ob.val, k.val, m.val, 0, 0] S1x1x1x8x128.size (packed_inb ob m k)).emb x) := by
  obtain ⟨z, z', z'', w, l, rfl⟩ : ∃ (z z' z'' : Fin 1) (w : Fin 8) (l : Fin 128), x = ix5 z z' z'' w l := ⟨_, _, _, _, _, eq_ix5 x⟩
  rw [packed_apply, codeWords_apply]
  unfold packedBlock
  congr 1
  funext b
  rw [ld_codes]
  congr 1
  funext a
  match a with
  | ⟨0, _⟩ => exact Fin.ext (by show m.val = m.val + 1 * z''.val; omega)
  | ⟨1, _⟩ => exact Fin.ext (by show 32 * k.val + (4 * w.val + b.val) = 32 * (k.val + 1 * z'.val) + 4 * (0 + 1 * w.val) + b.val; omega)
  | ⟨2, _⟩ => exact Fin.ext (by show 128 * ob.val + l.val = 128 * (ob.val + 1 * z.val) + (0 + 1 * l.val); omega)

/-- Every store a loop makes into the code words' block is a tile of it. -/
theorem packed_tiles (h : Follows A B Y s ob σ) (h0 : (σ 0).2.2 = []) :
    ∀ n ≤ 6, ∀ p ∈ (σ n).2.2, ∀ x, p.2 x = packedBlock A (p.1.emb x)
  | 0, _ => by rw [h0]; simp
  | n + 1, hn => by
    rw [h ⟨n, by omega⟩]
    intro p hp
    rcases List.mem_append.1 hp with hp | hp
    · rcases List.mem_cons.1 hp with rfl | hp
      · exact packed_tile ⟨n, by omega⟩ 1
      · rcases List.mem_cons.1 hp with rfl | hp
        · exact packed_tile ⟨n, by omega⟩ 0
        · exact absurd hp List.not_mem_nil
    · exact packed_tiles h h0 n (by omega) p hp

end Cert.KernelIdeal.Pass

end
-- ==== Proof.Body.lean ====
/- What one grid point of the kernel leaves in its three output blocks, as functions of its six input blocks. -/
module

public import proofs.«01_k».proof.Proof.Loops

@[expose] public section

set_option maxRecDepth 16384

noncomputable section

open Idealize.ShloMosaic Idealize.ShloMosaic.TcCoe Idealize.SL.Sem

namespace Cert.KernelIdeal.Pass

open Cert.KernelIdeal Cert.KernelIdeal.Gen

/-- The weight gradient's block: the product of the activations with the dequantised output gradient, over the tokens. -/
def grad (x0 : Vec Ideal S1536x640 .bf16) (x1 : Vec Ideal S640x640 .fp8e5m2) (x2 : Vec Ideal S640x1 .f32) : Vec Ideal S1536x640 .f32 :=
  fun j => ∑ t : Fin 640, x0 (ix2 (j 0) t) * (x1 (ix2 t (j 1)) * x2 (ix2 t 0))

/-- The row sums' block: gradient times decoded weight, over sublanes, passes, bytes and pairs. -/
def rowSums (A : Vec Ideal S2x192x640 .i8) (B : Vec Ideal S16x128 .i32) (Y : Vec Ideal S1536x640 .f32) : Vec Ideal S1x640 .f32 :=
  fun j => ∑ w : Fin 8, ∑ k : Fin 6, passSum A B Y k w (j 1)

variable (c : Dev nD) (i : grid0.Coords) (arg1 : Memref sig .tc .vmem S1536x640 .bf16) (harg1 : arg1.IsWhole) (arg2 : Memref sig .tc .vmem S640x640 .fp8e5m2) (harg2 : arg2.IsWhole) (arg3 : Memref sig .tc .vmem S640x1 .f32) (harg3 : arg3.IsWhole) (arg4 : Memref sig .tc .vmem S2x192x640 .i8) (harg4 : arg4.IsWhole) (arg5 : Memref sig .tc .vmem S16x128 .i32) (harg5 : arg5.IsWhole) (arg6 : Memref sig .tc .vmem S1x640 .f32) (harg6 : arg6.IsWhole) (arg7 : Memref sig .tc .vmem S5x1536x128 .f32) (harg7 : arg7.IsWhole) (arg8 : Memref sig .tc .vmem S5x6x2x8x128 .i32) (harg8 : arg8.IsWhole) (arg9 : Memref sig .tc .vmem S1x640 .f32) (harg9 : arg9.IsWhole) (arg10 : Memref sig .tc .vmem S1536x640 .f32) (harg10 : arg10.IsWhole)
  (x0 : Vec Ideal S1536x640 .bf16) (x1 : Vec Ideal S640x640 .fp8e5m2) (x2 : Vec Ideal S640x1 .f32) (x3 : Vec Ideal S2x192x640 .i8) (x4 : Vec Ideal S16x128 .i32) (x5 : Vec Ideal S1x640 .f32)

/-- The product the kernel stores is the weight gradient's block. -/
theorem pay_grad : k0_pay1050 (F := Ideal) x1 x2 x0 = grad x0 x1 x2 := by
  funext j
  pointwise [k0_pay1050, grad]

/-- The scratch the loops read holds the weight gradient's block. -/
theorem read_grad :
    arg10.view.read (Elt Ideal) (arg10.view.writes (Elt Ideal) arg10.view.junk
      (kernelRun0_A.sl.HS0_1 (F := Ideal) c arg1 harg1 arg2 harg2 arg3 harg3 x0 x1 x2)) = grad x0 x1 x2 := by
  have h2 : (![0, 0] : Fin 2 → ℕ) = fun _ => 0 := by decide
  unfold kernelRun0_A.sl.HS0_1
  rw [View.read_writes_eq_canon _ _ _ (fun y => ⟨_, List.mem_singleton_self _, View.mem_set_unit_zero h2 inb_S1536x640_S1536x640_0_0 y⟩),
    View.canon_unit_zero h2]
  simp only [View.readAt_eq_ld, harg1.read_unread, harg2.read_unread, harg3.read_unread]
  rw [View.ld_unit_zero h2, View.ld_unit_zero h2, View.ld_unit_zero h2, pay_grad]

/-- A lane block's row scales, read from the row scales' block. -/
theorem read_scales (ob : Fin 5) (off : Fin 2 → ℕ) (inb : ∀ a, off a + S1x128.size a ≤ S1x640.size a)
    (h : off = ![0, 128 * ob.val]) (w : Fin 8) (l : Fin 128) :
    scales (F := Ideal) (View.readAt (Elt Ideal) arg6.view (Rect.unit (s := S1x640) off S1x128.size inb).toLoadRect (harg6.unread x5)) (ix2 w l)
      = x5 (ix2 0 ⟨128 * ob.val + l.val, by omega⟩) := by
  subst h
  rw [scales_apply, View.readAt_eq_ld, harg6.read_unread]
  show x5 _ = x5 _
  congr 1
  funext a
  match a with
  | ⟨0, _⟩ => rfl
  | ⟨1, _⟩ => exact Fin.ext (by show 128 * ob.val + 1 * l.val = _; simp)

/-- The first loop's states over this grid point's blocks. -/
theorem loop1 (v14) (init) : Follows x3 x4 (grad x0 x1 x2) (scales v14) 0
    (st_k0_t1 (F := Ideal) Variants.none c none i arg1 harg1 arg2 harg2 arg3 harg3 arg4 harg4 arg5 harg5 arg6 harg6 arg7 harg7 arg8 harg8 arg9 harg9 arg10 harg10
      v14 (harg4.unread x3) (harg5.unread x4) (arg10.view.writes (Elt Ideal) arg10.view.junk (kernelRun0_A.sl.HS0_1 (F := Ideal) c arg1 harg1 arg2 harg2 arg3 harg3 x0 x1 x2)) init) := by
  have h := follows1 (F := Ideal) Variants.none c none i arg1 harg1 arg2 harg2 arg3 harg3 arg4 harg4 arg5 harg5 arg6 harg6 arg7 harg7 arg8 harg8 arg9 harg9 arg10 harg10
    (harg4.unread x3) (harg5.unread x4) (arg10.view.writes (Elt Ideal) arg10.view.junk (kernelRun0_A.sl.HS0_1 (F := Ideal) c arg1 harg1 arg2 harg2 arg3 harg3 x0 x1 x2)) init v14
  rwa [harg4.read_unread, harg5.read_unread, read_grad] at h

/-- The second loop's states over this grid point's blocks. -/
theorem loop2 (v24) (init) : Follows x3 x4 (grad x0 x1 x2) (scales v24) 1
    (st_k0_t2 (F := Ideal) Variants.none c none i arg1 harg1 arg2 harg2 arg3 harg3 arg4 harg4 arg5 harg5 arg6 harg6 arg7 harg7 arg8 harg8 arg9 harg9 arg10 harg10
      v24 (harg4.unread x3) (harg5.unread x4) (arg10.view.writes (Elt Ideal) arg10.view.junk (kernelRun0_A.sl.HS0_1 (F := Ideal) c arg1 harg1 arg2 harg2 arg3 harg3 x0 x1 x2)) init) := by
  have h := follows2 (F := Ideal) Variants.none c none i arg1 harg1 arg2 harg2 arg3 harg3 arg4 harg4 arg5 harg5 arg6 harg6 arg7 harg7 arg8 harg8 arg9 harg9 arg10 harg10
    (harg4.unread x3) (harg5.unread x4) (arg10.view.writes (Elt Ideal) arg10.view.junk (kernelRun0_A.sl.HS0_1 (F := Ideal) c arg1 harg1 arg2 harg2 arg3 harg3 x0 x1 x2)) init v24
  rwa [harg4.read_unread, harg5.read_unread, read_grad] at h

/-- The third loop's states over this grid point's blocks. -/
theorem loop3 (v30 v34) (init) : Follows x3 x4 (grad x0 x1 x2) (scales v34) 2
    (st_k0_t3 (F := Ideal) Variants.none c none i arg1 harg1 arg2 harg2 arg3 harg3 arg4 harg4 arg5 harg5 arg6 harg6 arg7 harg7 arg8 harg8 arg9 harg9 arg10 harg10
      v30 v34 (harg4.unread x3) (harg5.unread x4) (arg10.view.writes (Elt Ideal) arg10.view.junk (kernelRun0_A.sl.HS0_1 (F := Ideal) c arg1 harg1 arg2 harg2 arg3 harg3 x0 x1 x2)) init) := by
  have h := follows3 (F := Ideal) Variants.none c none i arg1 harg1 arg2 harg2 arg3 harg3 arg4 harg4 arg5 harg5 arg6 harg6 arg7 harg7 arg8 harg8 arg9 harg9 arg10 harg10
    (harg4.unread x3) (harg5.unread x4) (arg10.view.writes (Elt Ideal) arg10.view.junk (kernelRun0_A.sl.HS0_1 (F := Ideal) c arg1 harg1 arg2 harg2 arg3 harg3 x0 x1 x2)) init v30 v34
  rwa [harg4.read_unread, harg5.read_unread, read_grad] at h

/-- The fourth loop's states over this grid point's blocks. -/
theorem loop4 (v30 v44) (init) : Follows x3 x4 (grad x0 x1 x2) (scales v44) 3
    (st_k0_t4 (F := Ideal) Variants.none c none i arg1 harg1 arg2 harg2 arg3 harg3 arg4 harg4 arg5 harg5 arg6 harg6 arg7 harg7 arg8 harg8 arg9 harg9 arg10 harg10
      v30 v44 (harg4.unread x3) (harg5.unread x4) (arg10.view.writes (Elt Ideal) arg10.view.junk (kernelRun0_A.sl.HS0_1 (F := Ideal) c arg1 harg1 arg2 harg2 arg3 harg3 x0 x1 x2)) init) := by
  have h := follows4 (F := Ideal) Variants.none c none i arg1 harg1 arg2 harg2 arg3 harg3 arg4 harg4 arg5 harg5 arg6 harg6 arg7 harg7 arg8 harg8 arg9 harg9 arg10 harg10
    (harg4.unread x3) (harg5.unread x4) (arg10.view.writes (Elt Ideal) arg10.view.junk (kernelRun0_A.sl.HS0_1 (F := Ideal) c arg1 harg1 arg2 harg2 arg3 harg3 x0 x1 x2)) init v30 v44
  rwa [harg4.read_unread, harg5.read_unread, read_grad] at h

/-- The fifth loop's states over this grid point's blocks. -/
theorem loop5 (v57 z) (init) : Follows x3 x4 (grad x0 x1 x2) v57 4
    (st_k0_t5 (F := Ideal) Variants.none c none i arg1 harg1 arg2 harg2 arg3 harg3 arg4 harg4 arg5 harg5 arg6 harg6 arg7 harg7 arg8 harg8 arg9 harg9 arg10 harg10
      v57 z (harg4.unread x3) (harg5.unread x4) (arg10.view.writes (Elt Ideal) arg10.view.junk (kernelRun0_A.sl.HS0_1 (F := Ideal) c arg1 harg1 arg2 harg2 arg3 harg3 x0 x1 x2)) init) := by
  have h := follows5 (F := Ideal) Variants.none c none i arg1 harg1 arg2 harg2 arg3 harg3 arg4 harg4 arg5 harg5 arg6 harg6 arg7 harg7 arg8 harg8 arg9 harg9 arg10 harg10
    (harg4.unread x3) (harg5.unread x4) (arg10.view.writes (Elt Ideal) arg10.view.junk (kernelRun0_A.sl.HS0_1 (F := Ideal) c arg1 harg1 arg2 harg2 arg3 harg3 x0 x1 x2)) init v57 z
  rwa [harg4.read_unread, harg5.read_unread, read_grad] at h

/-- Every store into the weighted gradient's block is a tile of it. -/
theorem tiles6 : ∀ p ∈ (kernelRun0_A (F := Ideal) c i arg1 harg1 arg2 harg2 arg3 harg3 arg4 harg4 arg5 harg5 arg6 harg6 arg7 harg7 arg8 harg8 arg9 harg9 arg10 harg10 x0 x1 x2 x3 x4 x5).1,
    ∀ x, p.2 x = weightedBlock (grad x0 x1 x2) x5 (p.1.emb x) := by
  unfold kernelRun0_A
  intro p hp
  rcases List.mem_append.1 hp with hp | hp
  · exact weighted_tiles (loop5 c i arg1 harg1 arg2 harg2 arg3 harg3 arg4 harg4 arg5 harg5 arg6 harg6 arg7 harg7 arg8 harg8 arg9 harg9 arg10 harg10 x0 x1 x2 x3 x4 _ _ _) rfl (read_scales arg6 harg6 x5 4 _ _ rfl) _ (by decide) p hp
  rcases List.mem_append.1 hp with hp | hp
  · exact weighted_tiles (loop4 c i arg1 harg1 arg2 harg2 arg3 harg3 arg4 harg4 arg5 harg5 arg6 harg6 arg7 harg7 arg8 harg8 arg9 harg9 arg10 harg10 x0 x1 x2 x3 x4 _ _ _) rfl (read_scales arg6 harg6 x5 3 _ _ rfl) _ (by decide) p hp
  rcases List.mem_append.1 hp with hp | hp
  · exact weighted_tiles (loop3 c i arg1 harg1 arg2 harg2 arg3 harg3 arg4 harg4 arg5 harg5 arg6 harg6 arg7 harg7 arg8 harg8 arg9 harg9 arg10 harg10 x0 x1 x2 x3 x4 _ _ _) rfl (read_scales arg6 harg6 x5 2 _ _ rfl) _ (by decide) p hp
  rcases List.mem_append.1 hp with hp | hp
  · exact weighted_tiles (loop2 c i arg1 harg1 arg2 harg2 arg3 harg3 arg4 harg4 arg5 harg5 arg6 harg6 arg7 harg7 arg8 harg8 arg9 harg9 arg10 harg10 x0 x1 x2 x3 x4 _ _) rfl (read_scales arg6 harg6 x5 1 _ _ rfl) _ (by decide) p hp
  · exact weighted_tiles (loop1 c i arg1 harg1 arg2 harg2 arg3 harg3 arg4 harg4 arg5 harg5 arg6 harg6 arg7 harg7 arg8 harg8 arg9 harg9 arg10 harg10 x0 x1 x2 x3 x4 _ _) rfl (read_scales arg6 harg6 x5 0 _ _ rfl) _ (by decide) p hp

/-- Every store into the packed codes' block is a tile of it. -/
theorem tiles7 : ∀ p ∈ (kernelRun0_A (F := Ideal) c i arg1 harg1 arg2 harg2 arg3 harg3 arg4 harg4 arg5 harg5 arg6 harg6 arg7 harg7 arg8 harg8 arg9 harg9 arg10 harg10 x0 x1 x2 x3 x4 x5).2.1,
    ∀ x, p.2 x = packedBlock x3 (p.1.emb x) := by
  unfold kernelRun0_A
  intro p hp
  rcases List.mem_append.1 hp with hp | hp
  · exact packed_tiles (loop5 c i arg1 harg1 arg2 harg2 arg3 harg3 arg4 harg4 arg5 harg5 arg6 harg6 arg7 harg7 arg8 harg8 arg9 harg9 arg10 harg10 x0 x1 x2 x3 x4 _ _ _) rfl _ (by decide) p hp
  rcases List.mem_append.1 hp with hp | hp
  · exact packed_tiles (loop4 c i arg1 harg1 arg2 harg2 arg3 harg3 arg4 harg4 arg5 harg5 arg6 harg6 arg7 harg7 arg8 harg8 arg9 harg9 arg10 harg10 x0 x1 x2 x3 x4 _ _ _) rfl _ (by decide) p hp
  rcases List.mem_append.1 hp with hp | hp
  · exact packed_tiles (loop3 c i arg1 harg1 arg2 harg2 arg3 harg3 arg4 harg4 arg5 harg5 arg6 harg6 arg7 harg7 arg8 harg8 arg9 harg9 arg10 harg10 x0 x1 x2 x3 x4 _ _ _) rfl _ (by decide) p hp
  rcases List.mem_append.1 hp with hp | hp
  · exact packed_tiles (loop2 c i arg1 harg1 arg2 harg2 arg3 harg3 arg4 harg4 arg5 harg5 arg6 harg6 arg7 harg7 arg8 harg8 arg9 harg9 arg10 harg10 x0 x1 x2 x3 x4 _ _) rfl _ (by decide) p hp
  · exact packed_tiles (loop1 c i arg1 harg1 arg2 harg2 arg3 harg3 arg4 harg4 arg5 harg5 arg6 harg6 arg7 harg7 arg8 harg8 arg9 harg9 arg10 harg10 x0 x1 x2 x3 x4 _ _) rfl _ (by decide) p hp

/-- A lane block's row sums, from the states of its loop. -/
theorem sums_tile {A : Vec Ideal S2x192x640 .i8} {B : Vec Ideal S16x128 .i32} {Y : Vec Ideal S1536x640 .f32} {s : FVec Ideal S8x128 .f32}
    {ob : Fin 5} {σ : ℕ → State Ideal} (h : Follows A B Y s ob σ) (h0 : (σ 0).1 = zeros) (off : Fin 2 → ℕ)
    (inb : ∀ a, off a + S1x128.size a ≤ S1x640.size a) (ho : off = ![0, 128 * ob.val]) (n : ℕ) (hn : n = 6) (x : S1x128.Idx) :
    collapse (σ n).1 x = rowSums A B Y ((Rect.unit (s := S1x640) off S1x128.size inb).emb x) := by
  subst ho hn
  obtain ⟨z, l, rfl⟩ : ∃ (z : Fin 1) (l : Fin 128), x = ix2 z l := ⟨x 0, x 1, eq_ix2 x⟩
  rw [collapse_apply]
  refine Finset.sum_congr rfl fun w _ => ?_
  rw [carried_apply h w l 6 le_rfl, h0]
  refine (congrArg (· + _) (Ideal.ofBits_zero .f32 : (zeros : FVec Ideal S8x128 .f32) (ix2 w l) = 0)).trans ((zero_add _).trans ?_)
  refine Finset.sum_congr rfl fun k _ => ?_
  exact congrArg (passSum A B Y k w) (Fin.ext (by show 128 * ob.val + l.val = 128 * ob.val + 1 * l.val; simp))

/-- Every store into the row sums' block is a tile of it. -/
theorem tiles8 : ∀ p ∈ (kernelRun0_A (F := Ideal) c i arg1 harg1 arg2 harg2 arg3 harg3 arg4 harg4 arg5 harg5 arg6 harg6 arg7 harg7 arg8 harg8 arg9 harg9 arg10 harg10 x0 x1 x2 x3 x4 x5).2.2.1,
    ∀ x, p.2 x = rowSums x3 x4 (grad x0 x1 x2) (p.1.emb x) := by
  unfold kernelRun0_A
  intro p hp
  rcases List.mem_cons.1 hp with rfl | hp
  · exact sums_tile (loop5 c i arg1 harg1 arg2 harg2 arg3 harg3 arg4 harg4 arg5 harg5 arg6 harg6 arg7 harg7 arg8 harg8 arg9 harg9 arg10 harg10 x0 x1 x2 x3 x4 _ _ _) rfl ![0, 512] inb_S1x640_S1x128_0_512 rfl _ rfl
  rcases List.mem_cons.1 hp with rfl | hp
  · exact sums_tile (loop4 c i arg1 harg1 arg2 harg2 arg3 harg3 arg4 harg4 arg5 harg5 arg6 harg6 arg7 harg7 arg8 harg8 arg9 harg9 arg10 harg10 x0 x1 x2 x3 x4 _ _ _) rfl ![0, 384] inb_S1x640_S1x128_0_384 rfl _ rfl
  rcases List.mem_cons.1 hp with rfl | hp
  · exact sums_tile (loop3 c i arg1 harg1 arg2 harg2 arg3 harg3 arg4 harg4 arg5 harg5 arg6 harg6 arg7 harg7 arg8 harg8 arg9 harg9 arg10 harg10 x0 x1 x2 x3 x4 _ _ _) rfl ![0, 256] inb_S1x640_S1x128_0_256 rfl _ rfl
  rcases List.mem_cons.1 hp with rfl | hp
  · exact sums_tile (loop2 c i arg1 harg1 arg2 harg2 arg3 harg3 arg4 harg4 arg5 harg5 arg6 harg6 arg7 harg7 arg8 harg8 arg9 harg9 arg10 harg10 x0 x1 x2 x3 x4 _ _) rfl ![0, 128] inb_S1x640_S1x128_0_128 rfl _ rfl
  obtain rfl := List.mem_singleton.1 hp
  · exact sums_tile (loop1 c i arg1 harg1 arg2 harg2 arg3 harg3 arg4 harg4 arg5 harg5 arg6 harg6 arg7 harg7 arg8 harg8 arg9 harg9 arg10 harg10 x0 x1 x2 x3 x4 _ _) rfl ![0, 0] inb_S1x640_S1x128_0_0 rfl _ rfl

/-- What a grid point leaves in the weighted gradient's block. -/
theorem out6 : out0_A_6 (F := Ideal) c i arg1 harg1 arg2 harg2 arg3 harg3 arg4 harg4 arg5 harg5 arg6 harg6 arg7 harg7 arg8 harg8 arg9 harg9 arg10 harg10 x0 x1 x2 x3 x4 x5 = weightedBlock (grad x0 x1 x2) x5 := by
  funext y
  exact View.read_writes_apply_of_pieces _ _ _ _ (tiles6 c i arg1 harg1 arg2 harg2 arg3 harg3 arg4 harg4 arg5 harg5 arg6 harg6 arg7 harg7 arg8 harg8 arg9 harg9 arg10 harg10 x0 x1 x2 x3 x4 x5) y
    (cover0_A_6 c i arg1 harg1 arg2 harg2 arg3 harg3 arg4 harg4 arg5 harg5 arg6 harg6 arg7 harg7 arg8 harg8 arg9 harg9 arg10 harg10 x0 x1 x2 x3 x4 x5 y)

/-- What a grid point leaves in the packed codes' block. -/
theorem out7 : out0_A_7 (F := Ideal) c i arg1 harg1 arg2 harg2 arg3 harg3 arg4 harg4 arg5 harg5 arg6 harg6 arg7 harg7 arg8 harg8 arg9 harg9 arg10 harg10 x0 x1 x2 x3 x4 x5 = packedBlock x3 := by
  funext y
  exact View.read_writes_apply_of_pieces _ _ _ _ (tiles7 c i arg1 harg1 arg2 harg2 arg3 harg3 arg4 harg4 arg5 harg5 arg6 harg6 arg7 harg7 arg8 harg8 arg9 harg9 arg10 harg10 x0 x1 x2 x3 x4 x5) y
    (cover0_A_7 c i arg1 harg1 arg2 harg2 arg3 harg3 arg4 harg4 arg5 harg5 arg6 harg6 arg7 harg7 arg8 harg8 arg9 harg9 arg10 harg10 x0 x1 x2 x3 x4 x5 y)

/-- What a grid point leaves in the row sums' block. -/
theorem out8 : out0_A_8 (F := Ideal) c i arg1 harg1 arg2 harg2 arg3 harg3 arg4 harg4 arg5 harg5 arg6 harg6 arg7 harg7 arg8 harg8 arg9 harg9 arg10 harg10 x0 x1 x2 x3 x4 x5 = rowSums x3 x4 (grad x0 x1 x2) := by
  funext y
  exact View.read_writes_apply_of_pieces _ _ _ _ (tiles8 c i arg1 harg1 arg2 harg2 arg3 harg3 arg4 harg4 arg5 harg5 arg6 harg6 arg7 harg7 arg8 harg8 arg9 harg9 arg10 harg10 x0 x1 x2 x3 x4 x5) y
    (cover0_A_8 c i arg1 harg1 arg2 harg2 arg3 harg3 arg4 harg4 arg5 harg5 arg6 harg6 arg7 harg7 arg8 harg8 arg9 harg9 arg10 harg10 x0 x1 x2 x3 x4 x5 y)

end Cert.KernelIdeal.Pass

end
-- ==== Proof.Windows.lean ====
/- The kernel's input blocks at a grid point, read at an index, in terms of the arguments. -/
module

public import proofs.«01_k».proof.Proof.Body
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Pass

open Cert.KernelIdeal Cert.KernelIdeal.Gen

variable (m : (ℓ : Loc nD τ sig) → Buf (Elt Ideal) ℓ)

/-- The windows' block indices at each grid point. -/
theorem idx : ∀ t : Fin cfg0.N, win0_0.index t = ![0, 0] ∧ win0_1.index t = ![0, t.val] ∧ win0_2.index t = ![0, 0]
    ∧ win0_3.index t = ![0, 0, t.val] ∧ win0_4.index t = ![0, 0] ∧ win0_5.index t = ![0, t.val]
    ∧ win0_6.index t = ![t.val, 0, 0] ∧ win0_7.index t = ![t.val, 0, 0, 0, 0] ∧ win0_8.index t = ![0, t.val] :=
  (by decide +kernel : ∀ t : Fin grid0.N, win0_0.index t = ![0, 0] ∧ win0_1.index t = ![0, t.val] ∧ win0_2.index t = ![0, 0]
    ∧ win0_3.index t = ![0, 0, t.val] ∧ win0_4.index t = ![0, 0] ∧ win0_5.index t = ![0, t.val]
    ∧ win0_6.index t = ![t.val, 0, 0] ∧ win0_7.index t = ![t.val, 0, 0, 0, 0] ∧ win0_8.index t = ![0, t.val])

/-- The activation channel that row `r` of the kernel's transposed activations holds. -/
def chan (r : Fin 1536) : Fin 1536 := ⟨(r.val / 256 * 8 + r.val % 8) * 32 + r.val / 8 % 4 * 8 + r.val / 32 % 8, by omega⟩

theorem lt14 (t : Fin cfg0.N) : t.val < 14 := t.isLt

/-- The output channel at place `o` of grid point `t`'s block. -/
def out (t : Fin cfg0.N) (o : Fin 640) : Fin 8960 := ⟨640 * t.val + o.val, by have := lt14 t; omega⟩

variable (c : Dev nD) (t : Fin cfg0.N)

/-- The activations' block. -/
theorem iblk0 (r : Fin 1536) (s : Fin 640) : iblk m c 0 t (ix2 r s)
    = m ((c : Thread nD τ).loc main_arg0) (ix3 (⟨s.val / 128, by omega⟩ : Fin 5) (⟨s.val % 128, by omega⟩ : Fin 128) (chan r)) := by
  blk_simp [iblk]
  entry_read
  pointwise []
  blk_ext [idx t, chan]

/-- The output gradient's codes' block. -/
theorem iblk1 (s : Fin 640) (o : Fin 640) : iblk m c 1 t (ix2 s o)
    = m ((c : Thread nD τ).loc main_arg1) (ix3 (⟨s.val / 128, by omega⟩ : Fin 5) (⟨s.val % 128, by omega⟩ : Fin 128) (out t o)) := by
  blk_simp [iblk]
  entry_read
  pointwise []
  blk_ext [idx t, out]

/-- The output gradient's scales' block. -/
theorem iblk2 (s : Fin 640) : iblk m c 2 t (ix2 s 0)
    = m ((c : Thread nD τ).loc main_arg2) (ix2 (⟨s.val / 128, by omega⟩ : Fin 5) (⟨s.val % 128, by omega⟩ : Fin 128)) := by
  blk_simp [iblk]
  entry_read
  pointwise []
  blk_ext [idx t]

/-- The codes' block. -/
theorem iblk3 (a : Fin 2) (g : Fin 192) (o : Fin 640) : iblk m c 3 t (ix3 a g o)
    = m ((c : Thread nD τ).loc main_arg3) (ix3 a (out t o) g) := by
  blk_simp [iblk]
  entry_read
  pointwise []
  blk_ext [idx t, out]

/-- The row scales' block. -/
theorem iblk5 (o : Fin 640) : iblk m c 5 t (ix2 0 o) = m ((c : Thread nD τ).loc main_arg5) (ix1 (out t o)) := by
  blk_simp [iblk]
  entry_read
  pointwise []
  blk_ext [idx t, out]

/-- The bits of entry `e` of code `q` in codebook `a`. -/
def entryBits (B : IVec S2x256x8 16) (a : Fin 2) (q : Fin 256) (e : Fin 8) : BitVec 16 := B (ix3 a q e)

/-- The table as the host computes it from the codebooks' bits. -/
def table (B : IVec S2x256x8 16) : IVec S16x128 32 :=
  shapeCast S16x128 (transpose S2x4x256 [0, 2, 1]
    (Host.bitcastConvertWiden S2x256x4 32 (shapeCast S2x256x4x2 B shapeCasts_S2x256x8_S2x256x4x2) splits_S2x256x4_w32_S2x256x4x2_w16)
    transposes_S2x256x4_S2x4x256_0_2_1) shapeCasts_S2x4x256_S16x128

/-- Each word of the table holds two neighbouring codebook entries, the first in its low half. -/
theorem table_apply (B : IVec S2x256x8 16) (a : Fin 2) (p : Fin 4) (q : Fin 256) :
    table B (ix2 ⟨(a.val * 4 + p.val) * 2 + q.val / 128, by omega⟩ ⟨q.val % 128, by omega⟩)
      = entryBits B a q ⟨2 * p.val + 1, by omega⟩ ++ entryBits B a q ⟨2 * p.val, by omega⟩ := by
  unfold table
  pointwise []
  refine congrArg₂ (fun x y : BitVec 16 => x ++ y) (congrArg B ?_) (congrArg B ?_)
  · funext x
    match x with
    | ⟨0, _⟩ => rfl
    | ⟨1, _⟩ => rfl
    | ⟨2, _⟩ => exact Fin.ext (by show p.val * 2 + 1 = 2 * p.val + 1; omega)
  · funext x
    match x with
    | ⟨0, _⟩ => rfl
    | ⟨1, _⟩ => rfl
    | ⟨2, _⟩ => exact Fin.ext (by show p.val * 2 + 0 = 2 * p.val; omega)

/-- The table's block: each word holds two neighbouring codebook entries, the first in its low half. -/
theorem iblk4 : iblk m c 4 t = table (m ((c : Thread nD τ).loc main_arg4)) := by
  have e : V m c main_v9 = table (m ((c : Thread nD τ).loc main_arg4)) := by
    entry_read
    rfl
  rw [← e]
  blk_ext! [iblk, idx t]

end Cert.KernelIdeal.Pass

end
-- ==== Proof.Final.lean ====
/- The kernel's three result arrays after the run, as functions of its arguments. -/
module

public import proofs.«01_k».proof.Proof.Windows

@[expose] public section

set_option maxRecDepth 16384

noncomputable section

open Idealize.ShloMosaic Idealize.ShloMosaic.TcCoe Idealize.SL.Sem
open Idealize.ShloMosaic.Pipeline (Dat)

namespace Cert.KernelIdeal.Pass

open Cert.KernelIdeal Cert.KernelIdeal.Gen

/-- A sum over `n * k` places is the sum over `n` groups of `k` neighbours. -/
theorem sum_groups {M : Type} [AddCommMonoid M] (n k : ℕ) (f : Fin (n * k) → M) :
    ∑ x, f x = ∑ i : Fin n, ∑ j : Fin k, f ⟨k * i.val + j.val, by
      have := Nat.mul_le_mul_left k (Nat.succ_le_of_lt i.isLt); have := j.isLt; rw [Nat.mul_succ] at *; rw [Nat.mul_comm n k]; omega⟩ := by
  rw [← finProdFinEquiv.sum_comp, Fintype.sum_prod_type]
  exact Finset.sum_congr rfl fun i _ => Finset.sum_congr rfl fun j _ => congrArg f (Fin.ext (Nat.add_comm j.val (k * i.val)))

variable (X : FVec Ideal S5x128x1536 .bf16) (D : FVec Ideal S5x128x8960 .fp8e5m2) (T : FVec Ideal S5x128 .f32)
  (C : IVec S2x8960x192 8) (B : IVec S2x256x8 16) (R : FVec Ideal S8960 .f32)

/-- The weight gradient of output channel `o`, input channel `i`: the sum over all tokens. -/
def gradAt (o : Fin 8960) (i : Fin 1536) : EReal :=
  ∑ s : Fin 640, X (ix3 (⟨s.val / 128, by omega⟩ : Fin 5) (⟨s.val % 128, by omega⟩ : Fin 128) i)
    * (D (ix3 (⟨s.val / 128, by omega⟩ : Fin 5) (⟨s.val % 128, by omega⟩ : Fin 128) o)
      * T (ix2 (⟨s.val / 128, by omega⟩ : Fin 5) (⟨s.val % 128, by omega⟩ : Fin 128)))

/-- Entry `e` of code `q` in codebook `a`. -/
def entryAt (a : Fin 2) (q : BitVec 8) (e : Fin 8) : EReal := Ideal.ofBits .bf16 (entryBits B a ⟨q.toNat, q.isLt⟩ e)

/-- The decoded weight of output channel `o`, group `g`, position `e`: the sum of the two codebooks' entries. -/
def weightAt (o : Fin 8960) (g : Fin 192) (e : Fin 8) : EReal := entryAt B 0 (C (ix3 0 o g)) e + entryAt B 1 (C (ix3 1 o g)) e

/-- The row sum of output channel `o`: gradient times decoded weight over all groups and positions. -/
def rowSumAt (o : Fin 8960) : EReal := ∑ g : Fin 192, ∑ e : Fin 8, gradAt X D T o ⟨8 * g.val + e.val, by omega⟩ * weightAt C B o g e

/-- The output channel in lane `l` of lane block `q`. -/
def lane (q : Fin 70) (l : Fin 128) : Fin 8960 := ⟨128 * q.val + l.val, by omega⟩

/-- The weighted gradient array. -/
def weightedArray : Vec Ideal S70x1536x128 .f32 := fun j => gradAt X D T (lane (j 0) (j 2)) (chan (j 1)) * R (ix1 (lane (j 0) (j 2)))

/-- The array of code words, each of four groups' code bytes. -/
def packedArray : Vec Ideal S70x6x2x8x128 .i32 := fun j => four (fun b => C (ix3 (j 2) (lane (j 0) (j 4))
  ⟨32 * (j 1).val + 4 * (j 3).val + b.val, by have := (j 1).isLt; have := (j 3).isLt; show _ < 192; simp at *; omega⟩))

/-- The row sums' array. -/
def rowSumArray : Vec Ideal S1x8960 .f32 := fun j => rowSumAt X D T C B (j 1)

/-- What the table holds for a code is its codebook entry. -/
theorem tableValue_eq (a : Fin 2) (p : Fin 4) (q : BitVec 8) :
    tableValue (table B) a p false q = entryAt B a q ⟨2 * p.val, by omega⟩
      ∧ tableValue (table B) a p true q = entryAt B a q ⟨2 * p.val + 1, by omega⟩ := by
  have h := table_apply B a p ⟨q.toNat, q.isLt⟩
  unfold tableValue entryAt
  constructor
  · refine (congrArg (fun x : BitVec 32 => Ideal.ofBits .f32 (x <<< 16)) h).trans ?_
    exact (congrArg (Ideal.ofBits .f32) (low_half _ _)).trans (ofBits_high_half _)
  · refine (congrArg (fun x : BitVec 32 => Ideal.ofBits .f32 (x &&& 4294901760#32)) h).trans ?_
    exact (congrArg (Ideal.ofBits .f32) (high_half _ _)).trans (ofBits_high_half _)

/-- The kernel's order of summation, over sublanes, passes, bytes and pairs, covers every group and position once. -/
theorem sum_order (f : Fin 192 → Fin 8 → EReal) :
    ∑ w : Fin 8, ∑ k : Fin 6, ∑ b : Fin 4, ∑ p : Fin 4,
        (f ⟨32 * k.val + 4 * w.val + b.val, by omega⟩ ⟨2 * p.val, by omega⟩ + f ⟨32 * k.val + 4 * w.val + b.val, by omega⟩ ⟨2 * p.val + 1, by omega⟩)
      = ∑ g : Fin 192, ∑ e : Fin 8, f g e := by
  rw [sum_groups 6 32, Finset.sum_comm]
  refine Finset.sum_congr rfl fun k _ => ?_
  rw [sum_groups 8 4]
  refine Finset.sum_congr rfl fun w _ => Finset.sum_congr rfl fun b _ => ?_
  rw [sum_groups 4 2]
  refine Finset.sum_congr rfl fun p _ => ?_
  rw [Fin.sum_univ_two]
  have e : (⟨32 * k.val + 4 * w.val + b.val, by omega⟩ : Fin 192) = ⟨32 * k.val + (4 * w.val + b.val), by omega⟩ := Fin.ext (Nat.add_assoc _ _ _)
  rw [e]
  rfl

/-- The channel that a row of the transposed activations holds, by its word block, position, byte and sublane. -/
theorem chan_row (k : Fin 6) (w : Fin 8) (b : Fin 4) (e : Fin 8) (r : Fin 1536) (hr : r.val = 256 * k.val + 32 * e.val + 8 * b.val + w.val) :
    chan r = ⟨8 * (32 * k.val + 4 * w.val + b.val) + e.val, by omega⟩ := by
  have h1 : r.val / 256 = k.val := by omega
  have h2 : r.val % 8 = w.val := by omega
  have h3 : r.val / 8 % 4 = b.val := by omega
  have h4 : r.val / 32 % 8 = e.val := by omega
  refine Fin.ext ?_
  show (r.val / 256 * 8 + r.val % 8) * 32 + r.val / 8 % 4 * 8 + r.val / 32 % 8 = _
  rw [h1, h2, h3, h4]
  show _ = 8 * (32 * k.val + 4 * w.val + b.val) + e.val
  omega

variable (m : (ℓ : Loc nD τ sig) → Buf (Elt Ideal) ℓ) (c : Dev nD) (t : Fin cfg0.N)

/-- The gradient's block at a grid point. -/
theorem grad_block (r : Fin 1536) (o : Fin 640) :
    grad (iblk m c 0 t) (iblk m c 1 t) (iblk m c 2 t) (ix2 r o)
      = gradAt (m ((c : Thread nD τ).loc main_arg0)) (m ((c : Thread nD τ).loc main_arg1)) (m ((c : Thread nD τ).loc main_arg2)) (out t o) (chan r) := by
  unfold grad gradAt
  refine Finset.sum_congr rfl fun s _ => ?_
  exact congrArg₂ (fun x y : EReal => x * y) (iblk0 m c t r s) (congrArg₂ (fun x y : EReal => x * y) (iblk1 m c t s o) (iblk2 m c t s))

/-- The weighted gradient after the run. -/
theorem final6 : (dats m 0 c).arrAt 6 cfg0.N
    = weightedArray (m ((c : Thread nD τ).loc main_arg0)) (m ((c : Thread nD τ).loc main_arg1)) (m ((c : Thread nD τ).loc main_arg2))
        (m ((c : Thread nD τ).loc main_arg5)) := by
  refine (dats m 0 c).arrAt_eq_of_covers 6 _ (by decide +kernel) fun t _ y => ?_
  blk_simp
  rw [after0_6]
  unfold outsAt0
  rw [out6]
  unfold weightedBlock weightedArray
  refine congrArg₂ (fun x y : EReal => x * y) ((grad_block m c t _ _).trans ?_) ((iblk5 m c t _).trans ?_)
  · refine congrArg₂ (gradAt _ _ _) (Fin.ext ?_) (congrArg chan (Fin.ext ?_))
    · show 640 * t.val + (128 * (y 0).val + (y 2).val) = 128 * (((cfg0.win 6).blk t).view.emb y 0).val + (((cfg0.win 6).blk t).view.emb y 2).val
      blk_simp [idx t]
      omega
    · blk_simp [idx t]
  · refine congrArg _ (congrArg ix1 (Fin.ext ?_))
    show 640 * t.val + (128 * (y 0).val + (y 2).val) = 128 * (((cfg0.win 6).blk t).view.emb y 0).val + (((cfg0.win 6).blk t).view.emb y 2).val
    blk_simp [idx t]
    omega

/-- The code words' block at a grid point. -/
theorem packed_block (q : Fin 5) (k : Fin 6) (a : Fin 2) (w : Fin 8) (l : Fin 128) :
    packedBlock (iblk m c 3 t) (ix5 q k a w l)
      = packedArray (m ((c : Thread nD τ).loc main_arg3)) (ix5 (⟨5 * t.val + q.val, by have := lt14 t; omega⟩ : Fin 70) k a w l) := by
  refine congrArg four (funext fun b => (iblk3 m c t a ⟨32 * k.val + 4 * w.val + b.val, by omega⟩ ⟨128 * q.val + l.val, by omega⟩).trans ?_)
  refine congrArg (fun o => m ((c : Thread nD τ).loc main_arg3) (ix3 a o (⟨32 * k.val + 4 * w.val + b.val, by omega⟩ : Fin 192))) (Fin.ext ?_)
  show 640 * t.val + (128 * q.val + l.val) = 128 * (5 * t.val + q.val) + l.val
  omega

/-- The row sums' block at a grid point. -/
theorem rowSums_block (o : Fin 640) :
    rowSums (iblk m c 3 t) (iblk m c 4 t) (grad (iblk m c 0 t) (iblk m c 1 t) (iblk m c 2 t)) (ix2 0 o)
      = rowSumAt (m ((c : Thread nD τ).loc main_arg0)) (m ((c : Thread nD τ).loc main_arg1)) (m ((c : Thread nD τ).loc main_arg2))
        (m ((c : Thread nD τ).loc main_arg3)) (m ((c : Thread nD τ).loc main_arg4)) (out t o) := by
  have hd : ∀ (g : Fin 192) (p : Fin 4), decoded (iblk m c 3 t) (iblk m c 4 t) g o p false
        = weightAt (m ((c : Thread nD τ).loc main_arg3)) (m ((c : Thread nD τ).loc main_arg4)) (out t o) g ⟨2 * p.val, by omega⟩
      ∧ decoded (iblk m c 3 t) (iblk m c 4 t) g o p true
        = weightAt (m ((c : Thread nD τ).loc main_arg3)) (m ((c : Thread nD τ).loc main_arg4)) (out t o) g ⟨2 * p.val + 1, by omega⟩ := by
    intro g p
    unfold decoded weightAt
    rw [iblk4 m c t, iblk3 m c t 0 g o, iblk3 m c t 1 g o]
    exact ⟨congrArg₂ (fun x y : EReal => x + y) (tableValue_eq _ 0 p _).1 (tableValue_eq _ 1 p _).1,
      congrArg₂ (fun x y : EReal => x + y) (tableValue_eq _ 0 p _).2 (tableValue_eq _ 1 p _).2⟩
  refine Eq.trans ?_ (sum_order fun g e => gradAt (m ((c : Thread nD τ).loc main_arg0)) (m ((c : Thread nD τ).loc main_arg1)) (m ((c : Thread nD τ).loc main_arg2)) (out t o) ⟨8 * g.val + e.val, by omega⟩
    * weightAt (m ((c : Thread nD τ).loc main_arg3)) (m ((c : Thread nD τ).loc main_arg4)) (out t o) g e)
  refine Finset.sum_congr rfl fun w _ => Finset.sum_congr rfl fun k _ => Finset.sum_congr rfl fun b _ => Finset.sum_congr rfl fun p _ => ?_
  refine congrArg₂ (fun x y : EReal => x + y) (congrArg₂ (fun x y : EReal => x * y) ((grad_block m c t _ _).trans ?_) (hd _ p).1)
    (congrArg₂ (fun x y : EReal => x * y) ((grad_block m c t _ _).trans ?_) (hd _ p).2)
  · exact congrArg (gradAt _ _ _ _) ((chan_row k w b ⟨2 * p.val, by omega⟩ _ (by show 256 * k.val + 8 * (8 * p.val + b.val) + w.val = 256 * k.val + 32 * (2 * p.val) + 8 * b.val + w.val; omega)))
  · exact congrArg (gradAt _ _ _ _) ((chan_row k w b ⟨2 * p.val + 1, by omega⟩ _ (by show 256 * k.val + 8 * (8 * p.val + 4 + b.val) + w.val = 256 * k.val + 32 * (2 * p.val + 1) + 8 * b.val + w.val; omega)))

/-- The code words after the run. -/
theorem final7 : (dats m 0 c).arrAt 7 cfg0.N = packedArray (m ((c : Thread nD τ).loc main_arg3)) := by
  refine (dats m 0 c).arrAt_eq_of_covers 7 _ (by decide +kernel) fun t _ y => ?_
  blk_simp
  rw [after0_7]
  unfold outsAt0
  rw [out7]
  have hy : y = (ix5 (y 0) (y 1) (y 2) (y 3) (y 4) : S5x6x2x8x128.Idx) := eq_ix5 (n0 := 5) (n1 := 6) (n2 := 2) (n3 := 8) (n4 := 128) y
  rw [hy]
  refine (packed_block m c t (y 0) (y 1) (y 2) (y 3) (y 4)).trans (congrArg _ ?_)
  blk_ext! [idx t]

/-- The row sums after the run. -/
theorem final8 : (dats m 0 c).arrAt 8 cfg0.N
    = rowSumArray (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t _ y => ?_
  blk_simp
  rw [after0_8]
  unfold outsAt0
  rw [out8]
  refine (rowSums_block m c t (y 1)).trans ?_
  refine congrArg (rowSumAt _ _ _ _ _) (Fin.ext ?_)
  show 640 * t.val + (y 1).val = (((cfg0.win 8).blk t).view.emb y 1).val
  blk_simp [idx t]
  omega

end Cert.KernelIdeal.Pass

end
-- ==== Proof.Reference.lean ====
/- The reference's three results, read at an index. -/
module

public import proofs.«01_k».proof.Proof.Gen.ReferenceIdeal.Run
public import proofs.«01_k».proof.Proof.Bits
public import Idealize.ShloMosaic.Lib.Pipeline.ValueKit

@[expose] public section

set_option maxRecDepth 16384

noncomputable section

open Idealize.ShloMosaic Idealize.ShloMosaic.TcCoe Idealize.SL.Sem Idealize.ShloMosaic.StableHlo
open Idealize.ShloMosaic.Pipeline (Dat)

namespace Cert.ReferenceIdeal.Read

open Cert.ReferenceIdeal Cert.ReferenceIdeal.Gen

/-- The dequantised output gradient. -/
def dequantised (D : FVec Ideal S5x128x8960 .fp8e5m2) (T : FVec Ideal S5x128 .f32) : FVec Ideal S5x128x8960 .bf16 :=
  fun j => D j * T (ix2 (j 0) (j 1))

/-- The weight gradient, in groups: the reference's product, reshaped. -/
def product (Y : FVec Ideal S5x128x8960 .bf16) (X : FVec Ideal S5x128x1536 .bf16) : FVec Ideal S8960x192x8 .f32 :=
  (shapeCast _ (Host.dotGeneral dot_S5x128x8960_S5x128x1536_S8960x1536_01_01_2_2_n_n none Y X) shapeCasts_S8960x1536_S8960x192x8)

/-- Entry `(o, g, e)` of the weight gradient is the sum over sequences and positions. -/
theorem product_apply (Y : FVec Ideal S5x128x8960 .bf16) (X : FVec Ideal S5x128x1536 .bf16) (o : Fin 8960) (g : Fin 192) (e : Fin 8) :
    product Y X (ix3 o g e) = ∑ b : Fin 5, ∑ s : Fin 128, Y (ix3 b s o) * X (ix3 b s ⟨8 * g.val + e.val, by omega⟩) := by
  unfold product
  pointwise []
  refine Finset.sum_congr rfl fun b _ => Finset.sum_congr rfl fun s _ => ?_
  exact congrArg (fun z => Y (ix3 b s o) * X (ix3 b s z)) (Fin.ext (by show g.val * 8 + e.val = 8 * g.val + e.val; omega))

/-- The first codebook's codes, as integers. -/
def codes0 (C : IVec S2x8960x192 8) : IVec S8960x192 32 := (shapeCast _ (extractStridedSlice S1x8960x192 ![0, 0, 0] (extui 32 C natLt_8_32) slices_S2x8960x192_S1x8960x192_0_0_0) shapeCasts_S1x8960x192_S8960x192)
/-- The second codebook's codes, as integers. -/
def codes1 (C : IVec S2x8960x192 8) : IVec S8960x192 32 := (shapeCast _ (extractStridedSlice S1x8960x192 ![1, 0, 0] (extui 32 C natLt_8_32) slices_S2x8960x192_S1x8960x192_1_0_0) shapeCasts_S1x8960x192_S8960x192)
/-- The first codebook. -/
def codebook0 (B : IVec S2x256x8 16) : FVec Ideal S256x8 .bf16 := (shapeCast _ (extractStridedSlice S1x256x8 ![0, 0, 0] (bitcastToFloat (F := Ideal) .bf16 B) slices_S2x256x8_S1x256x8_0_0_0) shapeCasts_S1x256x8_S256x8)
/-- The second codebook. -/
def codebook1 (B : IVec S2x256x8 16) : FVec Ideal S256x8 .bf16 := (shapeCast _ (extractStridedSlice S1x256x8 ![1, 0, 0] (bitcastToFloat (F := Ideal) .bf16 B) slices_S2x256x8_S1x256x8_1_0_0) shapeCasts_S1x256x8_S256x8)

/-- The rows of a codebook that the codes name, as the reference looks them up. -/
def looked (T : FVec Ideal S256x8 .bf16) (K : IVec S8960x192 32) : FVec Ideal S8960x192x8 .f32 :=
  (extf .f32 (Host.gather gather_S256x8_S8960x192x1_S8960x192x8_2_0_n_n_0_2_18 T (broadcastInDim S8960x192x1 ![0, 1] bcast_S8960x192_S8960x192x1_0_1 (select (cmpi .slt K (broadcastInDim S8960x192 ![] bcast_S_S8960x192 (constantI S_ 32 0#32))) (addi K (broadcastInDim S8960x192 ![] bcast_S_S8960x192 (constantI S_ 32 256#32))) K))) bitsLt_bf16_f32)

/-- The row gather at an index: the row of the start index, read signed and clamped. -/
theorem gather_apply (T : FVec Ideal S256x8 .bf16) (I : IVec S8960x192x1 32) (o : Fin 8960) (g : Fin 192) (e : Fin 8) :
    Host.gather gather_S256x8_S8960x192x1_S8960x192x8_2_0_n_n_0_2_18 T I (ix3 o g e)
      = T (ix2 (⟨min (I (ix3 o g 0)).toInt.toNat 255, by omega⟩ : Fin 256) e) := by
  unfold Host.gather
  refine congrArg T (funext fun a => Fin.ext ?_)
  show (gather_S256x8_S8960x192x1_S8960x192x8_2_0_n_n_0_2_18).start (ix3 o g e) I a
      + (gather_S256x8_S8960x192x1_S8960x192x8_2_0_n_n_0_2_18).batchCoord (ix3 o g e) a
      + (gather_S256x8_S8960x192x1_S8960x192x8_2_0_n_n_0_2_18).offCoord (ix3 o g e) a = _
  rw [GatherDims.batchCoord_eq_zero _ _ _ (fun h => by simp [gather_S256x8_S8960x192x1_S8960x192x8_2_0_n_n_0_2_18] at h)]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (gather_S256x8_S8960x192x1_S8960x192x8_2_0_n_n_0_2_18).startIndexMap from List.mem_singleton.mpr rfl)]
    have hsi : (gather_S256x8_S8960x192x1_S8960x192x8_2_0_n_n_0_2_18).siIdx (ix3 o g e)
        ⟨List.idxOf (0 : Fin 2) (gather_S256x8_S8960x192x1_S8960x192x8_2_0_n_n_0_2_18).startIndexMap, List.idxOf_lt_length_iff.2 (List.mem_singleton.mpr rfl)⟩ = ix3 o g 0 := by
      funext b; refine Fin.ext ?_
      match b with
      | ⟨0, _⟩ => rfl
      | ⟨1, _⟩ => rfl
      | ⟨2, _⟩ => rfl
    exact congrArg (fun z => min (I z).toInt.toNat 255) hsi
  | ⟨1, _⟩ =>
    unfold GatherDims.start
    rw [dif_neg (fun h => by simp [gather_S256x8_S8960x192x1_S8960x192x8_2_0_n_n_0_2_18] at h)]
    simp only [Nat.zero_add]
    rfl

/-- A lookup by a code byte is the codebook's entry: no code is negative or past the last row. -/
theorem looked_apply (T : FVec Ideal S256x8 .bf16) (K : IVec S8960x192 32) (o : Fin 8960) (g : Fin 192) (e : Fin 8) (q : BitVec 8)
    (h : K (ix2 o g) = q.setWidth 32) : looked T K (ix3 o g e) = T (ix2 (⟨q.toNat, q.isLt⟩ : Fin 256) e) := by
  have hn : (q.setWidth 32).toNat = q.toNat := by
    rw [BitVec.toNat_setWidth]
    have := q.isLt
    omega
  have hi : (q.setWidth 32).toInt = q.toNat := by
    have := q.isLt
    rw [BitVec.toInt_eq_toNat_of_lt (by omega), hn]
  have hs : Scalar.select (IntOp.cmpi CmpIPredicate.slt (q.setWidth 32) 0#32) (IntOp.addi (q.setWidth 32) 256#32) (q.setWidth 32) = q.setWidth 32 := by
    have hc : IntOp.cmpi CmpIPredicate.slt (q.setWidth 32) 0#32 = 0#1 := by
      have : BitVec.slt (q.setWidth 32) 0#32 = false := by
        rw [BitVec.slt_eq_decide, hi]
        simp
      show BitVec.ofBool (BitVec.slt (q.setWidth 32) 0#32) = 0#1
      rw [this]
      rfl
    rw [hc]
    rfl
  unfold looked
  show Host.gather _ _ _ _ = _
  rw [gather_apply]
  pointwise [h]
  refine congrArg (fun z => T (ix2 z e)) (Fin.ext ?_)
  show min _ 255 = q.toNat
  rw [hs, hi]
  have := q.isLt
  show min q.toNat 255 = q.toNat
  omega

/-- The first codebook's codes at an index. -/
theorem codes_apply (C : IVec S2x8960x192 8) (o : Fin 8960) (g : Fin 192) :
    codes0 C (ix2 o g) = (C (ix3 0 o g)).setWidth 32 ∧ codes1 C (ix2 o g) = (C (ix3 1 o g)).setWidth 32 := by
  constructor
  · unfold codes0
    pointwise []
  · unfold codes1
    pointwise []

/-- The codebooks at an index. -/
theorem codebook_apply (B : IVec S2x256x8 16) (q : Fin 256) (e : Fin 8) :
    codebook0 B (ix2 q e) = Ideal.ofBits .bf16 (B (ix3 0 q e)) ∧ codebook1 B (ix2 q e) = Ideal.ofBits .bf16 (B (ix3 1 q e)) := by
  constructor
  · unfold codebook0
    pointwise []
  · unfold codebook1
    pointwise []

/-- The reference's weighted gradient. -/
def weighted (Y : FVec Ideal S5x128x8960 .bf16) (X : FVec Ideal S5x128x1536 .bf16) (R : FVec Ideal S8960 .f32) : FVec Ideal S70x1536x128 .f32 :=
  shapeCast _ (transpose S70x6x8x4x8x128 [0, 2, 5, 4, 3, 1] (shapeCast _ (mulf (broadcastInDim S8960x192x8 ![0, 1, 2] bcast_S8960x1x1_S8960x192x8_0_1_2 (broadcastInDim S8960x1x1 ![0] bcast_S8960_S8960x1x1_0 R)) (product Y X)) shapeCasts_S8960x192x8_S70x128x6x8x4x8) transposes_S70x128x6x8x4x8_S70x6x8x4x8x128_0_2_5_4_3_1) shapeCasts_S70x6x8x4x8x128_S70x1536x128

/-- The reference's code words. -/
def words (C : IVec S2x8960x192 8) : IVec S70x6x2x8x128 32 := Host.bitcastConvertWiden S70x6x2x8x128 32 (transpose S70x6x2x8x128x4 [1, 3, 0, 4, 2, 5] (shapeCast _ C shapeCasts_S2x8960x192_S2x70x128x6x8x4) transposes_S2x70x128x6x8x4_S70x6x2x8x128x4_1_3_0_4_2_5) splits_S70x6x2x8x128_w32_S70x6x2x8x128x4_w8

/-- The reference's row sums. -/
def sums (Y : FVec Ideal S5x128x8960 .bf16) (X : FVec Ideal S5x128x1536 .bf16) (C : IVec S2x8960x192 8) (B : IVec S2x256x8 16) : FVec Ideal S1x8960 .f32 :=
  shapeCast _ (Host.reduceAdd (mulf (product Y X) (addf (looked (codebook0 B) (codes0 C)) (looked (codebook1 B) (codes1 C)))) (constant S_ .f32 0x00000000#32) reducesTo_S8960x192x8_S8960_d1_2 h_S_) shapeCasts_S8960_S1x8960

/-- The weighted gradient at an index. -/
theorem weighted_apply (Y : FVec Ideal S5x128x8960 .bf16) (X : FVec Ideal S5x128x1536 .bf16) (R : FVec Ideal S8960 .f32) (q : Fin 70) (r : Fin 1536) (l : Fin 128) :
    weighted Y X R (ix3 q r l) = R (ix1 ⟨128 * q.val + l.val, by omega⟩)
      * product Y X (ix3 ⟨128 * q.val + l.val, by omega⟩ ⟨(r.val / 256 * 8 + r.val % 8) * 4 + r.val / 8 % 4, by omega⟩ ⟨r.val / 32 % 8, by omega⟩) := by
  have h0 : (⟨q.val * 128 + l.val, by omega⟩ : Fin 8960) = ⟨128 * q.val + l.val, by omega⟩ := Fin.ext (by show q.val * 128 + l.val = 128 * q.val + l.val; omega)
  have h1 : (⟨r.val / 256 * 32 + r.val % 8 * 4 + r.val / 8 % 4, by omega⟩ : Fin 192) = ⟨(r.val / 256 * 8 + r.val % 8) * 4 + r.val / 8 % 4, by omega⟩ :=
    Fin.ext (by show r.val / 256 * 32 + r.val % 8 * 4 + r.val / 8 % 4 = (r.val / 256 * 8 + r.val % 8) * 4 + r.val / 8 % 4; omega)
  unfold weighted
  pointwise []
  rw [← h0, ← h1]

/-- The code words at an index: four neighbouring groups' code bytes. -/
theorem words_apply (C : IVec S2x8960x192 8) (q : Fin 70) (k : Fin 6) (a : Fin 2) (w : Fin 8) (l : Fin 128) :
    words C (ix5 q k a w l) = Cert.KernelIdeal.Pass.four (fun b => C (ix3 a ⟨128 * q.val + l.val, by omega⟩ ⟨32 * k.val + 4 * w.val + b.val, by omega⟩)) := by
  apply BitVec.eq_of_getLsbD_eq
  intro n hn
  unfold words
  rw [Host.bitcastConvertWiden_getLsbD _ _ _ _ _ n hn, Cert.KernelIdeal.Pass.four_getLsbD _ n hn]
  pointwise []
  refine congrArg (fun z : BitVec 8 => z.getLsbD (n % 8)) (congrArg C ?_)
  funext x
  match x with
  | ⟨0, _⟩ => rfl
  | ⟨1, _⟩ => exact Fin.ext (by show q.val * 128 + l.val = 128 * q.val + l.val; omega)
  | ⟨2, _⟩ => exact Fin.ext (by show k.val * 32 + w.val * 4 + n / 8 = 32 * k.val + 4 * w.val + n / 8; omega)

/-- The row sums at an index. -/
theorem sums_apply (Y : FVec Ideal S5x128x8960 .bf16) (X : FVec Ideal S5x128x1536 .bf16) (C : IVec S2x8960x192 8) (B : IVec S2x256x8 16) (z : Fin 1) (o : Fin 8960) :
    sums Y X C B (ix2 z o) = ∑ g : Fin 192, ∑ e : Fin 8, product Y X (ix3 o g e)
      * (Ideal.ofBits .bf16 (B (ix3 0 ⟨(C (ix3 0 o g)).toNat, (C (ix3 0 o g)).isLt⟩ e)) + Ideal.ofBits .bf16 (B (ix3 1 ⟨(C (ix3 1 o g)).toNat, (C (ix3 1 o g)).isLt⟩ e))) := by
  unfold sums
  pointwise []
  refine Finset.sum_congr rfl fun g _ => Finset.sum_congr rfl fun e _ => ?_
  rw [looked_apply _ _ o g e _ (codes_apply C o g).1, looked_apply _ _ o g e _ (codes_apply C o g).2, (codebook_apply B _ e).1, (codebook_apply B _ e).2]

variable (m : (ℓ : Loc nD τ sig) → Buf (Elt Ideal) ℓ) (c : Dev nD)

/-- The one grid point's windows start at block zero. -/
theorem starts : (∀ i, win0_0.index t0_0 i = 0) ∧ (∀ i, win0_1.index t0_0 i = 0) := by decide +kernel

/-- The codes' block is the whole array. -/
theorem iblk0 (b : Fin 5) (s : Fin 128) (o : Fin 8960) : iblk m c 0 t0_0 (ix3 b s o) = m ((c.tc : Thread nD τ).loc main_arg1) (ix3 b s o) := by
  blk_simp [iblk]
  entry_read
  blk_ext [starts.1]

/-- The scales' block is the whole array. -/
theorem iblk1 (b : Fin 5) (s : Fin 128) : iblk m c 1 t0_0 (ix3 b s 0) = m ((c.tc : Thread nD τ).loc main_arg2) (ix2 b s) := by
  have e : V m c main_v0 = (broadcastInDim S5x128x1 ![0, 1] bcast_S5x128_S5x128x1_0_1 (m ((c.tc : Thread nD τ).loc main_arg2)) : FVec Ideal S5x128x1 .f32) := by
    entry_read
    rfl
  refine Eq.trans (b := V m c main_v0 (ix3 b s 0)) ?_ ?_
  · blk_ext! [iblk, starts.2]
  · rw [e]
    pointwise []

/-- The kernel region leaves the dequantised output gradient. -/
theorem region : Value.reg_main_v1 m c = dequantised (m ((c.tc : Thread nD τ).loc main_arg1)) (m ((c.tc : Thread nD τ).loc main_arg2)) := by
  unfold Value.reg_main_v1
  refine (dats m 0 c).arrAt_eq_of_after_last 2 t0_0 (by decide +kernel) _ fun j => ?_
  blk_simp
  rw [after0_2]
  frame_out
  unfold dequantised
  idx_vars j
  show k0_pay1 (iblk m c 0 t0_0) (iblk m c 1 t0_0) (ix3 j0 j1 j2) = _
  unfold k0_pay1
  pointwise [iblk0 m c, iblk1 m c]

end Cert.ReferenceIdeal.Read

end
-- ==== Proof.Algebraic.lean ====
/- The kernel's results and the reference's, read as real numbers, agree. -/
module

public import proofs.«01_k».proof.Proof.Gen.KernelIdeal.Value
public import proofs.«01_k».proof.Proof.Final
public import proofs.«01_k».proof.Proof.Reference
public import proofs.«01_k».proof.Defs
public import Idealize.ShloMosaic.Adequacy
public import Idealize.ShloMosaic.Init

@[expose] public section

set_option maxRecDepth 16384

noncomputable section

open Idealize.ShloMosaic Idealize.ShloMosaic.TcCoe Idealize.SL.Sem

namespace Cert.Proof

open Cert.KernelIdeal.Pass Cert.ReferenceIdeal.Read

variable (X : FVec Ideal Cert.ReferenceIdeal.S5x128x1536 .bf16) (D : FVec Ideal Cert.ReferenceIdeal.S5x128x8960 .fp8e5m2) (T : FVec Ideal Cert.ReferenceIdeal.S5x128 .f32)
variable (C : IVec Cert.ReferenceIdeal.S2x8960x192 8) (B : IVec Cert.ReferenceIdeal.S2x256x8 16) (R : FVec Ideal Cert.ReferenceIdeal.S8960 .f32)

/-- The reference's weight gradient is the kernel's: the token sum, sequence by sequence. -/
theorem product_eq (o : Fin 8960) (g : Fin 192) (e : Fin 8) :
    product (dequantised D T) X (ix3 o g e) = gradAt X D T o ⟨8 * g.val + e.val, by omega⟩ := by
  rw [product_apply]
  unfold gradAt
  refine Eq.symm ((sum_groups 5 128 _).trans ?_)
  refine Finset.sum_congr rfl fun b _ => Finset.sum_congr rfl fun s _ => ?_
  have h0 : (⟨(128 * b.val + s.val) / 128, by omega⟩ : Fin 5) = b := Fin.ext (by show (128 * b.val + s.val) / 128 = b.val; omega)
  have h1 : (⟨(128 * b.val + s.val) % 128, by omega⟩ : Fin 128) = s := Fin.ext (by show (128 * b.val + s.val) % 128 = s.val; omega)
  show X (ix3 (⟨(128 * b.val + s.val) / 128, _⟩ : Fin 5) (⟨(128 * b.val + s.val) % 128, _⟩ : Fin 128) _) * (D (ix3 (⟨(128 * b.val + s.val) / 128, _⟩ : Fin 5) (⟨(128 * b.val + s.val) % 128, _⟩ : Fin 128) _) * T (ix2 (⟨(128 * b.val + s.val) / 128, _⟩ : Fin 5) (⟨(128 * b.val + s.val) % 128, _⟩ : Fin 128))) = _
  rw [h0, h1]
  exact mul_comm (G := EReal) _ _

/-- The weighted gradients agree. -/
theorem weighted_eq : Cert.ReferenceIdeal.Read.weighted (dequantised D T) X R = weightedArray X D T R := by
  have key : ∀ (q : Fin 70) (r : Fin 1536) (l : Fin 128),
      Cert.ReferenceIdeal.Read.weighted (dequantised D T) X R (ix3 q r l) = gradAt X D T (lane q l) (chan r) * R (ix1 (lane q l)) := by
    intro q r l
    rw [Cert.ReferenceIdeal.Read.weighted_apply, product_eq]
    refine (mul_comm (G := EReal) _ _).trans ?_
    refine congrArg (fun i => gradAt X D T (lane q l) i * R (ix1 (lane q l))) (Fin.ext ?_)
    show 8 * ((r.val / 256 * 8 + r.val % 8) * 4 + r.val / 8 % 4) + r.val / 32 % 8 = (r.val / 256 * 8 + r.val % 8) * 32 + r.val / 8 % 4 * 8 + r.val / 32 % 8
    omega
  funext j
  exact (congrArg (Cert.ReferenceIdeal.Read.weighted (dequantised D T) X R) (eq_ix3 (n0 := 70) (n1 := 1536) (n2 := 128) j)).trans (key (j 0) (j 1) (j 2))

/-- The code words agree. -/
theorem words_eq : words C = packedArray C := by
  funext j
  exact (congrArg (words C) (eq_ix5 (n0 := 70) (n1 := 6) (n2 := 2) (n3 := 8) (n4 := 128) j)).trans (words_apply C (j 0) (j 1) (j 2) (j 3) (j 4))

/-- The row sums agree. -/
theorem sums_eq : sums (dequantised D T) X C B = rowSumArray X D T C B := by
  have key : ∀ (z : Fin 1) (o : Fin 8960), sums (dequantised D T) X C B (ix2 z o) = rowSumAt X D T C B o := by
    intro z o
    rw [sums_apply]
    refine Finset.sum_congr rfl fun g _ => Finset.sum_congr rfl fun e _ => ?_
    rw [product_eq]
    rfl
  funext j
  exact (congrArg (sums (dequantised D T) X C B) (eq_ix2 (n0 := 1) (n1 := 8960) j)).trans (key (j 0) (j 1))

/-- On the same arguments the kernel and the reference, read as real numbers, leave the same three results. -/
theorem algebraic : Cert.algebraic_KernelIdeal_ReferenceIdeal := by
  intro m g m' g' hpre hagree
  refine ⟨fun c => weightedArray (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg5)),
    fun c => packedArray (m ((c.tc : Thread _ _).loc Cert.KernelIdeal.main_arg3)),
    fun c => rowSumArray (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)) (m ((c.tc : Thread _ _).loc Cert.KernelIdeal.main_arg4)), ?_, ?_⟩
  · refine (θ_run _ _ _).mono (fun r h c => ?_) (Cert.KernelIdeal.Value.run_blocks m g)
    obtain ⟨h0, h1, h2, h3⟩ := h c
    exact ⟨h0.trans (final6 m c), h1.trans (final7 m c), h2.trans (final8 m c), h3⟩
  · refine (θ_run _ _ _).mono (fun r h c => ?_) (Cert.ReferenceIdeal.Value.run m' g')
    obtain ⟨a0, a1, a2, a3, a4, a5⟩ := hagree c
    obtain ⟨h0, h1, h2, h3⟩ := h c
    rw [region m' c] at h0 h2
    refine ⟨h0.trans ?_, h1.trans ?_, h2.trans ?_, h3⟩
    · refine (weighted_eq _ _ _ _).trans ?_
      rw [a0, a1, a2, a5]
    · refine (words_eq _).trans ?_
      rw [a3]
    · refine (sums_eq _ _ _ _ _).trans ?_
      rw [a0, a1, a2, a3, a4]

end Cert.Proof

end
-- ==== Proof.Sums.lean ====
/- The sum of the binned parts: the kernel's sum and the reference's, read as real numbers, agree. -/
module

public import proofs.«01_k».proof.Proof.Gen.Sum
public import proofs.«01_k».proof.Proof.Gen.Sum.Frame
public import proofs.«01_k».proof.Proof.Gen.SumIdeal
public import proofs.«01_k».proof.Proof.Gen.SumIdeal.Frame
public import proofs.«01_k».proof.Proof.Gen.SumIdeal.Value
public import proofs.«01_k».proof.Proof.Gen.SumReferenceIdeal
public import proofs.«01_k».proof.Proof.Gen.SumReferenceIdeal.Run
public import proofs.«01_k».proof.Proof.Reference
public import proofs.«01_k».proof.Defs
public import Idealize.ShloMosaic.Lib.Quiescent

@[expose] public section

noncomputable section

open Idealize.ShloMosaic Idealize.ShloMosaic.TcCoe Idealize.SL.Sem

namespace Cert.Proof

/-- The reference of the sum leaves its argument as it was and no semaphore counter raised. -/
theorem sumReference_frame : Cert.quiescent_SumReferenceIdeal (hSumReferenceIdeal := Cert.SumReferenceIdeal.Gen.facts) := by
  intro m g _
  exact (θ_run _ _ _).mono (fun r h => ⟨fun c => (h c).2, sem_eq_zero_of_no_sems rfl r.2⟩) (Cert.SumReferenceIdeal.Value.run m g)

/-- The kernel's sum over the second axis, at an index. -/
theorem kernelSum_apply (x : FVec Ideal Cert.SumIdeal.S2x16x2048 .f32) (a : Fin 2) (b : Fin 2048) :
    Cert.SumIdeal.Gen.k0_pay1 x (ix2 a b) = ∑ k : Fin 16, x (ix3 a k b) := by
  unfold Cert.SumIdeal.Gen.k0_pay1
  pointwise []

/-- The reference's sum over the second axis, at an index. -/
theorem referenceSum_apply (x : FVec Ideal Cert.SumReferenceIdeal.S2x16x2048 .f32) (a : Fin 2) (b : Fin 2048) :
    Host.reduceAdd x (constant Cert.SumReferenceIdeal.S_ .f32 0x00000000#32) Cert.SumReferenceIdeal.Gen.reducesTo_S2x16x2048_S2x2048_d1 Cert.SumReferenceIdeal.Gen.h_S_ (ix2 a b)
      = ∑ k : Fin 16, x (ix3 a k b) := by
  pointwise []

/-- On the same parts the kernel and the reference, read as real numbers, leave the same sum. -/
theorem sum_algebraic : Cert.algebraic_SumIdeal_SumReferenceIdeal (hSumIdeal := Cert.SumIdeal.Gen.facts) (hSumReferenceIdeal := Cert.SumReferenceIdeal.Gen.facts) := by
  intro m g m' g' _ hagree
  refine ⟨fun c => Cert.SumIdeal.Gen.k0_pay1 (F := Ideal) (m ((c.tc : Thread _ _).loc Cert.SumIdeal.main_arg0)), ?_, ?_⟩
  · exact Cert.SumIdeal.Value.run m g
  · refine (θ_run _ _ _).mono (fun r h c => ⟨(h c).1.trans ?_, (h c).2⟩) (Cert.SumReferenceIdeal.Value.run m' g')
    rw [hagree c]
    funext j
    rw [eq_ix2 (n0 := 2) (n1 := 2048) j]
    exact (referenceSum_apply _ _ _).trans (kernelSum_apply _ _ _).symm

end Cert.Proof

end
-- ==== Proof.BinTrips.lean ====
/-
  The histogram call: its loops' trips. A trip is followed only as far as the claim needs: it runs without fault and
  gives back the buffers it holds, at some contents. The indices it scatters and gathers at are inside their buffers
  whatever the words read are.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.Bin
public import proofs.«01_k».proof.Proof.Gen.Bin.Skeleton

@[expose] public section

noncomputable section

namespace Cert.Proof.BinCall

open Cert.Bin Cert.Bin.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Rounds
open Idealize.ShloMosaic.Tactic

variable {F : FTy → Type} [FloatOps F]

abbrev UH : Type := URounds (GSem nD τ sig) ℕ
abbrev UU : Type := UH × Counters

local notation "𝕄" => MT nD τ sig (HIx 1) (Elt F) ℕ UU ℕ

/-! ## Programs that keep what they hold -/

section Keeps

variable (c : Thread nD τ)

/-- The program runs from `I` and ends at `I`, its result having `φ`. -/
def Keeps {α : Type} (I : sProp 𝕄) (p : Prog (TpuEff nD τ sig (Elt F) Λ₀ c.2) α) (φ : α → Prop) : Prop :=
  I ⊢ wp frame (wpE (defs₀ (F := F)) Variants.none c none) Set.univ p fun x => iprop(⌜φ x⌝ ∗ I)

/-- The buffer at `ℓ`, whole, at some contents. -/
abbrev Any (ℓ : Loc nD τ sig) : sProp 𝕄 := iprop(∃ f, ℓ ↦{fullShare} f)

/-- `I` has the buffer at `ℓ` in it. -/
def Has (I : sProp 𝕄) (ℓ : Loc nD τ sig) : Prop := I ⊢ iprop(Any ℓ ∗ (Any ℓ -∗ I))

variable {c} {I : sProp (MT nD τ sig (HIx 1) (Elt F) ℕ UU ℕ)}

theorem Keeps.pure {α : Type} {φ : α → Prop} (x : α) (h : φ x) : Keeps (F := F) c I (Pure.pure x) φ := by
  unfold Keeps
  rw [wp_pure]
  iintro H
  imodintro
  isplitr; · ipureintro; exact h
  iexact H

theorem Keeps.bind {α β : Type} {φ : α → Prop} {ψ : β → Prop} {p : Prog (TpuEff nD τ sig (Elt F) Λ₀ c.2) α}
    {k : α → Prog (TpuEff nD τ sig (Elt F) Λ₀ c.2) β} (hp : Keeps c I p φ) (hk : ∀ x, φ x → Keeps c I (k x) ψ) :
    Keeps c I (p >>= k) ψ := by
  unfold Keeps
  rw [wp_bind]
  refine hp.trans (wp_mono frame _ _ fun x => ?_)
  iintro ⟨%hx, H⟩
  have hk' := hk x hx
  unfold Keeps at hk'
  iapply hk'; iexact H

theorem Keeps.mono {α : Type} {φ ψ : α → Prop} {p : Prog (TpuEff nD τ sig (Elt F) Λ₀ c.2) α} (hp : Keeps c I p φ)
    (h : ∀ x, φ x → ψ x) : Keeps c I p ψ := by
  refine BI.Entails.trans hp (wp_mono frame _ _ fun x => ?_)
  iintro ⟨%hx, H⟩
  isplitr; · ipureintro; exact h x hx
  iexact H

theorem Keeps.assume {P : Prop} {D : Decidable P} (h : P) :
    Keeps (F := F) c I (Prog.lift (TpuEff.assume P D)) fun _ => True := by
  unfold Keeps Prog.lift
  rw [wp_assume_of _ _ _ _ h]
  exact Keeps.pure _ trivial

theorem Keeps.load {s : Shape} {e : EltTy} {cs : CoreSpace} {m : Memref sig c.2.kind cs s e} {r : LoadRect s}
    {hl : m.view.LoadsAt r} (h : Has I (m.view.loc c)) :
    Keeps (F := F) c I (Prog.lift (.load m r hl)) fun _ => True := by
  unfold Has at h
  unfold Keeps Prog.lift
  refine h.trans ?_
  iintro ⟨⟨%f, H⟩, Hb⟩
  iapply (wp_load (defs := defs₀ (F := F)) Variants.none c none Set.univ (m := m) (r := r) (Finset.subset_univ _)) $$ H
  iintro H
  have hp := Keeps.pure (F := F) (c := c) (I := I) (φ := fun _ => True) (m.view.readAt (Elt F) r f) trivial
  unfold Keeps at hp
  iapply hp
  iapply Hb; iexists f; iexact H

theorem Keeps.store {s : Shape} {e : EltTy} {cs : CoreSpace} {m : Memref sig c.2.kind cs s e} {r : Rect s}
    {w : r.shape.Idx → Elt F e} {Mk : Finset r.shape.Idx} {hx : (m.access r).Stores Mk} {hm : Mk = Finset.univ ∨ ∀ a, r.stride a = 1}
    (h : Has I (m.view.loc c)) :
    Keeps (F := F) c I (Prog.lift (.store m r w Mk hx hm)) fun _ => True := by
  unfold Has at h
  unfold Keeps Prog.lift
  refine h.trans ?_
  iintro ⟨⟨%f, H⟩, Hb⟩
  iapply (wp_store (defs := defs₀ (F := F)) Variants.none c none Set.univ (m := m) (r := r) (f := f) (Finset.subset_univ _)) $$ H
  iintro H
  have hp := Keeps.pure (F := F) (c := c) (I := I) (φ := fun _ => True) PUnit.unit trivial
  unfold Keeps at hp
  iapply hp
  iapply Hb; iexists _; iexact H

theorem Keeps.gather {s t : Shape} {e : EltTy} {base : Memref sig c.2.kind .vmem s e} {idxs : Fin s.rank → IVec t 32}
    {hi : ∀ a x, (idxs a x).toNat < s.size a} {hl : base.view.Loads} (h : Has I (base.view.loc c)) :
    Keeps (F := F) c I (SparseCore.vectorLoadIdx base idxs hi hl) fun _ => True :=
  Keeps.bind (Keeps.load h) fun _ _ => Keeps.pure _ trivial

theorem Keeps.scatter {s : Shape} {e : EltTy} {d : Fin 1 → Nat} {base : Memref sig c.2.kind .vmem s e}
    {idxs : Fin s.rank → IVec ⟨1, d⟩ 32} {v : Vec F ⟨1, d⟩ e} {mask : IVec ⟨1, d⟩ 1} {add : Bool}
    {hi : ∀ a x, (idxs a x).toNat < s.size a} {hs : (base.access (.whole s)).Stores Finset.univ} (h : Has I (base.view.loc c)) :
    Keeps (F := F) c I (SparseCore.vectorStoreIdx base idxs v mask add hi hs) fun _ => True :=
  Keeps.bind (Keeps.load h) fun _ _ => Keeps.bind (Keeps.store h) fun _ _ => Keeps.pure _ trivial

theorem Keeps.for {w : Nat} {L : Scf.Loop w} {hok : L.OK}
    {body : Fin L.trips → Unit → Prog (TpuEff nD τ sig (Elt F) Λ₀ c.2) Unit}
    (hb : ∀ k x, Keeps c I (body k x) fun _ => True) :
    Keeps (F := F) c I (Scf.Loop.for L hok () body) fun _ => True := by
  unfold Keeps
  iintro H
  iapply (Scf.wp_for _ _ _ L.lb L.ub L.st hok () body (fun _ _ => I) (fun k x => (hb k x).trans (wp_mono frame _ _ fun _ => sep_elim_right)))
  isplitl [H]; · iexact H
  iintro %_ H
  isplitr; · ipureintro; trivial
  iexact H

attribute [irreducible] Keeps Has

end Keeps

/-! ## The indices are inside their buffers -/

theorem word_code (a b : BitVec 32) (hb : b.toNat < 16) : ((a &&& 4080#32) ||| b).toNat < 4096 := by
  rw [BitVec.toNat_or]
  refine Nat.or_lt_two_pow (n := 12) ?_ (by omega)
  rw [BitVec.toNat_and]
  exact Nat.lt_of_le_of_lt Nat.and_le_right (by decide)

theorem word_gather (t : Nat) (ht : t < 128) (l x : BitVec 32) (hl : l.toNat < 16) :
    ((BitVec.ofNat 32 (16 * t) + l) * 16#32 + (x &&& 15#32)).toNat < 32768 := by
  have hx : (x &&& 15#32).toNat ≤ 15 := by
    rw [BitVec.toNat_and]; exact Nat.and_le_right
  simp only [BitVec.toNat_add, BitVec.toNat_mul, BitVec.toNat_ofNat]
  omega

/-- The indices at one word of lanes are inside the buffer. -/
theorem inb {n : Nat} {s : Shape} {v : IVec S16 32} (hs : s = ⟨1, ![n]⟩) (h : ∀ x, (v x).toNat < n) :
    ∀ a x, ((![v] : Fin 1 → IVec S16 32) a x).toNat < (![n] : Fin 1 → Nat) a := by
  intro a x
  match a with
  | 0 => exact h x

theorem trip_word : ∀ t : Fin k0_t5_loop.trips,
    Scalar.muli (Scalar.addi 0#32 (Scalar.muli (Scf.iv 0#32 1#32 t) 1#32)) 16#32 = BitVec.ofNat 32 (16 * t.val) := by decide +kernel

theorem gather_lt {v29 v47 : IVec S16 32} (hv : ∀ x, (v29 x).toNat < 16) {t : Fin k0_t5_loop.trips}
    (h : v47 = k0_pay58 v29 0#32 1#32 t) (w : BitVec 32) (x : S16.Idx) : (v47 x + (w &&& 15#32)).toNat < 32768 := by
  subst h
  have := word_gather t.val t.isLt (v29 x) w (hv x)
  rw [← trip_word] at this
  exact this

section Parts

abbrev tv (d : Dev nD) (i : grid0.Coords) : Thread nD τ := V d ((i 0).castLE hcore0) ((i 1).castLE hsub0)

variable (d : Dev nD) (i : grid0.Coords) (arg2 : Memref sig .scVector .hbm S107520x128 .f32) (harg2 : arg2.IsWhole) (arg3 : Memref sig .scVector .hbm S6720x128 .i32) (harg3 : arg3.IsWhole)
  (arg4 : Memref sig .scVector .hbm S2x16x2048 .f32) (harg4 : arg4.IsWhole) (arg5 : Memref sig .scVector .vmem S32768 .f32) (harg5 : arg5.IsWhole)
  (arg6 : Memref sig .scVector .vmem S128x128 .f32) (harg6 : arg6.IsWhole) (arg7 : Memref sig .scVector .vmem S128x128 .f32) (harg7 : arg7.IsWhole)
  (arg8 : Memref sig .scVector .vmem S16x128 .i32) (harg8 : arg8.IsWhole) (arg9 : Memref sig .scVector .vmem S16x128 .i32) (harg9 : arg9.IsWhole)
  (arg10 : Memref sig .scVector .vmem S2048 .f32) (harg10 : arg10.IsWhole) (arg11 arg12 arg13 arg14 v41_r0 : DmaSems sig S_)
variable {I : sProp (MT nD τ sig (HIx 1) (Elt F) ℕ UU ℕ)} (v29 : IVec S16 32)

theorem part1_keeps (k0_t2 : Fin k0_t2_loop.trips) (k0_h3 : k0_cond3 i k0_t2 = 1#1) (k0_t3 : Fin k0_t3_loop.trips) (hC : Has I (arg8.view.loc (tv d i))) :
    Keeps (F := F) (tv d i) I (k0_part1 i arg2 harg2 arg3 harg3 arg4 harg4 arg5 harg5 arg6 harg6 arg7 harg7 arg8 harg8 arg9 harg9 arg10 harg10 arg11 arg12 arg13 arg14 v41_r0
      k0_t2 k0_h3 0#32 1#32 k0_t3) fun _ => True := by
  rw [k0_part1_eq_skeleton]; unfold k0_part1_skel
  repeat' first
    | exact Keeps.pure _ trivial
    | refine Keeps.bind (Keeps.load hC) fun _ _ => ?_

theorem part2_keeps (k0_t2 : Fin k0_t2_loop.trips) (k0_h3 : k0_cond3 i k0_t2 = 1#1) (k0_t3 : Fin k0_t3_loop.trips) (v91 v102 w : BitVec 32) (hV : Has I (arg6.view.loc (tv d i))) :
    Keeps (F := F) (tv d i) I (k0_part2 i arg2 harg2 arg3 harg3 arg4 harg4 arg5 harg5 arg6 harg6 arg7 harg7 arg8 harg8 arg9 harg9 arg10 harg10 arg11 arg12 arg13 arg14 v41_r0
      k0_t2 k0_h3 k0_t3 v91 v102 w) fun _ => True := by
  rw [k0_part2_eq_skeleton]; unfold k0_part2_skel
  repeat' first
    | exact Keeps.pure _ trivial
    | refine Keeps.bind (Keeps.load hV) fun _ _ => ?_

theorem part3_keeps (k0_t2 : Fin k0_t2_loop.trips) (k0_h3 : k0_cond3 i k0_t2 = 1#1) (k0_t3 : Fin k0_t3_loop.trips) (v91 v102 : BitVec 32) (v106 v110 : Vec F S16 .i32) (v114 v118 : Vec F S16 .f32) (w : BitVec 32) (hV : Has I (arg6.view.loc (tv d i))) (hA : Has I (arg5.view.loc (tv d i))) (hv : ∀ x, (v29 x).toNat < 16) :
    Keeps (F := F) (tv d i) I (k0_part3 i arg2 harg2 arg3 harg3 arg4 harg4 arg5 harg5 arg6 harg6 arg7 harg7 arg8 harg8 arg9 harg9 arg10 harg10 arg11 arg12 arg13 arg14 v41_r0
      v29 k0_t2 k0_h3 k0_t3 v91 v102 v106 v110 v114 v118 w) fun _ => True := by
  rw [k0_part3_eq_skeleton]; unfold k0_part3_skel
  repeat' first
    | exact Keeps.pure _ trivial
    | exact Keeps.pure _ rfl
    | refine Keeps.bind (Keeps.load hV) fun _ _ => ?_
    | refine Keeps.bind (Keeps.scatter hA) fun _ _ => ?_
    | refine Keeps.bind (Keeps.assume (by simp only [k0_chk1, k0_chk2, k0_chk3, k0_chk4, k0_chk5, k0_chk6, k0_chk7, k0_chk8, k0_chk9, k0_chk10, k0_chk11, k0_chk12, k0_chk13, k0_chk14, k0_chk15, k0_chk16]; and_intros <;> exact fun _ => inb rfl fun x => word_code _ _ (hv x))) fun _ _ => ?_

theorem part4_keeps (k0_t2 : Fin k0_t2_loop.trips) (k0_h3 : k0_cond3 i k0_t2 = 1#1) (v106 v110 : Vec F S16 .i32) (v118 v122 v126 v130 v134 v138 v142 : Vec F S16 .f32) (v179 : IVec S16 32)
    (hw : k0_chk1 i k0_t2 v179) (v184 : IVec S16 32) (hw' : k0_chk2 i k0_t2 v184) (hA : Has I (arg5.view.loc (tv d i))) (hv : ∀ x, (v29 x).toNat < 16) :
    Keeps (F := F) (tv d i) I (k0_part4 i arg2 harg2 arg3 harg3 arg4 harg4 arg5 harg5 arg6 harg6 arg7 harg7 arg8 harg8 arg9 harg9 arg10 harg10 arg11 arg12 arg13 arg14 v41_r0
      v29 k0_t2 k0_h3 v106 v110 v118 v122 v126 v130 v134 v138 v142 v179 hw v184 hw') fun x => x.2 = k0_pay25 := by
  rw [k0_part4_eq_skeleton]; unfold k0_part4_skel
  repeat' first
    | exact Keeps.pure _ trivial
    | exact Keeps.pure _ rfl
    | refine Keeps.bind (Keeps.scatter hA) fun _ _ => ?_
    | refine Keeps.bind (Keeps.assume (by simp only [k0_chk1, k0_chk2, k0_chk3, k0_chk4, k0_chk5, k0_chk6, k0_chk7, k0_chk8, k0_chk9, k0_chk10, k0_chk11, k0_chk12, k0_chk13, k0_chk14, k0_chk15, k0_chk16]; and_intros <;> exact fun _ => inb rfl fun x => word_code _ _ (hv x))) fun _ _ => ?_

theorem part5_keeps (k0_t2 : Fin k0_t2_loop.trips) (k0_h3 : k0_cond3 i k0_t2 = 1#1) (v106 v110 : Vec F S16 .i32) (v146 v150 v154 v158 v162 v166 : Vec F S16 .f32) (v212 v213 : IVec S16 32) (hA : Has I (arg5.view.loc (tv d i))) (hv : ∀ x, (v29 x).toNat < 16) (h213 : v213 = k0_pay25) :
    Keeps (F := F) (tv d i) I (k0_part5 i arg2 harg2 arg3 harg3 arg4 harg4 arg5 harg5 arg6 harg6 arg7 harg7 arg8 harg8 arg9 harg9 arg10 harg10 arg11 arg12 arg13 arg14 v41_r0
      v29 k0_t2 k0_h3 v106 v110 v146 v150 v154 v158 v162 v166 v212 v213) fun _ => True := by
  rw [k0_part5_eq_skeleton]; unfold k0_part5_skel
  subst h213
  repeat' first
    | exact Keeps.pure _ trivial
    | exact Keeps.pure _ rfl
    | refine Keeps.bind (Keeps.scatter hA) fun _ _ => ?_
    | refine Keeps.bind (Keeps.assume (by simp only [k0_chk1, k0_chk2, k0_chk3, k0_chk4, k0_chk5, k0_chk6, k0_chk7, k0_chk8, k0_chk9, k0_chk10, k0_chk11, k0_chk12, k0_chk13, k0_chk14, k0_chk15, k0_chk16]; and_intros <;> exact fun _ => inb rfl fun x => word_code _ _ (hv x))) fun _ _ => ?_

theorem t3_keeps (k0_t2 : Fin k0_t2_loop.trips) (k0_h3 : k0_cond3 i k0_t2 = 1#1) (hA : Has I (arg5.view.loc (tv d i))) (hV : Has I (arg6.view.loc (tv d i))) (hC : Has I (arg8.view.loc (tv d i))) (hv : ∀ x, (v29 x).toNat < 16)
    (k0_t3 : Fin k0_t3_loop.trips) (x : Unit) :
    Keeps (F := F) (tv d i) I (k0_t3_body i arg2 harg2 arg3 harg3 arg4 harg4 arg5 harg5 arg6 harg6 arg7 harg7 arg8 harg8 arg9 harg9 arg10 harg10 arg11 arg12 arg13 arg14 v41_r0
      v29 k0_t2 k0_h3 k0_t3 x) fun _ => True := by
  unfold k0_t3_body
  refine Keeps.bind (part1_keeps (hC := hC) ..) fun x _ => ?_
  rcases x with ⟨v91, v102, v106, v110, w⟩
  refine Keeps.bind (part2_keeps (hV := hV) ..) fun x _ => ?_
  rcases x with ⟨v114, v118, v122, v126, v130, v134, v138, v142, v146, v150, w'⟩
  refine Keeps.bind (part3_keeps (hV := hV) (hA := hA) (hv := hv) ..) fun x _ => ?_
  rcases x with ⟨v154, v158, v162, v166, v170, v174, v179, hw1, v184, hw2⟩
  refine Keeps.bind (part4_keeps (hA := hA) (hv := hv) ..) fun x hx => ?_
  rcases x with ⟨v212, v213⟩
  refine Keeps.bind (part5_keeps (hA := hA) (hv := hv) (h213 := hx) ..) fun x _ => ?_
  rcases x with ⟨v233, hw7, v238, hw8⟩
  repeat' first
    | exact Keeps.pure _ trivial
    | refine Keeps.bind (Keeps.scatter hA) fun _ _ => ?_

theorem part6_keeps (k0_t2 : Fin k0_t2_loop.trips) (k0_h5 : k0_cond5 i k0_t2 = 1#1) (k0_t4 : Fin k0_t4_loop.trips) (hC : Has I (arg9.view.loc (tv d i))) :
    Keeps (F := F) (tv d i) I (k0_part6 i arg2 harg2 arg3 harg3 arg4 harg4 arg5 harg5 arg6 harg6 arg7 harg7 arg8 harg8 arg9 harg9 arg10 harg10 arg11 arg12 arg13 arg14 v41_r0
      k0_t2 k0_h5 0#32 1#32 k0_t4) fun _ => True := by
  rw [k0_part6_eq_skeleton]; unfold k0_part6_skel
  repeat' first
    | exact Keeps.pure _ trivial
    | refine Keeps.bind (Keeps.load hC) fun _ _ => ?_

theorem part7_keeps (k0_t2 : Fin k0_t2_loop.trips) (k0_h5 : k0_cond5 i k0_t2 = 1#1) (k0_t4 : Fin k0_t4_loop.trips) (v91 v102 w : BitVec 32) (hV : Has I (arg7.view.loc (tv d i))) :
    Keeps (F := F) (tv d i) I (k0_part7 i arg2 harg2 arg3 harg3 arg4 harg4 arg5 harg5 arg6 harg6 arg7 harg7 arg8 harg8 arg9 harg9 arg10 harg10 arg11 arg12 arg13 arg14 v41_r0
      k0_t2 k0_h5 k0_t4 v91 v102 w) fun _ => True := by
  rw [k0_part7_eq_skeleton]; unfold k0_part7_skel
  repeat' first
    | exact Keeps.pure _ trivial
    | refine Keeps.bind (Keeps.load hV) fun _ _ => ?_

theorem part8_keeps (k0_t2 : Fin k0_t2_loop.trips) (k0_h5 : k0_cond5 i k0_t2 = 1#1) (k0_t4 : Fin k0_t4_loop.trips) (v91 v102 : BitVec 32) (v106 v110 : Vec F S16 .i32) (v114 v118 : Vec F S16 .f32) (w : BitVec 32) (hV : Has I (arg7.view.loc (tv d i))) (hA : Has I (arg5.view.loc (tv d i))) (hv : ∀ x, (v29 x).toNat < 16) :
    Keeps (F := F) (tv d i) I (k0_part8 i arg2 harg2 arg3 harg3 arg4 harg4 arg5 harg5 arg6 harg6 arg7 harg7 arg8 harg8 arg9 harg9 arg10 harg10 arg11 arg12 arg13 arg14 v41_r0
      v29 k0_t2 k0_h5 k0_t4 v91 v102 v106 v110 v114 v118 w) fun _ => True := by
  rw [k0_part8_eq_skeleton]; unfold k0_part8_skel
  repeat' first
    | exact Keeps.pure _ trivial
    | exact Keeps.pure _ rfl
    | refine Keeps.bind (Keeps.load hV) fun _ _ => ?_
    | refine Keeps.bind (Keeps.scatter hA) fun _ _ => ?_
    | refine Keeps.bind (Keeps.assume (by simp only [k0_chk1, k0_chk2, k0_chk3, k0_chk4, k0_chk5, k0_chk6, k0_chk7, k0_chk8, k0_chk9, k0_chk10, k0_chk11, k0_chk12, k0_chk13, k0_chk14, k0_chk15, k0_chk16]; and_intros <;> exact fun _ => inb rfl fun x => word_code _ _ (hv x))) fun _ _ => ?_

theorem part9_keeps (k0_t2 : Fin k0_t2_loop.trips) (k0_h5 : k0_cond5 i k0_t2 = 1#1) (v106 v110 : Vec F S16 .i32) (v118 v122 v126 v130 v134 v138 v142 : Vec F S16 .f32) (v179 : IVec S16 32)
    (hw : k0_chk9 i k0_t2 v179) (v184 : IVec S16 32) (hw' : k0_chk10 i k0_t2 v184) (hA : Has I (arg5.view.loc (tv d i))) (hv : ∀ x, (v29 x).toNat < 16) :
    Keeps (F := F) (tv d i) I (k0_part9 i arg2 harg2 arg3 harg3 arg4 harg4 arg5 harg5 arg6 harg6 arg7 harg7 arg8 harg8 arg9 harg9 arg10 harg10 arg11 arg12 arg13 arg14 v41_r0
      v29 k0_t2 k0_h5 v106 v110 v118 v122 v126 v130 v134 v138 v142 v179 hw v184 hw') fun x => x.2 = k0_pay53 := by
  rw [k0_part9_eq_skeleton]; unfold k0_part9_skel
  repeat' first
    | exact Keeps.pure _ trivial
    | exact Keeps.pure _ rfl
    | refine Keeps.bind (Keeps.scatter hA) fun _ _ => ?_
    | refine Keeps.bind (Keeps.assume (by simp only [k0_chk1, k0_chk2, k0_chk3, k0_chk4, k0_chk5, k0_chk6, k0_chk7, k0_chk8, k0_chk9, k0_chk10, k0_chk11, k0_chk12, k0_chk13, k0_chk14, k0_chk15, k0_chk16]; and_intros <;> exact fun _ => inb rfl fun x => word_code _ _ (hv x))) fun _ _ => ?_

theorem part10_keeps (k0_t2 : Fin k0_t2_loop.trips) (k0_h5 : k0_cond5 i k0_t2 = 1#1) (v106 v110 : Vec F S16 .i32) (v146 v150 v154 v158 v162 v166 : Vec F S16 .f32) (v212 v213 : IVec S16 32) (hA : Has I (arg5.view.loc (tv d i))) (hv : ∀ x, (v29 x).toNat < 16) (h213 : v213 = k0_pay53) :
    Keeps (F := F) (tv d i) I (k0_part10 i arg2 harg2 arg3 harg3 arg4 harg4 arg5 harg5 arg6 harg6 arg7 harg7 arg8 harg8 arg9 harg9 arg10 harg10 arg11 arg12 arg13 arg14 v41_r0
      v29 k0_t2 k0_h5 v106 v110 v146 v150 v154 v158 v162 v166 v212 v213) fun _ => True := by
  rw [k0_part10_eq_skeleton]; unfold k0_part10_skel
  subst h213
  repeat' first
    | exact Keeps.pure _ trivial
    | exact Keeps.pure _ rfl
    | refine Keeps.bind (Keeps.scatter hA) fun _ _ => ?_
    | refine Keeps.bind (Keeps.assume (by simp only [k0_chk1, k0_chk2, k0_chk3, k0_chk4, k0_chk5, k0_chk6, k0_chk7, k0_chk8, k0_chk9, k0_chk10, k0_chk11, k0_chk12, k0_chk13, k0_chk14, k0_chk15, k0_chk16]; and_intros <;> exact fun _ => inb rfl fun x => word_code _ _ (hv x))) fun _ _ => ?_

theorem t4_keeps (k0_t2 : Fin k0_t2_loop.trips) (k0_h5 : k0_cond5 i k0_t2 = 1#1) (hA : Has I (arg5.view.loc (tv d i))) (hV : Has I (arg7.view.loc (tv d i))) (hC : Has I (arg9.view.loc (tv d i))) (hv : ∀ x, (v29 x).toNat < 16)
    (k0_t4 : Fin k0_t4_loop.trips) (x : Unit) :
    Keeps (F := F) (tv d i) I (k0_t4_body i arg2 harg2 arg3 harg3 arg4 harg4 arg5 harg5 arg6 harg6 arg7 harg7 arg8 harg8 arg9 harg9 arg10 harg10 arg11 arg12 arg13 arg14 v41_r0
      v29 k0_t2 k0_h5 k0_t4 x) fun _ => True := by
  unfold k0_t4_body
  refine Keeps.bind (part6_keeps (hC := hC) ..) fun x _ => ?_
  rcases x with ⟨v91, v102, v106, v110, w⟩
  refine Keeps.bind (part7_keeps (hV := hV) ..) fun x _ => ?_
  rcases x with ⟨v114, v118, v122, v126, v130, v134, v138, v142, v146, v150, w'⟩
  refine Keeps.bind (part8_keeps (hV := hV) (hA := hA) (hv := hv) ..) fun x _ => ?_
  rcases x with ⟨v154, v158, v162, v166, v170, v174, v179, hw1, v184, hw2⟩
  refine Keeps.bind (part9_keeps (hA := hA) (hv := hv) ..) fun x hx => ?_
  rcases x with ⟨v212, v213⟩
  refine Keeps.bind (part10_keeps (hA := hA) (hv := hv) (h213 := hx) ..) fun x _ => ?_
  rcases x with ⟨v233, hw7, v238, hw8⟩
  repeat' first
    | exact Keeps.pure _ trivial
    | refine Keeps.bind (Keeps.scatter hA) fun _ _ => ?_

theorem part11_keeps (k0_t5 : Fin k0_t5_loop.trips) (hA : Has I (arg5.view.loc (tv d i))) (hv : ∀ x, (v29 x).toNat < 16) :
    Keeps (F := F) (tv d i) I (k0_part11 i arg2 harg2 arg3 harg3 arg4 harg4 arg5 harg5 arg6 harg6 arg7 harg7 arg8 harg8 arg9 harg9 arg10 harg10 arg11 arg12 arg13 arg14 v41_r0
      v29 0#32 1#32 k0_t5) fun x => x.2.1 = k0_pay58 v29 0#32 1#32 k0_t5 ∧ x.2.2.2 = k0_pay64 v29 := by
  rw [k0_part11_eq_skeleton]; unfold k0_part11_skel
  have h47 : k0_pay58 v29 0#32 1#32 k0_t5 = k0_pay58 v29 0#32 1#32 k0_t5 := rfl
  repeat' first
    | exact Keeps.pure _ ⟨rfl, rfl⟩
    | refine Keeps.bind (Keeps.assume (by intro a x; match a with | 0 => exact gather_lt hv h47 _ x)) fun _ _ => ?_
    | refine Keeps.bind (Keeps.gather hA) fun _ _ => ?_

theorem part12_keeps (k0_t5 : Fin k0_t5_loop.trips) (v47 : IVec S16 32) (v76 : FVec F S16 .f32) (v80 : IVec S16 32) (hA : Has I (arg5.view.loc (tv d i))) (hv : ∀ x, (v29 x).toNat < 16)
    (h47 : v47 = k0_pay58 v29 0#32 1#32 k0_t5) (h80 : v80 = k0_pay64 v29) :
    Keeps (F := F) (tv d i) I (k0_part12 i arg2 harg2 arg3 harg3 arg4 harg4 arg5 harg5 arg6 harg6 arg7 harg7 arg8 harg8 arg9 harg9 arg10 harg10 arg11 arg12 arg13 arg14 v41_r0
      v29 v47 v76 v80) fun x => x.2 = k0_pay71 v29 := by
  rw [k0_part12_eq_skeleton]; unfold k0_part12_skel
  subst h80
  repeat' first
    | exact Keeps.pure _ rfl
    | refine Keeps.bind (Keeps.assume (by intro a x; match a with | 0 => exact gather_lt hv h47 _ x)) fun _ _ => ?_
    | refine Keeps.bind (Keeps.gather hA) fun _ _ => ?_

theorem part13_keeps (k0_t5 : Fin k0_t5_loop.trips) (hA : Has I (arg5.view.loc (tv d i))) (hP : Has I (arg10.view.loc (tv d i))) (hv : ∀ x, (v29 x).toNat < 16) :
    Keeps (F := F) (tv d i) I (k0_part13 i arg2 harg2 arg3 harg3 arg4 harg4 arg5 harg5 arg6 harg6 arg7 harg7 arg8 harg8 arg9 harg9 arg10 harg10 arg11 arg12 arg13 arg14 v41_r0
      v29 0#32 1#32 k0_t5) fun _ => True := by
  rw [k0_part13_eq_skeleton]; unfold k0_part13_skel
  refine Keeps.bind (part11_keeps (hA := hA) (hv := hv) ..) fun x hx => ?_
  rcases x with ⟨v42, v47, v76, v80⟩
  obtain ⟨h47, h80⟩ := hx
  refine Keeps.bind (part12_keeps (hA := hA) (hv := hv) (h47 := h47) (h80 := h80) ..) fun x hx => ?_
  rcases x with ⟨v118, v122⟩
  obtain rfl : v122 = k0_pay71 v29 := hx
  repeat' first
    | exact Keeps.pure _ trivial
    | refine Keeps.bind (Keeps.load hP) fun _ _ => ?_
    | refine Keeps.bind (Keeps.assume (by intro a x; match a with | 0 => exact gather_lt hv h47 _ x)) fun _ _ => ?_
    | refine Keeps.bind (Keeps.gather hA) fun _ _ => ?_

theorem t5_keeps (hA : Has I (arg5.view.loc (tv d i))) (hP : Has I (arg10.view.loc (tv d i))) (hv : ∀ x, (v29 x).toNat < 16) (k0_t5 : Fin k0_t5_loop.trips) (x : Unit) :
    Keeps (F := F) (tv d i) I (k0_t5_body i arg2 harg2 arg3 harg3 arg4 harg4 arg5 harg5 arg6 harg6 arg7 harg7 arg8 harg8 arg9 harg9 arg10 harg10 arg11 arg12 arg13 arg14 v41_r0
      v29 k0_t5 x) fun _ => True := by
  unfold k0_t5_body
  refine Keeps.bind (part13_keeps (hA := hA) (hP := hP) (hv := hv) ..) fun _ _ => ?_
  exact Keeps.bind (Keeps.store hP) fun _ _ => Keeps.pure _ trivial

theorem t1_keeps (hA : Has I (arg5.view.loc (tv d i))) (k0_t1 : Fin k0_t1_loop.trips) (x : Unit) :
    Keeps (F := F) (tv d i) I (k0_t1_body i arg2 harg2 arg3 harg3 arg4 harg4 arg5 harg5 arg6 harg6 arg7 harg7 arg8 harg8 arg9 harg9 arg10 harg10 arg11 arg12 arg13 arg14 v41_r0
      k0_t1 x) fun _ => True := by
  unfold k0_t1_body
  exact Keeps.bind (Keeps.load hA) fun _ _ => Keeps.bind (Keeps.store hA) fun _ _ => Keeps.pure _ trivial

end Parts

end Cert.Proof.BinCall

end
-- ==== Proof.BinTile.lean ====
/-
  The histogram call: one tile's run. Each of its two slots is either idle, its two buffers and counters at hand, or
  busy, its two copies in flight; the last trips find fewer copies in flight than the first.
-/
module

public import proofs.«01_k».proof.Proof.BinTrips

@[expose] public section

set_option maxHeartbeats 2000000

noncomputable section

namespace Cert.Proof.BinCall

open Cert.Bin Cert.Bin.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay tileRest ownBufs ownSems0 ownCells ownRefs mem_ownCells mem_ownRefs)
open Idealize.ShloMosaic.Rounds
open Idealize.ShloMosaic.Tactic

variable {F : FTy → Type} [FloatOps F]

local notation "𝕄" => MT nD τ sig (HIx 1) (Elt F) ℕ UU ℕ

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## Copies in flight -/

section Copies

variable (c : Thread nD τ)

/-- What a thread owes, with waits recorded beyond `W` at no call's index. -/
def Ow (O : CellTallies nD τ sig (HIx 1)) (W : Waits sig (HIx 1)) : sProp 𝕄 :=
  iprop(∃ W', ⌜∀ p ∈ W', p ∈ W ∨ p.2 = none⌝ ∗ owes c O W')

/-- A copy into `dst` in flight on `sem`, of part of the array `arg` held at share `q`. -/
def Fl {s t : Shape} {e e' : EltTy} {sp sp' : Space} (arg : Memref sig c.2.kind sp s e) (dst : Memref sig c.2.kind sp' t e')
    (sem : DmaSem sig) (q : PosShare TreeShare) (f : Buf (Elt F) (arg.view.loc c)) : sProp 𝕄 :=
  iprop(∃ S, ∃ fd : Buf (Elt F) (dst.view.loc c),
    Transfers.Flight countersEmb c (.dma sem) (none : HIx 1) dst.view.dmaCredit
      iprop((dst.view.loc c ↦{fullShare} fd) ∗ arg.view.loc c ↦[S]{q} f)
    ∗ arg.view.loc c ↦[Finset.univ \ S]{q} f)

variable {c}

/-- A copy's start, from the array and the buffer at hand. -/
theorem fetch {s : Shape} {e : EltTy} {sp sp' : Space} {arg : Memref sig c.2.kind sp s e} {r : Rect s} {hr : ∀ a, r.stride a = 1}
    {dst : Memref sig c.2.kind sp' r.shape e} {sem : DmaSem sig} {q : PosShare TreeShare} {f : Buf (Elt F) (arg.view.loc c)}
    {hsrc : (arg.slice r hr).view.WordExact} {hdst : dst.view.WordExact} {hsem : DmaTarget.Typed (nD := nD) sp (.dma sem) (.here dst)}
    {α : Type} {k : PUnit → Prog (TpuEff nD τ sig (Elt F) Λ₀ c.2) α} {Q : α → sProp 𝕄} (hN : 0 < dst.view.dmaCredit) :
    iprop((arg.view.loc c ↦{q} f) ∗ Any (dst.view.loc c) ∗ semVal (c, .dma sem) 0)
      ⊢ iprop((Fl c arg dst sem q f -∗ wp frame (wpE (defs₀ (F := F)) 𝒱₀ c none) Set.univ (k ⟨⟩) Q)
        -∗ wp frame (wpE (defs₀ (F := F)) 𝒱₀ c none) Set.univ
          (Prog.lift (.enqueueDma (arg.slice r hr) (.here dst) (.dma sem) hsrc hdst hsem) >>= k) Q) := by
  have hs : ((arg.slice r hr).view.loc c ↦{q} f : sProp 𝕄) ⊣⊢ _ := pointsTo_split_subset (Finset.subset_univ (arg.slice r hr).view.set)
  iintro ⟨Ha, ⟨%fd, Hd⟩, Hs⟩ Hk
  ihave H := hs.1 $$ Ha
  icases H with ⟨Ha, Hr⟩
  simp only [Prog.lift, Prog.bind_op, Prog.bind_ret]
  iapply (Transfers.wp_dmaLocal countersEmb 𝒱₀ c none (src := arg.slice r hr) (dst := dst) (fs := f) (fd := fd) (none : HIx 1)
    dst.view.dmaCredit rfl hN (Finset.subset_univ _)) $$ [Ha Hd Hs]
  · isplitl [Ha]; · iexact Ha
    isplitl [Hd]; · iexact Hd
    iexact Hs
  iintro Hf
  iapply Hk
  unfold Fl
  iexists _, _
  isplitl [Hf]; · iexact Hf
  iexact Hr

/-- A copy's wait: the buffer, its counter at zero and the whole of the array's share are at hand again. -/
theorem await {s t tw : Shape} {e e' ew : EltTy} {sp sp' spw : Space} {arg : Memref sig c.2.kind sp s e} {dst : Memref sig c.2.kind sp' t e'}
    {src : Memref sig c.2.kind spw tw ew}
    {sem : DmaSem sig} {q : PosShare TreeShare} {f : Buf (Elt F) (arg.view.loc c)} {O : CellTallies nD τ sig (HIx 1)} {W : Waits sig (HIx 1)}
    {hsrc : src.view.WordExact} {hdst : dst.view.WordExact} (hO : ∀ g, O g none = 0)
    {α : Type} {k : PUnit → Prog (TpuEff nD τ sig (Elt F) Λ₀ c.2) α} {Q : α → sProp 𝕄} :
    iprop(levAts (K (F := F)).L (K (F := F)).lev ∗ Fl c arg dst sem q f ∗ Ow c O W)
      ⊢ iprop(((arg.view.loc c ↦{q} f) ∗ Any (dst.view.loc c) ∗ semVal (c, .dma sem) 0 ∗ Ow c O W
          -∗ wp frame (wpE (defs₀ (F := F)) 𝒱₀ c none) Set.univ (k ⟨⟩) Q)
        -∗ wp frame (wpE (defs₀ (F := F)) 𝒱₀ c none) Set.univ
          (Prog.lift (.waitDma2 sem src dst hsrc hdst) >>= k) Q) := by
  unfold Fl Ow
  iintro ⟨#Hlev, ⟨%S, %fd, Hf, Hr⟩, ⟨%W', %hW, HO⟩⟩ Hk
  have hs : (arg.view.loc c ↦{q} f : sProp 𝕄) ⊣⊢ _ := pointsTo_split_subset (Finset.subset_univ S)
  simp only [Prog.lift, Prog.bind_op, Prog.bind_ret]
  iapply (Transfers.wp_waitLocalO countersEmb 𝒱₀ c none (none : HIx 1) rfl) $$ [Hf HO]
  · isplitl [Hf]; · iexact Hf
    isplitl [HO]; · iexact HO
    iapply ((K (F := F)).mayWait_none _ hO) $$ Hlev
  iintro ⟨⟨Hd, Ha⟩, Hs, HO⟩
  iapply Hk
  isplitl [Ha Hr]
  · iapply hs.2
    isplitl [Ha]; · iexact Ha
    iexact Hr
  isplitl [Hd]; · iexists fd; iexact Hd
  isplitl [Hs]; · iexact Hs
  iexists (insert (SemLoc.dma sem, none) W')
  isplitr
  · ipureintro
    intro p hp
    rcases Finset.mem_insert.mp hp with h | hp
    · exact .inr (by rw [h])
    · exact hW p hp
  iexact HO

/-- The copy of a buffer to its slice of the result, and its wait. -/
theorem copyOut {t s' : Shape} {e e' : EltTy} {sp sp' sp'' : Space} {src : Memref sig c.2.kind sp t e} {dst : Memref sig c.2.kind sp' t e}
    {srcw : Memref sig c.2.kind sp'' s' e'} {dstw : Memref sig c.2.kind sp' t e}
    {sem : DmaSem sig} {O : CellTallies nD τ sig (HIx 1)} {W : Waits sig (HIx 1)}
    {hsrc : src.view.WordExact} {hdst : dst.view.WordExact} {hsem : DmaTarget.Typed (nD := nD) sp (.dma sem) (.here dst)}
    {hsrcw : srcw.view.WordExact} {hdstw : dstw.view.WordExact} (hO : ∀ g, O g none = 0) (hN : 0 < dst.view.dmaCredit)
    (hw : dstw.view.dmaCredit = dst.view.dmaCredit)
    {α : Type} {k : PUnit → Prog (TpuEff nD τ sig (Elt F) Λ₀ c.2) α} {Q : α → sProp 𝕄} :
    iprop(levAts (K (F := F)).L (K (F := F)).lev ∗ Any (src.view.loc c) ∗ (∃ f, dst.view.loc c ↦[dst.view.set]{fullShare} f)
        ∗ semVal (c, .dma sem) 0 ∗ Ow c O W)
      ⊢ iprop((Any (src.view.loc c) ∗ (∃ f, dst.view.loc c ↦[dst.view.set]{fullShare} f) ∗ semVal (c, .dma sem) 0 ∗ Ow c O W
          -∗ wp frame (wpE (defs₀ (F := F)) 𝒱₀ c none) Set.univ (k ⟨⟩) Q)
        -∗ wp frame (wpE (defs₀ (F := F)) 𝒱₀ c none) Set.univ
          (Prog.lift (.enqueueDma src (.here dst) (.dma sem) hsrc hdst hsem)
            >>= fun _ => Prog.lift (.waitDma2 sem srcw dstw hsrcw hdstw) >>= k) Q) := by
  unfold Ow
  iintro ⟨#Hlev, ⟨%fs, Hsrc⟩, ⟨%fd, Hd⟩, Hs, ⟨%W', %hW, HO⟩⟩ Hk
  have hs : (src.view.loc c ↦{fullShare} fs : sProp 𝕄) ⊣⊢ _ := pointsTo_split_subset (Finset.subset_univ src.view.set)
  ihave H := hs.1 $$ Hsrc
  icases H with ⟨Ha, Hr⟩
  simp only [Prog.lift, Prog.bind_op, Prog.bind_ret]
  iapply (Transfers.wp_dmaLocal countersEmb 𝒱₀ c none (src := src) (dst := dst) (fs := fs) (fd := fd) (none : HIx 1)
    dst.view.dmaCredit rfl hN (Finset.Subset.refl _)) $$ [Ha Hd Hs]
  · isplitl [Ha]; · iexact Ha
    isplitl [Hd]; · iexact Hd
    iexact Hs
  iintro Hf
  iapply (Transfers.wp_waitLocalO countersEmb 𝒱₀ c none (none : HIx 1) hw) $$ [Hf HO]
  · isplitl [Hf]; · iexact Hf
    isplitl [HO]; · iexact HO
    iapply ((K (F := F)).mayWait_none _ hO) $$ Hlev
  iintro ⟨⟨Hd, Ha⟩, Hs, HO⟩
  iapply Hk
  isplitl [Ha Hr]
  · iexists fs
    iapply hs.2
    isplitl [Ha]; · iexact Ha
    iexact Hr
  isplitl [Hd]; · iexists _; iexact Hd
  isplitl [Hs]; · iexact Hs
  iexists (insert (SemLoc.dma sem, none) W')
  isplitr
  · ipureintro
    intro p hp
    rcases Finset.mem_insert.mp hp with h | hp
    · exact .inr (by rw [h])
    · exact hW p hp
  iexact HO

theorem Keeps.use {α β : Type} {I : sProp (MT nD τ sig (HIx 1) (Elt F) ℕ UU ℕ)} {p : Prog (TpuEff nD τ sig (Elt F) Λ₀ c.2) α}
    {φ : α → Prop} (h : Keeps (F := F) c I p φ) {k : α → Prog (TpuEff nD τ sig (Elt F) Λ₀ c.2) β} {Q : β → sProp 𝕄} :
    I ⊢ iprop((∀ x, I -∗ wp frame (wpE (defs₀ (F := F)) 𝒱₀ c none) Set.univ (k x) Q)
      -∗ wp frame (wpE (defs₀ (F := F)) 𝒱₀ c none) Set.univ (p >>= k) Q) := by
  unfold Keeps at h
  rw [wp_bind]
  iintro H Hk
  iapply (wp_wand_r frame _ _)
  isplitl [H]; · iapply h; iexact H
  iintro %x ⟨-, H⟩
  iapply Hk; iexact H

end Copies

/-! ## A slot -/

section Slots

variable (c : Thread nD τ)

/-- A slot idle: its two buffers and counters at hand, and its shares of the arguments. -/
def Idle {s₁ s₂ t₁ t₂ : Shape} {e₁ e₂ e₃ e₄ : EltTy} {sp₁ sp₂ sp₃ sp₄ : Space}
    (v : Memref sig c.2.kind sp₁ s₁ e₁) (cw : Memref sig c.2.kind sp₂ s₂ e₂) (b : Memref sig c.2.kind sp₃ t₁ e₃) (cb : Memref sig c.2.kind sp₄ t₂ e₄)
    (sem csem : DmaSem sig) (q : PosShare TreeShare) (f : Buf (Elt F) (v.view.loc c)) (g : Buf (Elt F) (cw.view.loc c)) : sProp 𝕄 :=
  iprop((v.view.loc c ↦{q} f) ∗ (cw.view.loc c ↦{q} g) ∗ Any (b.view.loc c) ∗ Any (cb.view.loc c)
    ∗ semVal (c, .dma sem) 0 ∗ semVal (c, .dma csem) 0)

/-- A slot busy: its two copies in flight. -/
def Busy {s₁ s₂ t₁ t₂ : Shape} {e₁ e₂ e₃ e₄ : EltTy} {sp₁ sp₂ sp₃ sp₄ : Space}
    (v : Memref sig c.2.kind sp₁ s₁ e₁) (cw : Memref sig c.2.kind sp₂ s₂ e₂) (b : Memref sig c.2.kind sp₃ t₁ e₃) (cb : Memref sig c.2.kind sp₄ t₂ e₄)
    (sem csem : DmaSem sig) (q : PosShare TreeShare) (f : Buf (Elt F) (v.view.loc c)) (g : Buf (Elt F) (cw.view.loc c)) : sProp 𝕄 :=
  iprop(Fl c v b sem q f ∗ Fl c cw cb csem q g)

/-- A slot before a trip: busy while its next chunk is one of the 420. -/
def Slot (n : ℕ) {s₁ s₂ t₁ t₂ : Shape} {e₁ e₂ e₃ e₄ : EltTy} {sp₁ sp₂ sp₃ sp₄ : Space}
    (v : Memref sig c.2.kind sp₁ s₁ e₁) (cw : Memref sig c.2.kind sp₂ s₂ e₂) (b : Memref sig c.2.kind sp₃ t₁ e₃) (cb : Memref sig c.2.kind sp₄ t₂ e₄)
    (sem csem : DmaSem sig) (q : PosShare TreeShare) (f : Buf (Elt F) (v.view.loc c)) (g : Buf (Elt F) (cw.view.loc c)) : sProp 𝕄 :=
  if n < 420 then Busy c v cw b cb sem csem q f g else Idle c v cw b cb sem csem q f g

end Slots

theorem has₁ (ℓ₁ : Loc nD τ sig) (R : sProp (MT nD τ sig (HIx 1) (Elt F) ℕ UU ℕ)) : Has (iprop(Any ℓ₁ ∗ R)) ℓ₁ := by
  unfold Has
  iintro ⟨A, R⟩
  isplitl [A]; · iexact A
  iintro A
  isplitl [A]; · iexact A
  iexact R

theorem has₂ (ℓ₁ ℓ₂ : Loc nD τ sig) (R : sProp (MT nD τ sig (HIx 1) (Elt F) ℕ UU ℕ)) : Has (iprop(Any ℓ₁ ∗ Any ℓ₂ ∗ R)) ℓ₂ := by
  unfold Has
  iintro ⟨A, B, R⟩
  isplitl [B]; · iexact B
  iintro B
  isplitl [A]; · iexact A
  isplitl [B]; · iexact B
  iexact R

theorem has₃ (ℓ₁ ℓ₂ ℓ₃ : Loc nD τ sig) (R : sProp (MT nD τ sig (HIx 1) (Elt F) ℕ UU ℕ)) : Has (iprop(Any ℓ₁ ∗ Any ℓ₂ ∗ Any ℓ₃ ∗ R)) ℓ₃ := by
  unfold Has
  iintro ⟨A, B, C, R⟩
  isplitl [C]; · iexact C
  iintro C
  isplitl [A]; · iexact A
  isplitl [B]; · iexact B
  isplitl [C]; · iexact C
  iexact R

/-! ## The conditions -/

theorem cond1_of : ∀ i : grid0.Coords, k0_cond1 i = 1#1 := by decide +kernel
theorem cond2_of : ∀ i : grid0.Coords, k0_cond2 i = 1#1 := by decide +kernel
theorem cond3_iff : ∀ (i : grid0.Coords) (t : Fin k0_t2_loop.trips), k0_cond3 i t = 1#1 ↔ (i 1).val + 32 * t.val < 420 := by decide +kernel
theorem cond4_iff : ∀ (i : grid0.Coords) (t : Fin k0_t2_loop.trips), k0_cond4 i t = 1#1 ↔ (i 1).val + 32 * (t.val + 1) < 420 := by decide +kernel
theorem cond5_iff : ∀ (i : grid0.Coords) (t : Fin k0_t2_loop.trips), k0_cond5 i t = 1#1 ↔ (i 1).val + 16 + 32 * t.val < 420 := by decide +kernel
theorem cond6_iff : ∀ (i : grid0.Coords) (t : Fin k0_t2_loop.trips), k0_cond6 i t = 1#1 ↔ (i 1).val + 16 + 32 * (t.val + 1) < 420 := by decide +kernel
theorem trips_t2 : k0_t2_loop.trips = 14 := by decide +kernel

/-! ## The tile's run -/

section Tile

variable (d : Dev nD) (i : grid0.Coords) (arg2 : Memref sig .scVector .hbm S107520x128 .f32) (harg2 : arg2.IsWhole) (arg3 : Memref sig .scVector .hbm S6720x128 .i32) (harg3 : arg3.IsWhole)
  (arg4 : Memref sig .scVector .hbm S2x16x2048 .f32) (harg4 : arg4.IsWhole) (arg5 : Memref sig .scVector .vmem S32768 .f32) (harg5 : arg5.IsWhole)
  (arg6 : Memref sig .scVector .vmem S128x128 .f32) (harg6 : arg6.IsWhole) (arg7 : Memref sig .scVector .vmem S128x128 .f32) (harg7 : arg7.IsWhole)
  (arg8 : Memref sig .scVector .vmem S16x128 .i32) (harg8 : arg8.IsWhole) (arg9 : Memref sig .scVector .vmem S16x128 .i32) (harg9 : arg9.IsWhole)
  (arg10 : Memref sig .scVector .vmem S2048 .f32) (harg10 : arg10.IsWhole) (arg11 arg12 arg13 arg14 v41_r0 : DmaSems sig S_)

variable (v29 : IVec S16 32) (hv : ∀ x, (v29 x).toNat < 16) (q : PosShare TreeShare) (f : Buf (Elt F) (arg2.view.loc (tv d i)))
  (g : Buf (Elt F) (arg3.view.loc (tv d i))) (O : CellTallies nD τ sig (HIx 1)) (W : Waits sig (HIx 1))

include hv in
/-- The first slot's half of a trip. -/
theorem first_half (hO : ∀ g, O g none = 0) (t : Fin k0_t2_loop.trips) {k : Prog (TpuEff nD τ sig (Elt F) Λ₀ (tv d i).2) Unit} {Q : Unit → sProp 𝕄} :
    iprop(levAts (K (F := F)).L (K (F := F)).lev ∗ Slot (tv d i) ((i 1).val + 32 * t.val) arg2 arg3 arg6 arg8 arg11.sem arg13.sem q f g
        ∗ Any (arg5.view.loc (tv d i)) ∗ Ow (tv d i) O W)
      ⊢ iprop((Slot (tv d i) ((i 1).val + 32 * (t.val + 1)) arg2 arg3 arg6 arg8 arg11.sem arg13.sem q f g
          ∗ Any (arg5.view.loc (tv d i)) ∗ Ow (tv d i) O W -∗ wp frame (wpE (defs₀ (F := F)) 𝒱₀ (tv d i) none) Set.univ k Q)
        -∗ wp frame (wpE (defs₀ (F := F)) 𝒱₀ (tv d i) none) Set.univ
          (if h : k0_cond3 i t = 1#1 then do
            Prog.lift (.waitDma2 arg11.sem (arg2.slice (Rect.unit (s := S107520x128) (k0_off6 i t) S128x128.size (k0_off6_inb i t h)) (fun _ => rfl)) arg6
              (View.wordExact_bits rfl) harg6.wordExact)
            Prog.lift (.waitDma2 arg13.sem (arg3.slice (Rect.unit (s := S6720x128) (k0_off7 i t) S16x128.size (k0_off7_inb i t h)) (fun _ => rfl)) arg8
              (View.wordExact_bits rfl) harg8.wordExact)
            Scf.Loop.for k0_t3_loop (k0_t3_ok i t h) ⟨⟩ (k0_t3_body i arg2 harg2 arg3 harg3 arg4 harg4 arg5 harg5 arg6 harg6 arg7 harg7 arg8 harg8 arg9 harg9 arg10 harg10 arg11 arg12 arg13 arg14 v41_r0 v29 t h)
            if h' : k0_cond4 i t = 1#1 then do
              Prog.lift (.enqueueDma (arg2.slice (Rect.unit (s := S107520x128) (k0_off10 i t) S128x128.size (k0_off10_inb i t h h')) (fun _ => rfl)) (.here arg6)
                (.dma arg11.sem) (View.wordExact_bits rfl) harg6.wordExact ⟨Or.inl rfl, trivial⟩)
              Prog.lift (.enqueueDma (arg3.slice (Rect.unit (s := S6720x128) (k0_off11 i t) S16x128.size (k0_off11_inb i t h h')) (fun _ => rfl)) (.here arg8)
                (.dma arg13.sem) (View.wordExact_bits rfl) harg8.wordExact ⟨Or.inl rfl, trivial⟩)
              k
            else k
          else k) Q) := by
  have h₁ := cond3_iff i t
  have h₂ := cond4_iff i t
  have hb : 0 < arg6.view.dmaCredit := View.dmaCredit_pos _ (by decide)
  have hd : 0 < arg8.view.dmaCredit := View.dmaCredit_pos _ (by decide)
  unfold Slot
  by_cases h : k0_cond3 i t = 1#1
  · rw [dif_pos h, if_pos (h₁.mp h)]
    unfold Busy
    iintro ⟨#Hlev, ⟨Hf, Hg⟩, Ha, HO⟩ Hk
    iapply (await hO) $$ [Hf HO]
    · isplitr; · iexact Hlev
      isplitl [Hf]; · iexact Hf
      iexact HO
    iintro ⟨Hv, Hb, Hs, HO⟩
    iapply (await hO) $$ [Hg HO]
    · isplitr; · iexact Hlev
      isplitl [Hg]; · iexact Hg
      iexact HO
    iintro ⟨Hc, Hd, Hr, HO⟩
    iapply (Keeps.use (I := iprop(Any (arg5.view.loc (tv d i)) ∗ Any (arg6.view.loc (tv d i)) ∗ Any (arg8.view.loc (tv d i)) ∗ emp))
      (Keeps.for fun j x => (t3_keeps (k0_t2 := t) (k0_h3 := h) (k0_t3 := j) (x := x) (hA := has₁ ..) (hV := has₂ ..) (hC := has₃ ..) (hv := hv) ..))) $$ [Ha Hb Hd]
    · isplitl [Ha]; · iexact Ha
      isplitl [Hb]; · iexact Hb
      isplitl [Hd]; · iexact Hd
      iempintro
    iintro %x ⟨Ha, Hb, Hd, -⟩
    by_cases h' : k0_cond4 i t = 1#1
    · rw [dif_pos h', if_pos (h₂.mp h')]
      iapply (fetch hb) $$ [Hv Hb Hs]
      · isplitl [Hv]; · iexact Hv
        isplitl [Hb]; · iexact Hb
        iexact Hs
      iintro Hf
      iapply (fetch hd) $$ [Hc Hd Hr]
      · isplitl [Hc]; · iexact Hc
        isplitl [Hd]; · iexact Hd
        iexact Hr
      iintro Hg
      iapply Hk
      isplitl [Hf Hg]
      · isplitl [Hf]; · iexact Hf
        iexact Hg
      isplitl [Ha]; · iexact Ha
      iexact HO
    · rw [dif_neg h', if_neg (fun e => h' (h₂.mpr e))]
      iapply Hk
      unfold Idle
      isplitr [Ha HO]
      · isplitl [Hv]; · iexact Hv
        isplitl [Hc]; · iexact Hc
        isplitl [Hb]; · iexact Hb
        isplitl [Hd]; · iexact Hd
        isplitl [Hs]; · iexact Hs
        iexact Hr
      isplitl [Ha]; · iexact Ha
      iexact HO
  · rw [dif_neg h, if_neg (fun e => h (h₁.mpr e)), if_neg (fun e => h (h₁.mpr (by omega)))]
    iintro ⟨-, H⟩ Hk
    iapply Hk; iexact H

include hv in
/-- The second slot's half of a trip. -/
theorem second_half (hO : ∀ g, O g none = 0) (t : Fin k0_t2_loop.trips) {k : Prog (TpuEff nD τ sig (Elt F) Λ₀ (tv d i).2) Unit} {Q : Unit → sProp 𝕄} :
    iprop(levAts (K (F := F)).L (K (F := F)).lev ∗ Slot (tv d i) ((i 1).val + 16 + 32 * t.val) arg2 arg3 arg7 arg9 arg12.sem arg14.sem q f g
        ∗ Any (arg5.view.loc (tv d i)) ∗ Ow (tv d i) O W)
      ⊢ iprop((Slot (tv d i) ((i 1).val + 16 + 32 * (t.val + 1)) arg2 arg3 arg7 arg9 arg12.sem arg14.sem q f g
          ∗ Any (arg5.view.loc (tv d i)) ∗ Ow (tv d i) O W -∗ wp frame (wpE (defs₀ (F := F)) 𝒱₀ (tv d i) none) Set.univ k Q)
        -∗ wp frame (wpE (defs₀ (F := F)) 𝒱₀ (tv d i) none) Set.univ
          (if h : k0_cond5 i t = 1#1 then do
            Prog.lift (.waitDma2 arg12.sem (arg2.slice (Rect.unit (s := S107520x128) (k0_off12 i t) S128x128.size (k0_off12_inb i t h)) (fun _ => rfl)) arg7
              (View.wordExact_bits rfl) harg7.wordExact)
            Prog.lift (.waitDma2 arg14.sem (arg3.slice (Rect.unit (s := S6720x128) (k0_off13 i t) S16x128.size (k0_off13_inb i t h)) (fun _ => rfl)) arg9
              (View.wordExact_bits rfl) harg9.wordExact)
            Scf.Loop.for k0_t4_loop (k0_t4_ok i t h) ⟨⟩ (k0_t4_body i arg2 harg2 arg3 harg3 arg4 harg4 arg5 harg5 arg6 harg6 arg7 harg7 arg8 harg8 arg9 harg9 arg10 harg10 arg11 arg12 arg13 arg14 v41_r0 v29 t h)
            if h' : k0_cond6 i t = 1#1 then do
              Prog.lift (.enqueueDma (arg2.slice (Rect.unit (s := S107520x128) (k0_off16 i t) S128x128.size (k0_off16_inb i t h h')) (fun _ => rfl)) (.here arg7)
                (.dma arg12.sem) (View.wordExact_bits rfl) harg7.wordExact ⟨Or.inl rfl, trivial⟩)
              Prog.lift (.enqueueDma (arg3.slice (Rect.unit (s := S6720x128) (k0_off17 i t) S16x128.size (k0_off17_inb i t h h')) (fun _ => rfl)) (.here arg9)
                (.dma arg14.sem) (View.wordExact_bits rfl) harg9.wordExact ⟨Or.inl rfl, trivial⟩)
              k
            else k
          else k) Q) := by
  have h₁ := cond5_iff i t
  have h₂ := cond6_iff i t
  have hb : 0 < arg7.view.dmaCredit := View.dmaCredit_pos _ (by decide)
  have hd : 0 < arg9.view.dmaCredit := View.dmaCredit_pos _ (by decide)
  unfold Slot
  by_cases h : k0_cond5 i t = 1#1
  · rw [dif_pos h, if_pos (h₁.mp h)]
    unfold Busy
    iintro ⟨#Hlev, ⟨Hf, Hg⟩, Ha, HO⟩ Hk
    iapply (await hO) $$ [Hf HO]
    · isplitr; · iexact Hlev
      isplitl [Hf]; · iexact Hf
      iexact HO
    iintro ⟨Hv, Hb, Hs, HO⟩
    iapply (await hO) $$ [Hg HO]
    · isplitr; · iexact Hlev
      isplitl [Hg]; · iexact Hg
      iexact HO
    iintro ⟨Hc, Hd, Hr, HO⟩
    iapply (Keeps.use (I := iprop(Any (arg5.view.loc (tv d i)) ∗ Any (arg7.view.loc (tv d i)) ∗ Any (arg9.view.loc (tv d i)) ∗ emp))
      (Keeps.for fun j x => (t4_keeps (k0_t2 := t) (k0_h5 := h) (k0_t4 := j) (x := x) (hA := has₁ ..) (hV := has₂ ..) (hC := has₃ ..) (hv := hv) ..))) $$ [Ha Hb Hd]
    · isplitl [Ha]; · iexact Ha
      isplitl [Hb]; · iexact Hb
      isplitl [Hd]; · iexact Hd
      iempintro
    iintro %x ⟨Ha, Hb, Hd, -⟩
    by_cases h' : k0_cond6 i t = 1#1
    · rw [dif_pos h', if_pos (h₂.mp h')]
      iapply (fetch hb) $$ [Hv Hb Hs]
      · isplitl [Hv]; · iexact Hv
        isplitl [Hb]; · iexact Hb
        iexact Hs
      iintro Hf
      iapply (fetch hd) $$ [Hc Hd Hr]
      · isplitl [Hc]; · iexact Hc
        isplitl [Hd]; · iexact Hd
        iexact Hr
      iintro Hg
      iapply Hk
      isplitl [Hf Hg]
      · isplitl [Hf]; · iexact Hf
        iexact Hg
      isplitl [Ha]; · iexact Ha
      iexact HO
    · rw [dif_neg h', if_neg (fun e => h' (h₂.mpr e))]
      iapply Hk
      unfold Idle
      isplitr [Ha HO]
      · isplitl [Hv]; · iexact Hv
        isplitl [Hc]; · iexact Hc
        isplitl [Hb]; · iexact Hb
        isplitl [Hd]; · iexact Hd
        isplitl [Hs]; · iexact Hs
        iexact Hr
      isplitl [Ha]; · iexact Ha
      iexact HO
  · rw [dif_neg h, if_neg (fun e => h (h₁.mpr e)), if_neg (fun e => h (h₁.mpr (by omega)))]
    iintro ⟨-, H⟩ Hk
    iapply Hk; iexact H

end Tile

end Cert.Proof.BinCall

end
-- ==== Proof.BinBody.lean ====
/-
  The histogram call: the tile's whole run, from its two slots idle to both idle again, its slice of the result written.
-/
module

public import proofs.«01_k».proof.Proof.BinTile

@[expose] public section

set_option maxHeartbeats 2000000

noncomputable section

namespace Cert.Proof.BinCall

open Cert.Bin Cert.Bin.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay tileRest ownBufs ownSems0 ownCells ownRefs mem_ownCells mem_ownRefs)
open Idealize.ShloMosaic.Rounds
open Idealize.ShloMosaic.Tactic

variable {F : FTy → Type} [FloatOps F]

local notation "𝕄" => MT nD τ sig (HIx 1) (Elt F) ℕ UU ℕ

section Body

variable (d : Dev nD) (i : grid0.Coords) (arg2 : Memref sig .scVector .hbm S107520x128 .f32) (harg2 : arg2.IsWhole) (arg3 : Memref sig .scVector .hbm S6720x128 .i32) (harg3 : arg3.IsWhole)
  (arg4 : Memref sig .scVector .hbm S2x16x2048 .f32) (harg4 : arg4.IsWhole) (arg5 : Memref sig .scVector .vmem S32768 .f32) (harg5 : arg5.IsWhole)
  (arg6 : Memref sig .scVector .vmem S128x128 .f32) (harg6 : arg6.IsWhole) (arg7 : Memref sig .scVector .vmem S128x128 .f32) (harg7 : arg7.IsWhole)
  (arg8 : Memref sig .scVector .vmem S16x128 .i32) (harg8 : arg8.IsWhole) (arg9 : Memref sig .scVector .vmem S16x128 .i32) (harg9 : arg9.IsWhole)
  (arg10 : Memref sig .scVector .vmem S2048 .f32) (harg10 : arg10.IsWhole) (arg11 arg12 arg13 arg14 v41_r0 : DmaSems sig S_)

variable (v29 : IVec S16 32) (hv : ∀ x, (v29 x).toNat < 16) (q q' : PosShare TreeShare) (f : Buf (Elt F) (arg2.view.loc (tv d i)))
  (g : Buf (Elt F) (arg3.view.loc (tv d i))) (O : CellTallies nD τ sig (HIx 1)) (W : Waits sig (HIx 1))

/-- What a tile holds before a trip of its main loop. -/
def Inv (n : ℕ) : sProp 𝕄 :=
  iprop(levAts (K (F := F)).L (K (F := F)).lev ∗ Slot (tv d i) ((i 1).val + 32 * n) arg2 arg3 arg6 arg8 arg11.sem arg13.sem q f g
    ∗ Slot (tv d i) ((i 1).val + 16 + 32 * n) arg2 arg3 arg7 arg9 arg12.sem arg14.sem q' f g
    ∗ Any (arg5.view.loc (tv d i)) ∗ Ow (tv d i) O W)

include hv in
theorem trip (hO : ∀ g, O g none = 0) (t : Fin k0_t2_loop.trips) (x : Unit) :
    Inv d i arg2 arg3 arg5 arg6 arg7 arg8 arg9 arg11 arg12 arg13 arg14 q q' f g O W t.val
      ⊢ wp frame (wpE (defs₀ (F := F)) 𝒱₀ (tv d i) none) Set.univ (k0_t2_body i arg2 harg2 arg3 harg3 arg4 harg4 arg5 harg5 arg6 harg6 arg7 harg7 arg8 harg8 arg9 harg9 arg10 harg10 arg11 arg12 arg13 arg14 v41_r0 v29 t x)
        fun _ => Inv d i arg2 arg3 arg5 arg6 arg7 arg8 arg9 arg11 arg12 arg13 arg14 q q' f g O W (t.val + 1) := by
  unfold Inv k0_t2_body
  iintro ⟨#Hlev, H0, H1, Ha, HO⟩
  iapply (first_half d i arg2 harg2 arg3 harg3 arg4 harg4 arg5 harg5 arg6 harg6 arg7 harg7 arg8 harg8 arg9 harg9 arg10 harg10 arg11 arg12 arg13 arg14 v41_r0 v29 hv q f g O W hO t) $$ [H0 Ha HO]
  · isplitr; · iexact Hlev
    isplitl [H0]; · iexact H0
    isplitl [Ha]; · iexact Ha
    iexact HO
  iintro ⟨H0, Ha, HO⟩
  iapply (second_half d i arg2 harg2 arg3 harg3 arg4 harg4 arg5 harg5 arg6 harg6 arg7 harg7 arg8 harg8 arg9 harg9 arg10 harg10 arg11 arg12 arg13 arg14 v41_r0 v29 hv q' f g O W hO t) $$ [H1 Ha HO]
  · isplitr; · iexact Hlev
    isplitl [H1]; · iexact H1
    isplitl [Ha]; · iexact Ha
    iexact HO
  iintro ⟨H1, Ha, HO⟩
  rw [wp_pure]
  imodintro
  isplitr; · iexact Hlev
  isplitl [H0]; · iexact H0
  isplitl [H1]; · iexact H1
  isplitl [Ha]; · iexact Ha
  iexact HO

theorem iota_lt : ∀ j, (iota .scVector S16 32 [0] iota_S16_d0_w32_scVector j).toNat < 16 := by decide

theorem start : Idle (tv d i) arg2 arg3 arg6 arg8 arg11.sem arg13.sem q f g
      ⊢ wp frame (wpE (defs₀ (F := F)) 𝒱₀ (tv d i) none) Set.univ (k0_part14 i arg2 harg2 arg3 harg3 arg4 harg4 arg5 harg5 arg6 harg6 arg7 harg7 arg8 harg8 arg9 harg9 arg10 harg10 arg11 arg12 arg13 arg14 v41_r0)
        fun x => iprop(⌜∀ j, (x.2.2.1 j).toNat < 16⌝ ∗ Busy (tv d i) arg2 arg3 arg6 arg8 arg11.sem arg13.sem q f g) := by
  have hb : 0 < arg6.view.dmaCredit := View.dmaCredit_pos _ (by decide)
  have hd : 0 < arg8.view.dmaCredit := View.dmaCredit_pos _ (by decide)
  rw [k0_part14_eq_skeleton]
  unfold k0_part14_skel Idle Busy
  rw [dif_pos (cond1_of i)]
  iintro ⟨Hv, Hc, Hb, Hd, Hs, Hr⟩
  iapply (fetch hb) $$ [Hv Hb Hs]
  · isplitl [Hv]; · iexact Hv
    isplitl [Hb]; · iexact Hb
    iexact Hs
  iintro Hf
  iapply (fetch hd) $$ [Hc Hd Hr]
  · isplitl [Hc]; · iexact Hc
    isplitl [Hd]; · iexact Hd
    iexact Hr
  iintro Hg
  rw [wp_pure]
  imodintro
  isplitr
  · ipureintro
    exact iota_lt
  isplitl [Hf]; · iexact Hf
  iexact Hg

/-- The tile's slice of the result, as the kernel names it. -/
abbrev outS (i : grid0.Coords) (arg4 : Memref sig .scVector .hbm S2x16x2048 .f32) : Memref sig .scVector .hbm S2048 .f32 :=
  (arg4.slice (Rect.unit (s := S2x16x2048) (k0_off19 i) S1x1x2048.size (k0_off19_inb i)) (fun _ => rfl)).squeeze S2048 squeezes_S1x1x2048_S2048

theorem run (hO : ∀ g, O g none = 0) :
    iprop(levAts (K (F := F)).L (K (F := F)).lev ∗ Idle (tv d i) arg2 arg3 arg6 arg8 arg11.sem arg13.sem q f g
        ∗ Idle (tv d i) arg2 arg3 arg7 arg9 arg12.sem arg14.sem q' f g ∗ Any (arg5.view.loc (tv d i)) ∗ Any (arg10.view.loc (tv d i))
        ∗ (∃ r, (outS i arg4).view.loc (tv d i) ↦[(outS i arg4).view.set]{fullShare} r) ∗ semVal (tv d i, .dma v41_r0.sem) 0 ∗ Ow (tv d i) O W)
      ⊢ wp frame (wpE (defs₀ (F := F)) 𝒱₀ (tv d i) none) Set.univ (cc0_bin_dw i arg2 harg2 arg3 harg3 arg4 harg4 arg5 harg5 arg6 harg6 arg7 harg7 arg8 harg8 arg9 harg9 arg10 harg10 arg11 arg12 arg13 arg14 v41_r0)
        fun _ => iprop(Idle (tv d i) arg2 arg3 arg6 arg8 arg11.sem arg13.sem q f g
        ∗ Idle (tv d i) arg2 arg3 arg7 arg9 arg12.sem arg14.sem q' f g ∗ Any (arg5.view.loc (tv d i)) ∗ Any (arg10.view.loc (tv d i))
        ∗ (∃ r, (outS i arg4).view.loc (tv d i) ↦[(outS i arg4).view.set]{fullShare} r) ∗ semVal (tv d i, .dma v41_r0.sem) 0 ∗ Ow (tv d i) O W) := by
  have hb : 0 < arg7.view.dmaCredit := View.dmaCredit_pos _ (by decide)
  have hd : 0 < arg9.view.dmaCredit := View.dmaCredit_pos _ (by decide)
  have hn : 0 < (outS i arg4).view.dmaCredit := View.dmaCredit_pos _ (by decide)
  have h16 : (i 1).val < 16 := (i 1).isLt
  rw [cc0_bin_dw_eq_skeleton]
  unfold cc0_bin_dw_skel
  rw [wp_bind]
  iintro ⟨#Hlev, H0, H1, Ha, Hp, Hout, Hsem, HO⟩
  iapply (wp_wand_r frame _ _)
  isplitl [H0]; · iapply (start d i arg2 harg2 arg3 harg3 arg4 harg4 arg5 harg5 arg6 harg6 arg7 harg7 arg8 harg8 arg9 harg9 arg10 harg10 arg11 arg12 arg13 arg14 v41_r0 q f g); iexact H0
  iintro %x ⟨%hv, H0⟩
  rcases x with ⟨v11, v28, v29, v36, z⟩
  have hv : ∀ j, (v29 j).toNat < 16 := hv
  dsimp only
  rw [dif_pos (cond2_of i)]
  unfold Idle
  icases H1 with ⟨Hv, Hc, Hb, Hd, Hs, Hr⟩
  iapply (fetch hb) $$ [Hv Hb Hs]
  · isplitl [Hv]; · iexact Hv
    isplitl [Hb]; · iexact Hb
    iexact Hs
  iintro Hf
  iapply (fetch hd) $$ [Hc Hd Hr]
  · isplitl [Hc]; · iexact Hc
    isplitl [Hd]; · iexact Hd
    iexact Hr
  iintro Hg
  iapply (Keeps.use (I := iprop(Any (arg5.view.loc (tv d i)) ∗ emp)) (Keeps.for fun j x => t1_keeps (k0_t1 := j) (x := x) (hA := has₁ ..) ..)) $$ [Ha]
  · isplitl [Ha]; · iexact Ha
    iempintro
  iintro %x ⟨Ha, -⟩
  iapply (Scf.wp_for_bind _ _ _ k0_t2_loop.lb k0_t2_loop.ub k0_t2_loop.st k0_t2_ok () _
    (fun n _ => Inv d i arg2 arg3 arg5 arg6 arg7 arg8 arg9 arg11 arg12 arg13 arg14 q q' f g O W n)
    (fun t x => trip d i arg2 harg2 arg3 harg3 arg4 harg4 arg5 harg5 arg6 harg6 arg7 harg7 arg8 harg8 arg9 harg9 arg10 harg10 arg11 arg12 arg13 arg14 v41_r0 v29 hv q q' f g O W hO t x)) $$ [H0 Hf Hg Ha HO]
  · unfold Inv Slot
    rw [if_pos (by omega), if_pos (by omega)]
    isplitr; · iexact Hlev
    isplitl [H0]; · iexact H0
    isplitl [Hf Hg]
    · unfold Busy
      isplitl [Hf]; · iexact Hf
      iexact Hg
    isplitl [Ha]; · iexact Ha
    iexact HO
  iintro %x H
  have h14 : Scf.trips k0_t2_loop.lb k0_t2_loop.ub k0_t2_loop.st = 14 := trips_t2
  rw [h14]
  unfold Inv Slot
  rw [if_neg (by omega), if_neg (by omega)]
  icases H with ⟨-, H0, H1, Ha, HO⟩
  iapply (Keeps.use (I := iprop(Any (arg5.view.loc (tv d i)) ∗ Any (arg10.view.loc (tv d i)) ∗ emp))
    (Keeps.for fun j x => t5_keeps (k0_t5 := j) (x := x) (hA := has₁ ..) (hP := has₂ ..) (hv := hv) ..)) $$ [Ha Hp]
  · isplitl [Ha]; · iexact Ha
    isplitl [Hp]; · iexact Hp
    iempintro
  iintro %x ⟨Ha, Hp, -⟩
  iapply (copyOut (c := tv d i) (src := arg10) (dst := outS i arg4) (srcw := arg10) (dstw := outS i arg4) hO hn rfl) $$ [Hp Hout Hsem HO]
  · isplitr; · iexact Hlev
    isplitl [Hp]; · iexact Hp
    isplitl [Hout]; · iexact Hout
    isplitl [Hsem]; · iexact Hsem
    iexact HO
  iintro ⟨Hp, Hout, Hsem, HO⟩
  rw [wp_pure]
  imodintro
  unfold Idle
  isplitl [H0]; · iexact H0
  isplitl [H1]; · iexact H1
  isplitl [Ha]; · iexact Ha
  isplitl [Hp]; · iexact Hp
  isplitl [Hout]; · iexact Hout
  isplitl [Hsem]; · iexact Hsem
  iexact HO

end Body

end Cert.Proof.BinCall

end
-- ==== Proof.BinFrame.lean ====
/-
  The histogram call: the launch. Each of the 32 tiles is given a share of the two arguments and its own slice of the
  result, and gives them back, the slice at some contents. From any memory the call runs, keeps its two arguments and
  leaves every semaphore at zero.
-/
module

public import proofs.«01_k».proof.Proof.BinBody

@[expose] public section

set_option maxHeartbeats 2000000

noncomputable section

namespace Cert.Proof.BinCall

open Cert.Bin Cert.Bin.Gen

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx Pay tileRest ownBufs ownSems0 ownCells ownRefs mem_ownCells mem_ownRefs)
open Idealize.ShloMosaic.Rounds
open Idealize.ShloMosaic.Tactic

variable {F : FTy → Type} [FloatOps F]

local notation "𝕄" => MT nD τ sig (HIx 1) (Elt F) ℕ UU ℕ

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg1
abbrev oLoc (d : Dev nD) : Loc nD τ sig := (SparseCore.T d).loc main_v0

def coordsV (c : Fin (grid0.bound 0)) (s : Fin (grid0.bound 1)) : grid0.Coords :=
  fun | 0 => c | 1 => s | ⟨_ + 2, h⟩ => absurd h (Nat.not_lt.2 (Nat.le_add_left _ _))

/-! ## The slices of the result -/

def outSet (i : grid0.Coords) : Finset S2x16x2048.Idx := (outS i (Memref.whole main_v0_scv)).view.set

theorem off19_eq : ∀ i : grid0.Coords, k0_off19 i = ![(i 0).val, (i 1).val, 0] := by decide +kernel

theorem mem_outSet (i : grid0.Coords) (x : S2x16x2048.Idx) (h : x ∈ outSet i) : (x 0).val = (i 0).val ∧ (x 1).val = (i 1).val := by
  unfold outSet outS at h
  have h' : x ∈ (Rect.unit (s := S2x16x2048) (k0_off19 i) S1x1x2048.size (k0_off19_inb i)).set := by
    rw [← View.set_slice_whole main_v0_scv, ← View.set_reshape _ squeezes_S1x1x2048_S2048.numel_eq]
    exact h
  rw [Rect.mem_set_unit] at h'
  have h0 := h' 0
  have h1 := h' 1
  rw [off19_eq] at h0 h1
  have e0 : S1x1x2048.size 0 = 1 := rfl
  have e1 : S1x1x2048.size 1 = 1 := rfl
  rw [e0] at h0
  rw [e1] at h1
  have z0 : (![(i 0).val, (i 1).val, 0] : Fin 3 → ℕ) 0 = (i 0).val := rfl
  have z1 : (![(i 0).val, (i 1).val, 0] : Fin 3 → ℕ) 1 = (i 1).val := rfl
  have h0' : (i 0).val ≤ (x 0).val ∧ (x 0).val < (i 0).val + 1 := h0
  have h1' : (i 1).val ≤ (x 1).val ∧ (x 1).val < (i 1).val + 1 := h1
  omega

abbrev tileSet (c : Fin 2) (s : Fin 16) : Finset S2x16x2048.Idx := outSet (coordsV c s)
def coreSet (c : Fin 2) : Finset S2x16x2048.Idx := Finset.univ.biUnion (tileSet c)

theorem tiles_disjoint (c : Fin 2) : ∀ s ∈ (Finset.univ : Finset (Fin 16)), ∀ s' ∈ (Finset.univ : Finset (Fin 16)), s ≠ s' → Disjoint (tileSet c s) (tileSet c s') :=
  fun s _ s' _ h => Finset.disjoint_left.mpr fun x hx hx' =>
    h (Fin.ext ((mem_outSet _ x hx).2.symm.trans (mem_outSet _ x hx').2))

theorem cores_disjoint : ∀ c ∈ (Finset.univ : Finset (Fin 2)), ∀ c' ∈ (Finset.univ : Finset (Fin 2)), c ≠ c' → Disjoint (coreSet c) (coreSet c') :=
  fun c _ c' _ h => Finset.disjoint_left.mpr fun x hx hx' => by
    obtain ⟨s, -, hs⟩ := Finset.mem_biUnion.mp hx
    obtain ⟨s', -, hs'⟩ := Finset.mem_biUnion.mp hx'
    exact h (Fin.ext ((mem_outSet _ x hs).1.symm.trans (mem_outSet _ x hs').1))

/-! ## What the call takes and brings back -/

abbrev coreSh (c : Fin 2) : PosShare TreeShare := Transfers.shareTok fullShare 2 c
abbrev tileSh (c : Fin 2) (s : Fin 16) : PosShare TreeShare := Transfers.shareTok (coreSh c) 16 s

abbrev oTile (d : Dev nD) (c : Fin 2) (s : Fin 16) : sProp 𝕄 := iprop(∃ f : Buf (Elt F) (oLoc d), oLoc d ↦[tileSet c s]{fullShare} f)
def CoreRes (d : Dev nD) (c : Fin 2) : sProp 𝕄 :=
  iprop((aLoc d ↦{coreSh c} m (aLoc d)) ∗ (bLoc d ↦{coreSh c} m (bLoc d)) ∗ bigSep Finset.univ fun s : Fin 16 => oTile d c s)
def TileRes (d : Dev nD) (c : Fin 2) (s : Fin 16) : sProp 𝕄 :=
  iprop((aLoc d ↦{tileSh c s} m (aLoc d)) ∗ (bLoc d ↦{tileSh c s} m (bLoc d)) ∗ oTile d c s)

instance (d : Dev nD) (c : Fin 2) : BI.Storable (upEmb : UEmb _ 𝕄) (CoreRes m d c) := by unfold CoreRes; infer_instance
instance (d : Dev nD) (c : Fin 2) (s : Fin 16) : BI.Storable (upEmb : UEmb _ 𝕄) (TileRes m d c s) := by unfold TileRes; infer_instance

def P : (K (F := F)).Pay (nD := nD) (Val := Elt F) (Name := ℕ) (U := UU) where
  st := fun q d c => match q with | 0 => CoreRes m d (Fin.cast nCore_zero c)
  dn := fun q d c => match q with | 0 => CoreRes m d (Fin.cast nCore_zero c)
  go := fun q d c i => match q with | 0 => TileRes m d (Fin.cast nCore_zero c) (Fin.cast nSub_zero i)
  td := fun q d c i => match q with | 0 => TileRes m d (Fin.cast nCore_zero c) (Fin.cast nSub_zero i)
  x := fun _ _ => iprop(emp)

instance P_storable : (P (F := F) m).IsStorable where
  st q d c := match q with | 0 => (inferInstance : BI.Storable (upEmb : UEmb _ 𝕄) (CoreRes m d (Fin.cast nCore_zero c)))
  dn q d c := match q with | 0 => (inferInstance : BI.Storable (upEmb : UEmb _ 𝕄) (CoreRes m d (Fin.cast nCore_zero c)))
  go q d c i := match q with
    | 0 => (inferInstance : BI.Storable (upEmb : UEmb _ 𝕄) (TileRes m d (Fin.cast nCore_zero c) (Fin.cast nSub_zero i)))
  td q d c i := match q with
    | 0 => (inferInstance : BI.Storable (upEmb : UEmb _ 𝕄) (TileRes m d (Fin.cast nCore_zero c) (Fin.cast nSub_zero i)))

/-! ## A tile's own buffers and semaphores -/

section Own

variable (d : Dev nD) (i : grid0.Coords)

abbrev scratch : Finset (Ref sig .scVector) := {cc0_scratch0, cc0_scratch1, cc0_scratch2, cc0_scratch3, cc0_scratch4, cc0_scratch5}
abbrev sems : Finset (SemLoc sig) :=
  {.dma cc0_scratch6.sem, .dma cc0_scratch7.sem, .dma cc0_scratch8.sem, .dma cc0_scratch9.sem, .dma cc0_scoped0.sem}

theorem scratch_eq (Φ : Ref sig .scVector → sProp 𝕄) :
    bigSep scratch Φ = iprop(Φ cc0_scratch0 ∗ Φ cc0_scratch1 ∗ Φ cc0_scratch2 ∗ Φ cc0_scratch3 ∗ Φ cc0_scratch4 ∗ Φ cc0_scratch5) := by
  rw [SparseCore.bigSep_insert' (by decide), SparseCore.bigSep_insert' (by decide), SparseCore.bigSep_insert' (by decide),
    SparseCore.bigSep_insert' (by decide), SparseCore.bigSep_insert' (by decide), bigSep_singleton]

theorem ownBufs_eq :
    (ownBufs (tv d i) : sProp 𝕄)
      = iprop((Any ((tv d i).loc cc0_scratch0) ∗ Any ((tv d i).loc cc0_scratch1) ∗ Any ((tv d i).loc cc0_scratch2)
          ∗ Any ((tv d i).loc cc0_scratch3) ∗ Any ((tv d i).loc cc0_scratch4) ∗ Any ((tv d i).loc cc0_scratch5))
          ∗ bigSep (ownRefs (τ := τ) (tv d i).2 \ scratch.image (tv d i).2.devRef) fun b => Any ((d, b) : Loc nD τ sig)) := by
  unfold SparseCore.Cfg.ownBufs
  have hsub : scratch.image (tv d i).2.devRef ⊆ ownRefs (τ := τ) (tv d i).2 := by
    intro b hb
    obtain ⟨r, hr, rfl⟩ := Finset.mem_image.mp hb
    refine SparseCore.Cfg.mem_ownRefs_of_owner ?_
    simp only [scratch, Finset.mem_insert, Finset.mem_singleton] at hr
    rcases hr with rfl | rfl | rfl | rfl | rfl | rfl <;> rfl
  refine (SparseCore.bigSep_sdiff_split' hsub).trans ?_
  rw [SparseCore.bigSep_image_of_injOn (fun _ _ _ _ e => Proc.devRef_injective _ e)]
  exact congrArg (fun X : sProp 𝕄 => iprop(X ∗ _)) (scratch_eq _)

theorem ownSems_eq :
    (ownSems0 (tv d i) : sProp 𝕄)
      = iprop((semVal (tv d i, .dma cc0_scratch6.sem) 0 ∗ semVal (tv d i, .dma cc0_scratch7.sem) 0 ∗ semVal (tv d i, .dma cc0_scratch8.sem) 0
          ∗ semVal (tv d i, .dma cc0_scratch9.sem) 0 ∗ semVal (tv d i, .dma cc0_scoped0.sem) 0)
          ∗ bigSep (ownCells (tv d i) \ sems.image fun s => ((tv d i, s) : GSem nD τ sig)) fun g => semVal g 0) := by
  unfold SparseCore.Cfg.ownSems0
  have hsub : (sems.image fun s => ((tv d i, s) : GSem nD τ sig)) ⊆ ownCells (tv d i) := by
    intro g hg
    obtain ⟨r, hr, rfl⟩ := Finset.mem_image.mp hg
    refine mem_ownCells.mpr ⟨rfl, ?_⟩
    have key : ∀ r ∈ sems, r.isScoped .scVector = true := by decide
    exact key r hr
  refine (SparseCore.bigSep_sdiff_split' hsub).trans ?_
  rw [SparseCore.bigSep_image_of_injOn (fun _ _ _ _ e => (Prod.mk.inj e).2), SparseCore.bigSep_insert' (by decide), SparseCore.bigSep_insert' (by decide),
    SparseCore.bigSep_insert' (by decide), SparseCore.bigSep_insert' (by decide), bigSep_singleton]

end Own

/-! ## The launch theorem's obligations -/

theorem tile_body (d : Dev nD) (c : Fin 2) (s : Fin 16) (O : CellTallies nD τ sig (HIx 1)) (W : Waits sig (HIx 1)) (hO : ∀ g, O g none = 0) :
    iprop(levAts (K (F := F)).L (K (F := F)).lev ∗ emp ∗ TileRes m d c s
        ∗ scopedBufs (tv d (coordsV c s)) ∗ scopedSems0 (tv d (coordsV c s)) ∗ owes (tv d (coordsV c s)) O W)
      ⊢ wp frame (wpE (defs₀ (F := F)) 𝒱₀ (tv d (coordsV c s)) none) Set.univ
          (cc0_bin_dw (coordsV c s) (Memref.whole main_arg0_scv) (Memref.isWhole_whole _) (Memref.whole main_arg1_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0)
          fun _ => iprop(TileRes m d c s ∗ scopedBufs (tv d (coordsV c s)) ∗ scopedSems0 (tv d (coordsV c s))
            ∗ ∃ W', ⌜∀ p ∈ W', p ∈ W ∨ p.2 = none ∨ p.2 = some (0 : Fin 1)⌝ ∗ owes (tv d (coordsV c s)) O W') := by
  rw [(K (F := F)).scopedBufs_V facts d _ _, SparseCore.Cfg.scopedSems0_V (Val := Elt F) d _ _, ownSems_eq, ownBufs_eq]
  unfold TileRes
  have ha : (aLoc d ↦{tileSh c s} m (aLoc d) : sProp 𝕄) ⊣⊢ _ := pointsTo_share (PosShare.mem_left_op_right (tileSh c s))
  have hb : (bLoc d ↦{tileSh c s} m (bLoc d) : sProp 𝕄) ⊣⊢ _ := pointsTo_share (PosShare.mem_left_op_right (tileSh c s))
  iintro ⟨#Hlev, -, ⟨Ha, Hb, Ho⟩, ⟨⟨B0, B1, B2, B3, B4, B5⟩, Bs⟩, ⟨⟨S6, S7, S8, S9, S10⟩, Ss⟩, HO⟩
  ihave Ha := ha.1 $$ Ha
  ihave Hb := hb.1 $$ Hb
  icases Ha with ⟨Ha, Ha'⟩
  icases Hb with ⟨Hb, Hb'⟩
  iapply (wp_wand_r frame _ _)
  isplitl [Ha Ha' Hb Hb' Ho B0 B1 B2 B3 B4 B5 S6 S7 S8 S9 S10 HO]
  · iapply (run d (coordsV c s) (Memref.whole main_arg0_scv) (Memref.isWhole_whole _) (Memref.whole main_arg1_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0
      (tileSh c s).left (tileSh c s).right (m (aLoc d)) (m (bLoc d)) O W hO)
    isplitr; · iexact Hlev
    unfold Idle
    isplitl [Ha Hb B1 B3 S6 S8]
    · isplitl [Ha]; · iexact Ha
      isplitl [Hb]; · iexact Hb
      isplitl [B1]; · iexact B1
      isplitl [B3]; · iexact B3
      isplitl [S6]; · iexact S6
      iexact S8
    isplitl [Ha' Hb' B2 B4 S7 S9]
    · isplitl [Ha']; · iexact Ha'
      isplitl [Hb']; · iexact Hb'
      isplitl [B2]; · iexact B2
      isplitl [B4]; · iexact B4
      isplitl [S7]; · iexact S7
      iexact S9
    isplitl [B0]; · iexact B0
    isplitl [B5]; · iexact B5
    isplitl [Ho]; · iexact Ho
    isplitl [S10]; · iexact S10
    unfold Ow
    iexists W
    isplitr
    · ipureintro; exact fun p hp => .inl hp
    iexact HO
  unfold Idle Ow
  iintro %_ ⟨⟨Ha, Hb, B1, B3, S6, S8⟩, ⟨Ha', Hb', B2, B4, S7, S9⟩, B0, B5, Ho, S10, ⟨%W', %hW, HO⟩⟩
  isplitl [Ha Ha' Hb Hb' Ho]
  · isplitl [Ha Ha']
    · iapply ha.2
      isplitl [Ha]; · iexact Ha
      iexact Ha'
    isplitl [Hb Hb']
    · iapply hb.2
      isplitl [Hb]; · iexact Hb
      iexact Hb'
    iexact Ho
  isplitl [B0 B1 B2 B3 B4 B5 Bs]
  · isplitr [Bs]
    · isplitl [B0]; · iexact B0
      isplitl [B1]; · iexact B1
      isplitl [B2]; · iexact B2
      isplitl [B3]; · iexact B3
      isplitl [B4]; · iexact B4
      iexact B5
    iexact Bs
  isplitr [HO]
  · isplitr [Ss]
    · isplitl [S6]; · iexact S6
      isplitl [S7]; · iexact S7
      isplitl [S8]; · iexact S8
      isplitl [S9]; · iexact S9
      iexact S10
    iexact Ss
  iexists W'
  isplitr
  · ipureintro; exact fun p hp => (hW p hp).imp_right Or.inl
  iexact HO

theorem defs₀_vector (c : Fin τ.nSC) (s : Fin τ.nSub) :
    defs₀ (F := F) (.scVector c s) 0 ()
      = SparseCore.onTile hcore0 hsub0 (fun c s => cc0_bin_dw (coordsV c s) (Memref.whole main_arg0_scv) (Memref.isWhole_whole _) (Memref.whole main_arg1_scv) (Memref.isWhole_whole _) (Memref.whole main_v0_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0) ⟨⟩ c s := rfl

set_option maxRecDepth 1024 in
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body m d (Fin.cast nCore_zero c) (Fin.cast nSub_zero i) O W hO

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem core_split (d : Dev nD) (c : Fin 2) :
    CoreRes m d c ⊢ iprop((bigSep Finset.univ fun s : Fin 16 => TileRes m d c s) ∗ ((bigSep Finset.univ fun s : Fin 16 => TileRes m d c s) -∗ CoreRes m d c)) := by
  unfold CoreRes TileRes
  rw [bigSep_sep', bigSep_sep']
  iintro ⟨Ha, Hb, Ho⟩
  ihave Ha := (Transfers.pointsTo_toks_split (coreSh c) 16) $$ Ha
  ihave Hb := (Transfers.pointsTo_toks_split (coreSh c) 16) $$ Hb
  icases Ha with ⟨Ha', Ha⟩
  icases Hb with ⟨Hb', Hb⟩
  isplitl [Ha Hb Ho]
  · isplitl [Ha]; · iexact Ha
    isplitl [Hb]; · iexact Hb
    iexact Ho
  iintro ⟨Ha, Hb, Ho⟩
  isplitl [Ha Ha']
  · iapply (Transfers.pointsTo_toks_join (coreSh c) 16)
    isplitl [Ha']; · iexact Ha'
    iexact Ha
  isplitl [Hb Hb']
  · iapply (Transfers.pointsTo_toks_join (coreSh c) 16)
    isplitl [Hb']; · iexact Hb'
    iexact Hb
  iexact Ho

theorem vecSplit : (K (F := F)).VecSplit' (P m) 0 := by
  intro d c
  show CoreRes m d (Fin.cast nCore_zero c) ⊢ |={Set.univ}=> iprop(
      (bigSep Finset.univ fun i : Fin ((K (F := F)).nSub 0) => TileRes m d (Fin.cast nCore_zero c) (Fin.cast nSub_zero i))
      ∗ ((bigSep Finset.univ fun i : Fin ((K (F := F)).nSub 0) => TileRes m d (Fin.cast nCore_zero c) (Fin.cast nSub_zero i))
          -∗ CoreRes m d (Fin.cast nCore_zero c)))
  rw [bigSep_tasks (F := F) (fun s => TileRes m d (Fin.cast nCore_zero c) s)]
  iintro H; imodintro
  iapply (core_split m d _); iexact H

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem out_split (d : Dev nD) (f : Buf (Elt F) (oLoc d)) :
    (oLoc d ↦{fullShare} f : sProp 𝕄) ⊢ bigSep Finset.univ fun c : Fin 2 => bigSep Finset.univ fun s : Fin 16 => oTile d c s := by
  have h : (oLoc d ↦{fullShare} f : sProp 𝕄) ⊣⊢ _ := pointsTo_split_subset (Finset.subset_univ (Finset.univ.biUnion coreSet))
  refine h.1.trans (sep_elim_left.trans ?_)
  rw [pointsTo_biUnion Finset.univ (ℓ := oLoc d) coreSet cores_disjoint]
  refine bigSep_mono fun c _ => ?_
  unfold coreSet
  rw [pointsTo_biUnion Finset.univ (ℓ := oLoc d) (tileSet c) (tiles_disjoint c)]
  refine bigSep_mono fun s _ => ?_
  show (oLoc d ↦[tileSet c s]{fullShare} f : sProp 𝕄) ⊢ iprop(∃ f : Buf (Elt F) (oLoc d), oLoc d ↦[tileSet c s]{fullShare} f)
  iintro H
  iexists f; iexact H

theorem st0_eq (d : Dev nD) : (bigSep Finset.univ fun c : Fin ((K (F := F)).nCore 0) => (P m).st 0 d c)
    = iprop((bigSep Finset.univ fun c : Fin 2 => aLoc d ↦{coreSh c} m (aLoc d)) ∗ (bigSep Finset.univ fun c : Fin 2 => bLoc d ↦{coreSh c} m (bLoc d))
      ∗ bigSep Finset.univ fun c : Fin 2 => bigSep Finset.univ fun s : Fin 16 => oTile d c s) := by
  refine (bigSep_cores (F := F) (fun c => CoreRes m d c)).trans ?_
  unfold CoreRes
  rw [bigSep_sep', bigSep_sep']
theorem dn0_eq (d : Dev nD) : (bigSep Finset.univ fun c : Fin ((K (F := F)).nCore 0) => (P m).dn 0 d c)
    = iprop((bigSep Finset.univ fun c : Fin 2 => aLoc d ↦{coreSh c} m (aLoc d)) ∗ (bigSep Finset.univ fun c : Fin 2 => bLoc d ↦{coreSh c} m (bLoc d))
      ∗ bigSep Finset.univ fun c : Fin 2 => bigSep Finset.univ fun s : Fin 16 => oTile d c s) := st0_eq m d

abbrev FIN (d : Dev nD) : sProp 𝕄 := iprop((aLoc d ↦{fullShare} m (aLoc d)) ∗ bLoc d ↦{fullShare} m (bLoc d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Hx, Ho⟩, Hts, -⟩, -⟩
  ihave Hi := (Transfers.pointsTo_toks_split fullShare 2) $$ Hi
  ihave Hx := (Transfers.pointsTo_toks_split fullShare 2) $$ Hx
  icases Hi with ⟨Hi', Hi⟩
  icases Hx with ⟨Hx', Hx⟩
  iapply ((K (F := F)).wp_run (D (F := F)) 𝒱 (EH := EH) (P := P m) κ d 0) $$ [Hst Hi Hx Ho Hb Hts Hi' Hx']
  isplitr; · iexact Hctx
  isplitl [Hst]; · iexact Hst
  isplitl [Hi Hx Ho]
  · rw [st0_eq]
    isplitl [Hi]; · iexact Hi
    isplitl [Hx]; · iexact Hx
    iapply (out_split d _); iexact Ho
  iintro ⟨Hst, Hdn⟩
  ihave Hdn' := (Entails.of_eq (dn0_eq m d)) $$ Hdn
  icases Hdn' with ⟨Hi, Hx, -⟩
  imodintro
  isplitl [Hst]; · iexact Hst
  isplitr [Hb Hts]
  · isplitl [Hi Hi']
    · iapply (Transfers.pointsTo_toks_join fullShare 2)
      isplitl [Hi']; · iexact Hi'
      iexact Hi
    · iapply (Transfers.pointsTo_toks_join fullShare 2)
      isplitl [Hx']; · iexact Hx'
      iexact Hx
  isplitl [Hb] <;> iassumption

def fq (d : Dev nD) (s' : Phys nD τ sig (Elt F)) : Prop := s'.mem.mem (aLoc d) = m (aLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Hi, Hx⟩, HSI⟩
  ihave H := (persistent_entails_right (SI_pointsTo_agree (st := s') (ℓ := aLoc d) (I := Finset.univ) (q := fullShare) (f := m (aLoc d)))) $$ [HSI Hi]
  · isplitl [HSI] <;> iassumption
  icases H with ⟨%h1, HSI, -⟩
  ihave H := (SI_pointsTo_agree (st := s') (ℓ := bLoc d) (I := Finset.univ) (q := fullShare) (f := m (bLoc d))) $$ [HSI Hx]
  · isplitl [HSI] <;> iassumption
  icases H with %h2
  ipureintro; exact ⟨funext fun i => h1 i (Finset.mem_univ i), funext fun i => h2 i (Finset.mem_univ i)⟩

/-! ## The program's run and the claim -/

def QC : PUnit × MemSt nD τ sig (Elt F) → Prop := fun r => (∀ c : Dev nD, r.2.mem (aLoc c) = m (aLoc c) ∧ r.2.mem (bLoc c) = m (bLoc c)) ∧ r.2.sem = fun _ => 0

theorem run_main [∀ e, Nonempty (Elt F e)] :
    θ_run (Cert.Bin.defs (F := F)) (Cert.Bin.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- From any memory the histogram call runs, keeps its arguments and ends with every semaphore at zero. -/
theorem frame : Cert.quiescent_Bin := fun m ρ _ =>
  (θ_run Cert.Bin.defs _ _).mono (fun _ h => ⟨fun c => h.1 c, h.2⟩) (run_main (F := Bits) m ρ)

end Cert.Proof.BinCall

end
-- ==== Proof.BinIdealFrame.lean ====
/-
  The histogram call over the reals. No operation of this program is replaced on the way to the reals, so it is the same
  program read at another float format, and `run_main`, which holds at every format, runs it too. The equalities below say
  so; they hold by unfolding.
-/
module

public import proofs.«01_k».proof.Proof.BinFrame
public import proofs.«01_k».proof.Proof.Gen.BinIdeal

@[expose] public section

noncomputable section

namespace Cert.Proof.BinCall

open Idealize.ShloMosaic Idealize.SL.Sem

variable {F : FTy → Type} [FloatOps F]

/-- The two programs have the same tile body. -/
theorem kernel_ideal : Cert.BinIdeal.cc0_bin_dw (F := F) = Cert.Bin.cc0_bin_dw (F := F) := rfl

/-- They start the same threads. -/
theorem threads_ideal : Cert.BinIdeal.threads (F := F) = Cert.Bin.threads (F := F) := rfl

/-- Over the reals, from any memory, the histogram call runs, keeps its arguments and ends with every semaphore at zero. -/
theorem ideal_frame : Cert.quiescent_BinIdeal (hBinIdeal := Cert.BinIdeal.Gen.facts) := fun m ρ _ =>
  (θ_run Cert.BinIdeal.defs _ _).mono (fun _ h => ⟨fun c => h.1 c, h.2⟩) (run_main (F := Ideal) m ρ)

end Cert.Proof.BinCall

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Run
public import proofs.«01_k».proof.Proof.Algebraic
public import proofs.«01_k».proof.Proof.Gen.Bin
public import proofs.«01_k».proof.Proof.Gen.Bin.Skeleton
public import proofs.«01_k».proof.Proof.Gen.BinIdeal
public import proofs.«01_k».proof.Proof.Sums
public import proofs.«01_k».proof.Proof.BinFrame
public import proofs.«01_k».proof.Proof.BinIdealFrame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Sum.Gen.facts, Cert.SumIdeal.Gen.facts, Cert.SumReferenceIdeal.Gen.facts, Cert.Bin.Gen.facts, Cert.BinIdeal.Gen.facts,
  fun m ρ _ => Cert.Kernel.Gen.frame m ρ, fun m ρ _ => Cert.KernelIdeal.Gen.frame m ρ, fun m ρ _ => Cert.ReferenceIdeal.Gen.frame m ρ,
  fun m ρ _ => Cert.Sum.Gen.frame m ρ, fun m ρ _ => Cert.SumIdeal.Gen.frame m ρ, sumReference_frame,
  BinCall.frame, BinCall.ideal_frame, trivial, algebraic, trivial, sum_algebraic, trivial⟩

end Cert.Proof

end
